-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_VerbatimIdeal (m : (ℓ : Loc Cert.VerbatimIdeal.nD Cert.VerbatimIdeal.τ Cert.VerbatimIdeal.sig) → Buf (Elt Ideal) ℓ) : Prop :=
  True

def Pre_VerbatimIdeal_finite [hPre_finite : Cert.Pre_finite.Facts] (m : (ℓ : Loc Cert.VerbatimIdeal.nD Cert.VerbatimIdeal.τ Cert.VerbatimIdeal.sig) → Buf (Elt Ideal) ℓ) : Prop :=
  ∀ c : Dev Cert.VerbatimIdeal.nD,
    (Cert.Pre_finite.fn (F := Ideal) (m ((c.tc : Thread Cert.VerbatimIdeal.nD Cert.VerbatimIdeal.τ).loc Cert.VerbatimIdeal.main_arg0)) (m ((c.tc : Thread Cert.VerbatimIdeal.nD Cert.VerbatimIdeal.τ).loc Cert.VerbatimIdeal.main_arg1)) (m ((c.tc : Thread Cert.VerbatimIdeal.nD Cert.VerbatimIdeal.τ).loc Cert.VerbatimIdeal.main_arg2)) (m ((c.tc : Thread Cert.VerbatimIdeal.nD Cert.VerbatimIdeal.τ).loc Cert.VerbatimIdeal.main_arg3)) (m ((c.tc : Thread Cert.VerbatimIdeal.nD Cert.VerbatimIdeal.τ).loc Cert.VerbatimIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_VerbatimIdeal [hVerbatimIdeal : Cert.VerbatimIdeal.Facts] : Prop :=
  ∀ (m : (ℓ : Loc Cert.VerbatimIdeal.nD Cert.VerbatimIdeal.τ Cert.VerbatimIdeal.sig) → Buf (Elt Ideal) ℓ) (g : Dev Cert.VerbatimIdeal.nD → PrngReg), Pre_VerbatimIdeal m →
    θ_run (Cert.VerbatimIdeal.defs (F := Ideal)) (Cert.VerbatimIdeal.threads (F := Ideal)) ⟨m, fun _ => 0, g⟩ (fun r => (∀ c : Dev Cert.VerbatimIdeal.nD,
      r.2.mem ((c.tc : Thread Cert.VerbatimIdeal.nD Cert.VerbatimIdeal.τ).loc Cert.VerbatimIdeal.main_arg0) = m ((c.tc : Thread Cert.VerbatimIdeal.nD Cert.VerbatimIdeal.τ).loc Cert.VerbatimIdeal.main_arg0)
      ∧ r.2.mem ((c.tc : Thread Cert.VerbatimIdeal.nD Cert.VerbatimIdeal.τ).loc Cert.VerbatimIdeal.main_arg1) = m ((c.tc : Thread Cert.VerbatimIdeal.nD Cert.VerbatimIdeal.τ).loc Cert.VerbatimIdeal.main_arg1)
      ∧ r.2.mem ((c.tc : Thread Cert.VerbatimIdeal.nD Cert.VerbatimIdeal.τ).loc Cert.VerbatimIdeal.main_arg2) = m ((c.tc : Thread Cert.VerbatimIdeal.nD Cert.VerbatimIdeal.τ).loc Cert.VerbatimIdeal.main_arg2)
      ∧ r.2.mem ((c.tc : Thread Cert.VerbatimIdeal.nD Cert.VerbatimIdeal.τ).loc Cert.VerbatimIdeal.main_arg3) = m ((c.tc : Thread Cert.VerbatimIdeal.nD Cert.VerbatimIdeal.τ).loc Cert.VerbatimIdeal.main_arg3)
      ∧ r.2.mem ((c.tc : Thread Cert.VerbatimIdeal.nD Cert.VerbatimIdeal.τ).loc Cert.VerbatimIdeal.main_arg4) = m ((c.tc : Thread Cert.VerbatimIdeal.nD Cert.VerbatimIdeal.τ).loc Cert.VerbatimIdeal.main_arg4))
      ∧ r.2.sem = fun _ => 0)

def quiescent_VerbatimIdeal_pre_finite [hVerbatimIdeal : Cert.VerbatimIdeal.Facts] [hPre_finite : Cert.Pre_finite.Facts] : Prop :=
  ∀ (m : (ℓ : Loc Cert.VerbatimIdeal.nD Cert.VerbatimIdeal.τ Cert.VerbatimIdeal.sig) → Buf (Elt Ideal) ℓ) (g : Dev Cert.VerbatimIdeal.nD → PrngReg), Pre_VerbatimIdeal_finite m →
    θ_run (Cert.VerbatimIdeal.defs (F := Ideal)) (Cert.VerbatimIdeal.threads (F := Ideal)) ⟨m, fun _ => 0, g⟩ (fun r => (∀ c : Dev Cert.VerbatimIdeal.nD,
      r.2.mem ((c.tc : Thread Cert.VerbatimIdeal.nD Cert.VerbatimIdeal.τ).loc Cert.VerbatimIdeal.main_arg0) = m ((c.tc : Thread Cert.VerbatimIdeal.nD Cert.VerbatimIdeal.τ).loc Cert.VerbatimIdeal.main_arg0)
      ∧ r.2.mem ((c.tc : Thread Cert.VerbatimIdeal.nD Cert.VerbatimIdeal.τ).loc Cert.VerbatimIdeal.main_arg1) = m ((c.tc : Thread Cert.VerbatimIdeal.nD Cert.VerbatimIdeal.τ).loc Cert.VerbatimIdeal.main_arg1)
      ∧ r.2.mem ((c.tc : Thread Cert.VerbatimIdeal.nD Cert.VerbatimIdeal.τ).loc Cert.VerbatimIdeal.main_arg2) = m ((c.tc : Thread Cert.VerbatimIdeal.nD Cert.VerbatimIdeal.τ).loc Cert.VerbatimIdeal.main_arg2)
      ∧ r.2.mem ((c.tc : Thread Cert.VerbatimIdeal.nD Cert.VerbatimIdeal.τ).loc Cert.VerbatimIdeal.main_arg3) = m ((c.tc : Thread Cert.VerbatimIdeal.nD Cert.VerbatimIdeal.τ).loc Cert.VerbatimIdeal.main_arg3)
      ∧ r.2.mem ((c.tc : Thread Cert.VerbatimIdeal.nD Cert.VerbatimIdeal.τ).loc Cert.VerbatimIdeal.main_arg4) = m ((c.tc : Thread Cert.VerbatimIdeal.nD Cert.VerbatimIdeal.τ).loc Cert.VerbatimIdeal.main_arg4))
      ∧ r.2.sem = fun _ => 0)

def preserves_Kernel_KernelIdeal : Prop :=
  IdealRules.named_const.Statement Cert.KernelIdeal.κ "taken" .f32 0x71C9F2CA#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def algebraic_VerbatimIdeal_ReferenceIdeal_pre_finite [hVerbatimIdeal : Cert.VerbatimIdeal.Facts] [hReferenceIdeal : Cert.ReferenceIdeal.Facts] [hPre_finite : Cert.Pre_finite.Facts] : Prop :=
  ∀ (m : (ℓ : Loc Cert.VerbatimIdeal.nD Cert.VerbatimIdeal.τ Cert.VerbatimIdeal.sig) → Buf (Elt Ideal) ℓ) (g : Dev Cert.VerbatimIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_VerbatimIdeal_finite m →
    (∀ c : Dev Cert.VerbatimIdeal.nD,
      m' ((c.tc : Thread Cert.ReferenceIdeal.nD Cert.ReferenceIdeal.τ).loc Cert.ReferenceIdeal.main_arg0) = m ((c.tc : Thread Cert.VerbatimIdeal.nD Cert.VerbatimIdeal.τ).loc Cert.VerbatimIdeal.main_arg0)
      ∧ m' ((c.tc : Thread Cert.ReferenceIdeal.nD Cert.ReferenceIdeal.τ).loc Cert.ReferenceIdeal.main_arg1) = m ((c.tc : Thread Cert.VerbatimIdeal.nD Cert.VerbatimIdeal.τ).loc Cert.VerbatimIdeal.main_arg1)
      ∧ m' ((c.tc : Thread Cert.ReferenceIdeal.nD Cert.ReferenceIdeal.τ).loc Cert.ReferenceIdeal.main_arg2) = m ((c.tc : Thread Cert.VerbatimIdeal.nD Cert.VerbatimIdeal.τ).loc Cert.VerbatimIdeal.main_arg2)
      ∧ m' ((c.tc : Thread Cert.ReferenceIdeal.nD Cert.ReferenceIdeal.τ).loc Cert.ReferenceIdeal.main_arg3) = m ((c.tc : Thread Cert.VerbatimIdeal.nD Cert.VerbatimIdeal.τ).loc Cert.VerbatimIdeal.main_arg3)
      ∧ m' ((c.tc : Thread Cert.ReferenceIdeal.nD Cert.ReferenceIdeal.τ).loc Cert.ReferenceIdeal.main_arg4) = m ((c.tc : Thread Cert.VerbatimIdeal.nD Cert.VerbatimIdeal.τ).loc Cert.VerbatimIdeal.main_arg4)) →
    ∃ (v0 : (c : Dev Cert.VerbatimIdeal.nD) → Buf (Elt Ideal) ((c.tc : Thread Cert.VerbatimIdeal.nD Cert.VerbatimIdeal.τ).loc Cert.VerbatimIdeal.main_v5)),
      θ_run (Cert.VerbatimIdeal.defs (F := Ideal)) (Cert.VerbatimIdeal.threads (F := Ideal)) ⟨m, fun _ => 0, g⟩ (fun r => ∀ c : Dev Cert.VerbatimIdeal.nD,
          r.2.mem ((c.tc : Thread Cert.VerbatimIdeal.nD Cert.VerbatimIdeal.τ).loc Cert.VerbatimIdeal.main_v5) = v0 c
          ∧ r.2.mem ((c.tc : Thread Cert.VerbatimIdeal.nD Cert.VerbatimIdeal.τ).loc Cert.VerbatimIdeal.main_arg0) = m ((c.tc : Thread Cert.VerbatimIdeal.nD Cert.VerbatimIdeal.τ).loc Cert.VerbatimIdeal.main_arg0)
          ∧ r.2.mem ((c.tc : Thread Cert.VerbatimIdeal.nD Cert.VerbatimIdeal.τ).loc Cert.VerbatimIdeal.main_arg1) = m ((c.tc : Thread Cert.VerbatimIdeal.nD Cert.VerbatimIdeal.τ).loc Cert.VerbatimIdeal.main_arg1)
          ∧ r.2.mem ((c.tc : Thread Cert.VerbatimIdeal.nD Cert.VerbatimIdeal.τ).loc Cert.VerbatimIdeal.main_arg2) = m ((c.tc : Thread Cert.VerbatimIdeal.nD Cert.VerbatimIdeal.τ).loc Cert.VerbatimIdeal.main_arg2)
          ∧ r.2.mem ((c.tc : Thread Cert.VerbatimIdeal.nD Cert.VerbatimIdeal.τ).loc Cert.VerbatimIdeal.main_arg3) = m ((c.tc : Thread Cert.VerbatimIdeal.nD Cert.VerbatimIdeal.τ).loc Cert.VerbatimIdeal.main_arg3)
          ∧ r.2.mem ((c.tc : Thread Cert.VerbatimIdeal.nD Cert.VerbatimIdeal.τ).loc Cert.VerbatimIdeal.main_arg4) = m ((c.tc : Thread Cert.VerbatimIdeal.nD Cert.VerbatimIdeal.τ).loc Cert.VerbatimIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hVerbatimIdeal : Cert.VerbatimIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_VerbatimIdeal (hVerbatimIdeal := hVerbatimIdeal)
    ∧ quiescent_VerbatimIdeal_pre_finite (hVerbatimIdeal := hVerbatimIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
    ∧ algebraic_VerbatimIdeal_ReferenceIdeal_pre_finite (hVerbatimIdeal := hVerbatimIdeal) (hReferenceIdeal := hReferenceIdeal) (hPre_finite := hPre_finite)
-- ==== Pre_finite.lean ====
abbrev S1 : Shape := ⟨1, ![1]⟩
abbrev S4096x2 : Shape := ⟨2, ![4096, 2]⟩
abbrev S6x8 : Shape := ⟨2, ![6, 8]⟩
abbrev S8 : Shape := ⟨1, ![8]⟩
abbrev S_ : Shape := ⟨0, ![]⟩

class Facts : Prop where
  bcast_S_S4096x2 : S_.BroadcastsInDim S4096x2 (![] : Fin 0 → Fin S4096x2.rank)
  reducesTo_S4096x2_S_d0_1 : S4096x2.ReducesTo [0, 1] S_
  h_S_ : 0 < S_.numel

variable [Facts]

def fn {F : FTy → Type} [FloatOps F] (main_arg0 : FVec F S1 .f32) (main_arg1 : FVec F S4096x2 .f32) (main_arg2 : FVec F S4096x2 .f32) (main_arg3 : FVec F S6x8 .f32) (main_arg4 : FVec F S8 .f32) : IVec S_ 1 :=
  let main_v0 : FVec F S4096x2 .f32 := Host.absf main_arg2
  let main_cst : FVec F S_ .f32 := constant S_ .f32 0x7F800000#32
  let main_v1 : FVec F S4096x2 .f32 := broadcastInDim S4096x2 ![] bcast_S_S4096x2 main_cst
  let main_v2 : IVec S4096x2 1 := cmpf .olt main_v0 main_v1
  let main_c : IVec S_ 1 := constantI S_ 1 1#1
  let main_v3 : IVec S_ 1 := (fun x v => Host.reduce IntOp.andi x v reducesTo_S4096x2_S_d0_1 h_S_) main_v2 main_c
  main_v3
-- ==== Kernel.lean ====
abbrev S1 : Shape := ⟨1, ![1]⟩
abbrev S4096x2 : Shape := ⟨2, ![4096, 2]⟩
abbrev S6x8 : Shape := ⟨2, ![6, 8]⟩
abbrev S8 : Shape := ⟨1, ![8]⟩
abbrev S2x4096 : Shape := ⟨2, ![2, 4096]⟩
abbrev S4096x8 : Shape := ⟨2, ![4096, 8]⟩
abbrev S512x2 : Shape := ⟨2, ![512, 2]⟩
abbrev S512x8 : Shape := ⟨2, ![512, 8]⟩
abbrev S1x4096 : Shape := ⟨2, ![1, 4096]⟩
abbrev S512x1 : Shape := ⟨2, ![512, 1]⟩
abbrev S512x4096 : Shape := ⟨2, ![512, 4096]⟩
abbrev S512 : Shape := ⟨1, ![512]⟩
abbrev S32768 : Shape := ⟨1, ![32768]⟩
abbrev S48 : Shape := ⟨1, ![48]⟩
abbrev S4096x64 : Shape := ⟨2, ![4096, 64]⟩
abbrev S1024 : Shape := ⟨1, ![1024]⟩
abbrev S4096 : Shape := ⟨1, ![4096]⟩
abbrev S64 : Shape := ⟨1, ![64]⟩
abbrev S128x64 : Shape := ⟨2, ![128, 64]⟩
abbrev S_ : Shape := ⟨0, ![]⟩
abbrev S16 : Shape := ⟨1, ![16]⟩

abbrev nBuf : Table → Nat
  | .hbm => 12
  | .local .tc .vmem => 7
  | .local .scVector .vmem => 7
  | _ => 0

abbrev bufTy : (tb : Table) → Fin (nBuf tb) → BufTy
  | .hbm, ⟨0, _⟩ => ⟨S1, .f32⟩
  | .hbm, ⟨1, _⟩ => ⟨S4096x2, .f32⟩
  | .hbm, ⟨2, _⟩ => ⟨S4096x2, .f32⟩
  | .hbm, ⟨3, _⟩ => ⟨S6x8, .f32⟩
  | .hbm, ⟨4, _⟩ => ⟨S8, .f32⟩
  | .hbm, ⟨5, _⟩ => ⟨S2x4096, .f32⟩
  | .hbm, ⟨6, _⟩ => ⟨S2x4096, .f32⟩
  | .hbm, ⟨7, _⟩ => ⟨S4096x8, .i32⟩
  | .hbm, ⟨8, _⟩ => ⟨S2x4096, .f32⟩
  | .hbm, ⟨9, _⟩ => ⟨S32768, .i32⟩
  | .hbm, ⟨10, _⟩ => ⟨S48, .f32⟩
  | .hbm, ⟨11, _⟩ => ⟨S4096x64, .f32⟩
  | .local .tc .vmem, ⟨0, _⟩ => ⟨S512x2, .f32⟩
  | .local .tc .vmem, ⟨1, _⟩ => ⟨S512x2, .f32⟩
  | .local .tc .vmem, ⟨2, _⟩ => ⟨S2x4096, .f32⟩
  | .local .tc .vmem, ⟨3, _⟩ => ⟨S2x4096, .f32⟩
  | .local .tc .vmem, ⟨4, _⟩ => ⟨S512x8, .i32⟩
  | .local .tc .vmem, ⟨5, _⟩ => ⟨S512x8, .i32⟩
  | .local .tc .vmem, ⟨6, _⟩ => ⟨S2x4096, .f32⟩
  | .local .scVector .vmem, ⟨0, _⟩ => ⟨S1024, .i32⟩
  | .local .scVector .vmem, ⟨1, _⟩ => ⟨S4096, .f32⟩
  | .local .scVector .vmem, ⟨2, _⟩ => ⟨S4096, .f32⟩
  | .local .scVector .vmem, ⟨3, _⟩ => ⟨S4096, .f32⟩
  | .local .scVector .vmem, ⟨4, _⟩ => ⟨S4096, .f32⟩
  | .local .scVector .vmem, ⟨5, _⟩ => ⟨S64, .f32⟩
  | .local .scVector .vmem, ⟨6, _⟩ => ⟨S128x64, .f32⟩
  | _, _ => ⟨S1, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v3_scv : Ref sig .scVector := ⟨.hbm, 9, rfl⟩
abbrev main_v0_scv : Ref sig .scVector := ⟨.hbm, 5, rfl⟩
abbrev main_v2_1_scv : Ref sig .scVector := ⟨.hbm, 8, rfl⟩
abbrev main_v4_scv : Ref sig .scVector := ⟨.hbm, 10, rfl⟩
abbrev main_arg4_scv : Ref sig .scVector := ⟨.hbm, 4, rfl⟩
abbrev main_v5_scv : Ref sig .scVector := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v3 : BitVec 32 := Scalar.muli v1 c1024_i32
  ![v3.toNat]
@[reducible] def k1_t1_loop : Scf.Loop 32 :=
  let c0_i32_3 : BitVec 32 := 0#32
  let c64_i32 : BitVec 32 := 64#32
  let v137 : BitVec 32 := Scalar.addi c0_i32_3 c64_i32
  let c1_i32_4 : BitVec 32 := 1#32
  ⟨c0_i32_3, v137, c1_i32_4⟩
def k1_off2 (k1_t1 : Fin k1_t1_loop.trips) : Fin 1 → Nat :=
  let c0_i32_3 : BitVec 32 := 0#32
  let c1_i32_4 : BitVec 32 := 1#32
  let arg15 : BitVec 32 := Scf.iv c0_i32_3 c1_i32_4 k1_t1
  let c16_i32 : BitVec 32 := 16#32
  let v138 : BitVec 32 := Scalar.muli arg15 c16_i32
  let v139 : Index := Scalar.indexCast v138
  ![v139.toNat]

def k1_chk1 (v140 : IVec S16 32) : Prop :=
  (∀ a x, ((![v140] : Fin 1 → IVec S16 32) a x).toNat < S4096.size a) ∧
  (∀ a x, ((![v140] : Fin 1 → IVec S16 32) a x).toNat < S4096.size a) ∧
  (∀ a x, ((![v140] : Fin 1 → IVec S16 32) a x).toNat < S4096.size a) ∧
  (∀ a x, ((![v140] : Fin 1 → IVec S16 32) a x).toNat < S4096.size a)
theorem k1_idx1_inb : ∀ (v140 : IVec S16 32) (k1_hw1 : k1_chk1 v140), ∀ a x, ((![v140] : Fin 1 → IVec S16 32) a x).toNat < S4096.size a := fun v140 k1_hw1 => k1_hw1.1
theorem k1_idx2_inb : ∀ (v140 : IVec S16 32) (k1_hw1 : k1_chk1 v140), ∀ a x, ((![v140] : Fin 1 → IVec S16 32) a x).toNat < S4096.size a := fun v140 k1_hw1 => k1_hw1.2.1
theorem k1_idx5_inb : ∀ (v140 : IVec S16 32) (k1_hw1 : k1_chk1 v140), ∀ a x, ((![v140] : Fin 1 → IVec S16 32) a x).toNat < S4096.size a := fun v140 k1_hw1 => k1_hw1.2.2.1
theorem k1_idx6_inb : ∀ (v140 : IVec S16 32) (k1_hw1 : k1_chk1 v140), ∀ a x, ((![v140] : Fin 1 → IVec S16 32) a x).toNat < S4096.size a := fun v140 k1_hw1 => k1_hw1.2.2.2

def k1_chk2 (v145 : IVec S16 32) : Prop :=
  (∀ a x, ((![v145] : Fin 1 → IVec S16 32) a x).toNat < S4096.size a) ∧
  (∀ a x, ((![v145] : Fin 1 → IVec S16 32) a x).toNat < S4096.size a) ∧
  (∀ a x, ((![v145] : Fin 1 → IVec S16 32) a x).toNat < S4096.size a) ∧
  (∀ a x, ((![v145] : Fin 1 → IVec S16 32) a x).toNat < S4096.size a)
theorem k1_idx3_inb : ∀ (v145 : IVec S16 32) (k1_hw2 : k1_chk2 v145), ∀ a x, ((![v145] : Fin 1 → IVec S16 32) a x).toNat < S4096.size a := fun v145 k1_hw2 => k1_hw2.1
theorem k1_idx4_inb : ∀ (v145 : IVec S16 32) (k1_hw2 : k1_chk2 v145), ∀ a x, ((![v145] : Fin 1 → IVec S16 32) a x).toNat < S4096.size a := fun v145 k1_hw2 => k1_hw2.2.1
theorem k1_idx7_inb : ∀ (v145 : IVec S16 32) (k1_hw2 : k1_chk2 v145), ∀ a x, ((![v145] : Fin 1 → IVec S16 32) a x).toNat < S4096.size a := fun v145 k1_hw2 => k1_hw2.2.2.1
theorem k1_idx8_inb : ∀ (v145 : IVec S16 32) (k1_hw2 : k1_chk2 v145), ∀ a x, ((![v145] : Fin 1 → IVec S16 32) a x).toNat < S4096.size a := fun v145 k1_hw2 => k1_hw2.2.2.2

def k1_chk3 (v159 : IVec S16 32) (v180 : IVec S16 32) : Prop :=
  (∀ a x, ((![v159, v180] : Fin 2 → IVec S16 32) a x).toNat < S128x64.size a)
theorem k1_idx9_inb : ∀ (v159 : IVec S16 32) (v180 : IVec S16 32) (k1_hw3 : k1_chk3 v159 v180), ∀ a x, ((![v159, v180] : Fin 2 → IVec S16 32) a x).toNat < S128x64.size a := fun v159 v180 k1_hw3 => k1_hw3

def k1_chk4 (v159 : IVec S16 32) (v197 : IVec S16 32) : Prop :=
  (∀ a x, ((![v159, v197] : Fin 2 → IVec S16 32) a x).toNat < S128x64.size a)
theorem k1_idx10_inb : ∀ (v159 : IVec S16 32) (v197 : IVec S16 32) (k1_hw4 : k1_chk4 v159 v197), ∀ a x, ((![v159, v197] : Fin 2 → IVec S16 32) a x).toNat < S128x64.size a := fun v159 v197 k1_hw4 => k1_hw4

def k1_chk5 (v159 : IVec S16 32) (v214 : IVec S16 32) : Prop :=
  (∀ a x, ((![v159, v214] : Fin 2 → IVec S16 32) a x).toNat < S128x64.size a)
theorem k1_idx11_inb : ∀ (v159 : IVec S16 32) (v214 : IVec S16 32) (k1_hw5 : k1_chk5 v159 v214), ∀ a x, ((![v159, v214] : Fin 2 → IVec S16 32) a x).toNat < S128x64.size a := fun v159 v214 k1_hw5 => k1_hw5

def k1_chk6 (v159 : IVec S16 32) (v231 : IVec S16 32) : Prop :=
  (∀ a x, ((![v159, v231] : Fin 2 → IVec S16 32) a x).toNat < S128x64.size a)
theorem k1_idx12_inb : ∀ (v159 : IVec S16 32) (v231 : IVec S16 32) (k1_hw6 : k1_chk6 v159 v231), ∀ a x, ((![v159, v231] : Fin 2 → IVec S16 32) a x).toNat < S128x64.size a := fun v159 v231 k1_hw6 => k1_hw6

def k1_chk7 (v159 : IVec S16 32) (v248 : IVec S16 32) : Prop :=
  (∀ a x, ((![v159, v248] : Fin 2 → IVec S16 32) a x).toNat < S128x64.size a)
theorem k1_idx13_inb : ∀ (v159 : IVec S16 32) (v248 : IVec S16 32) (k1_hw7 : k1_chk7 v159 v248), ∀ a x, ((![v159, v248] : Fin 2 → IVec S16 32) a x).toNat < S128x64.size a := fun v159 v248 k1_hw7 => k1_hw7

def k1_chk8 (v159 : IVec S16 32) (v265 : IVec S16 32) : Prop :=
  (∀ a x, ((![v159, v265] : Fin 2 → IVec S16 32) a x).toNat < S128x64.size a)
theorem k1_idx14_inb : ∀ (v159 : IVec S16 32) (v265 : IVec S16 32) (k1_hw8 : k1_chk8 v159 v265), ∀ a x, ((![v159, v265] : Fin 2 → IVec S16 32) a x).toNat < S128x64.size a := fun v159 v265 k1_hw8 => k1_hw8

def k1_chk9 (v159 : IVec S16 32) (v282 : IVec S16 32) : Prop :=
  (∀ a x, ((![v159, v282] : Fin 2 → IVec S16 32) a x).toNat < S128x64.size a)
theorem k1_idx15_inb : ∀ (v159 : IVec S16 32) (v282 : IVec S16 32) (k1_hw9 : k1_chk9 v159 v282), ∀ a x, ((![v159, v282] : Fin 2 → IVec S16 32) a x).toNat < S128x64.size a := fun v159 v282 k1_hw9 => k1_hw9

def k1_chk10 (v159 : IVec S16 32) (v299 : IVec S16 32) : Prop :=
  (∀ a x, ((![v159, v299] : Fin 2 → IVec S16 32) a x).toNat < S128x64.size a)
theorem k1_idx16_inb : ∀ (v159 : IVec S16 32) (v299 : IVec S16 32) (k1_hw10 : k1_chk10 v159 v299), ∀ a x, ((![v159, v299] : Fin 2 → IVec S16 32) a x).toNat < S128x64.size a := fun v159 v299 k1_hw10 => k1_hw10
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_6_r7 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "taken" => some ⊤
  | _ => none
-- ==== ReferenceIdeal.lean ====
abbrev S1 : Shape := ⟨1, ![1]⟩
abbrev S4096x2 : Shape := ⟨2, ![4096, 2]⟩
abbrev S6x8 : Shape := ⟨2, ![6, 8]⟩
abbrev S8 : Shape := ⟨1, ![8]⟩
abbrev S1x4096x2 : Shape := ⟨3, ![1, 4096, 2]⟩
abbrev S4096x1x2 : Shape := ⟨3, ![4096, 1, 2]⟩
abbrev S4096x4096x2 : Shape := ⟨3, ![4096, 4096, 2]⟩
abbrev S4096x4096x1 : Shape := ⟨3, ![4096, 4096, 1]⟩
abbrev S4096x4096 : Shape := ⟨2, ![4096, 4096]⟩
abbrev S_ : Shape := ⟨0, ![]⟩
abbrev S4096x8 : Shape := ⟨2, ![4096, 8]⟩
abbrev S4096x8x1 : Shape := ⟨3, ![4096, 8, 1]⟩
abbrev S1x1x1 : Shape := ⟨3, ![1, 1, 1]⟩
abbrev S4096x8x2 : Shape := ⟨3, ![4096, 8, 2]⟩
abbrev S4096x8x6 : Shape := ⟨3, ![4096, 8, 6]⟩
abbrev S4096x8x8 : Shape := ⟨3, ![4096, 8, 8]⟩
abbrev S1x1x8 : Shape := ⟨3, ![1, 1, 8]⟩
abbrev S4096x64 : Shape := ⟨2, ![4096, 64]⟩

abbrev nBuf : Space → Nat
  | .hbm => 96
  | .vmem => 0
  | .smem => 0
  | _ => 0

abbrev bufTy : (tb : Table) → Fin (tcTables nBuf tb) → BufTy
  | .hbm, ⟨0, _⟩ => ⟨S1, .f32⟩
  | .hbm, ⟨1, _⟩ => ⟨S4096x2, .f32⟩
  | .hbm, ⟨2, _⟩ => ⟨S4096x2, .f32⟩
  | .hbm, ⟨3, _⟩ => ⟨S6x8, .f32⟩
  | .hbm, ⟨4, _⟩ => ⟨S8, .f32⟩
  | .hbm, ⟨5, _⟩ => ⟨S4096x2, .f32⟩
  | .hbm, ⟨6, _⟩ => ⟨S1x4096x2, .f32⟩
  | .hbm, ⟨7, _⟩ => ⟨S4096x1x2, .f32⟩
  | .hbm, ⟨8, _⟩ => ⟨S4096x4096x2, .f32⟩
  | .hbm, ⟨9, _⟩ => ⟨S4096x4096x2, .f32⟩
  | .hbm, ⟨10, _⟩ => ⟨S4096x4096x2, .f32⟩
  | .hbm, ⟨11, _⟩ => ⟨S1x4096x2, .f32⟩
  | .hbm, ⟨12, _⟩ => ⟨S4096x1x2, .f32⟩
  | .hbm, ⟨13, _⟩ => ⟨S4096x4096x2, .f32⟩
  | .hbm, ⟨14, _⟩ => ⟨S4096x4096x2, .f32⟩
  | .hbm, ⟨15, _⟩ => ⟨S4096x4096x2, .f32⟩
  | .hbm, ⟨16, _⟩ => ⟨S4096x4096x1, .f32⟩
  | .hbm, ⟨17, _⟩ => ⟨S4096x4096, .f32⟩
  | .hbm, ⟨18, _⟩ => ⟨S4096x4096, .f32⟩
  | .hbm, ⟨19, _⟩ => ⟨S4096x4096x1, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .i32⟩
  | .hbm, ⟨28, _⟩ => ⟨S4096x4096, .i32⟩
  | .hbm, ⟨29, _⟩ => ⟨S_, .i32⟩
  | .hbm, ⟨30, _⟩ => ⟨S4096x4096, .i32⟩
  | .hbm, ⟨31, _⟩ => ⟨S4096x4096, .i32⟩
  | .hbm, ⟨32, _⟩ => ⟨S4096x4096, .i1⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x8, .f32⟩
  | .hbm, ⟨38, _⟩ => ⟨S4096x8, .i32⟩
  | .hbm, ⟨39, _⟩ => ⟨S4096x8x1, .i32⟩
  | .hbm, ⟨40, _⟩ => ⟨S_, .i32⟩
  | .hbm, ⟨41, _⟩ => ⟨S4096x8x1, .i32⟩
  | .hbm, ⟨42, _⟩ => ⟨S4096x8x1, .i1⟩
  | .hbm, ⟨43, _⟩ => ⟨S_, .i32⟩
  | .hbm, ⟨44, _⟩ => ⟨S4096x8x1, .i32⟩
  | .hbm, ⟨45, _⟩ => ⟨S4096x8x1, .i32⟩
  | .hbm, ⟨46, _⟩ => ⟨S4096x8x1, .i32⟩
  | .hbm, ⟨47, _⟩ => ⟨S1, .i32⟩
  | .hbm, ⟨48, _⟩ => ⟨S_, .i32⟩
  | .hbm, ⟨49, _⟩ => ⟨S4096x8x1, .i32⟩
  | .hbm, ⟨50, _⟩ => ⟨S4096x8x1, .i1⟩
  | .hbm, ⟨51, _⟩ => ⟨S1x1x1, .i32⟩
  | .hbm, ⟨52, _⟩ => ⟨S4096x8x1, .i32⟩
  | .hbm, ⟨53, _⟩ => ⟨S4096x8x1, .i1⟩
  | .hbm, ⟨54, _⟩ => ⟨S4096x8x1, .i1⟩
  | .hbm, ⟨55, _⟩ => ⟨S_, .i1⟩
  | .hbm, ⟨56, _⟩ => ⟨S4096x8, .i1⟩
  | .hbm, ⟨57, _⟩ => ⟨S4096x8x2, .f32⟩
  | .hbm, ⟨58, _⟩ => ⟨S4096x8x2, .i1⟩
  | .hbm, ⟨59, _⟩ => ⟨S_, .f32⟩
  | .hbm, ⟨60, _⟩ => ⟨S4096x8x2, .f32⟩
  | .hbm, ⟨61, _⟩ => ⟨S4096x8x2, .f32⟩
  | .hbm, ⟨62, _⟩ => ⟨S4096x8x1, .i32⟩
  | .hbm, ⟨63, _⟩ => ⟨S_, .i32⟩
  | .hbm, ⟨64, _⟩ => ⟨S4096x8x1, .i32⟩
  | .hbm, ⟨65, _⟩ => ⟨S4096x8x1, .i1⟩
  | .hbm, ⟨66, _⟩ => ⟨S_, .i32⟩
  | .hbm, ⟨67, _⟩ => ⟨S4096x8x1, .i32⟩
  | .hbm, ⟨68, _⟩ => ⟨S4096x8x1, .i32⟩
  | .hbm, ⟨69, _⟩ => ⟨S4096x8x1, .i32⟩
  | .hbm, ⟨70, _⟩ => ⟨S1, .i32⟩
  | .hbm, ⟨71, _⟩ => ⟨S_, .i32⟩
  | .hbm, ⟨72, _⟩ => ⟨S4096x8x1, .i32⟩
  | .hbm, ⟨73, _⟩ => ⟨S4096x8x1, .i1⟩
  | .hbm, ⟨74, _⟩ => ⟨S1x1x1, .i32⟩
  | .hbm, ⟨75, _⟩ => ⟨S4096x8x1, .i32⟩
  | .hbm, ⟨76, _⟩ => ⟨S4096x8x1, .i1⟩
  | .hbm, ⟨77, _⟩ => ⟨S4096x8x1, .i1⟩
  | .hbm, ⟨78, _⟩ => ⟨S_, .i1⟩
  | .hbm, ⟨79, _⟩ => ⟨S4096x8, .i1⟩
  | .hbm, ⟨80, _⟩ => ⟨S4096x8x2, .f32⟩
  | .hbm, ⟨81, _⟩ => ⟨S4096x8x2, .i1⟩
  | .hbm, ⟨82, _⟩ => ⟨S_, .f32⟩
  | .hbm, ⟨83, _⟩ => ⟨S4096x8x2, .f32⟩
  | .hbm, ⟨84, _⟩ => ⟨S4096x8x2, .f32⟩
  | .hbm, ⟨85, _⟩ => ⟨S_, .f32⟩
  | .hbm, ⟨86, _⟩ => ⟨S4096x8x1, .f32⟩
  | .hbm, ⟨87, _⟩ => ⟨S4096x8x6, .f32⟩
  | .hbm, ⟨88, _⟩ => ⟨S4096x8x8, .f32⟩
  | .hbm, ⟨89, _⟩ => ⟨S1x1x8, .f32⟩
  | .hbm, ⟨90, _⟩ => ⟨S4096x8x8, .f32⟩
  | .hbm, ⟨91, _⟩ => ⟨S4096x8x8, .f32⟩
  | .hbm, ⟨92, _⟩ => ⟨S_, .f32⟩
  | .hbm, ⟨93, _⟩ => ⟨S4096x8x8, .f32⟩
  | .hbm, ⟨94, _⟩ => ⟨S4096x8x8, .f32⟩
  | .hbm, ⟨95, _⟩ => ⟨S4096x64, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_call0_v0 : Ref sig .tc := ⟨.hbm, 34, rfl⟩
abbrev main_v26 : Ref sig .tc := ⟨.hbm, 35, rfl⟩
abbrev main_v27 : Ref sig .tc := ⟨.hbm, 36, rfl⟩
abbrev main_values : Ref sig .tc := ⟨.hbm, 37, rfl⟩
abbrev main_indices : Ref sig .tc := ⟨.hbm, 38, rfl⟩
abbrev main_v28 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_c_1 : Ref sig .tc := ⟨.hbm, 47, rfl⟩
abbrev main_call1_c_2 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_c_3 : Ref sig .tc := ⟨.hbm, 55, rfl⟩
abbrev main_call1_v11 : Ref sig .tc := ⟨.hbm, 56, rfl⟩
abbrev main_call1_v12 : Ref sig .tc := ⟨.hbm, 57, rfl⟩
abbrev main_call1_v13 : Ref sig .tc := ⟨.hbm, 58, rfl⟩
abbrev main_call1_cst : Ref sig .tc := ⟨.hbm, 59, rfl⟩
abbrev main_call1_v14 : Ref sig .tc := ⟨.hbm, 60, rfl⟩
abbrev main_v29 : Ref sig .tc := ⟨.hbm, 61, rfl⟩
abbrev main_v30 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_c_1 : Ref sig .tc := ⟨.hbm, 70, rfl⟩
abbrev main_call2_c_2 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_c_3 : Ref sig .tc := ⟨.hbm, 78, rfl⟩
abbrev main_call2_v11 : Ref sig .tc := ⟨.hbm, 79, rfl⟩
abbrev main_call2_v12 : Ref sig .tc := ⟨.hbm, 80, rfl⟩
abbrev main_call2_v13 : Ref sig .tc := ⟨.hbm, 81, rfl⟩
abbrev main_call2_cst : Ref sig .tc := ⟨.hbm, 82, rfl⟩
abbrev main_call2_v14 : Ref sig .tc := ⟨.hbm, 83, rfl⟩
abbrev main_v31 : Ref sig .tc := ⟨.hbm, 84, rfl⟩
abbrev main_cst_1 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_call3_cst : Ref sig .tc := ⟨.hbm, 92, rfl⟩
abbrev main_call3_v0 : Ref sig .tc := ⟨.hbm, 93, rfl⟩
abbrev main_v38 : Ref sig .tc := ⟨.hbm, 94, rfl⟩
abbrev main_v39 : Ref sig .tc := ⟨.hbm, 95, rfl⟩

abbrev nD : Nat := 1
abbrev τ : Topo := Topo.v7x

variable {F : FTy → Type} [FloatOps F]
-- ==== VerbatimIdeal.lean ====
abbrev S1 : Shape := ⟨1, ![1]⟩
abbrev S4096x2 : Shape := ⟨2, ![4096, 2]⟩
abbrev S6x8 : Shape := ⟨2, ![6, 8]⟩
abbrev S8 : Shape := ⟨1, ![8]⟩
abbrev S2x4096 : Shape := ⟨2, ![2, 4096]⟩
abbrev S4096x8 : Shape := ⟨2, ![4096, 8]⟩
abbrev S512x2 : Shape := ⟨2, ![512, 2]⟩
abbrev S512x8 : Shape := ⟨2, ![512, 8]⟩
abbrev S1x4096 : Shape := ⟨2, ![1, 4096]⟩
abbrev S512x1 : Shape := ⟨2, ![512, 1]⟩
abbrev S512x4096 : Shape := ⟨2, ![512, 4096]⟩
abbrev S512 : Shape := ⟨1, ![512]⟩
abbrev S32768 : Shape := ⟨1, ![32768]⟩
abbrev S48 : Shape := ⟨1, ![48]⟩
abbrev S4096x64 : Shape := ⟨2, ![4096, 64]⟩
abbrev S1024 : Shape := ⟨1, ![1024]⟩
abbrev S4096 : Shape := ⟨1, ![4096]⟩
abbrev S64 : Shape := ⟨1, ![64]⟩
abbrev S128x64 : Shape := ⟨2, ![128, 64]⟩
abbrev S_ : Shape := ⟨0, ![]⟩
abbrev S16 : Shape := ⟨1, ![16]⟩

abbrev nBuf : Table → Nat
  | .hbm => 12
  | .local .tc .vmem => 7
  | .local .scVector .vmem => 7
  | _ => 0

abbrev bufTy : (tb : Table) → Fin (nBuf tb) → BufTy
  | .hbm, ⟨0, _⟩ => ⟨S1, .f32⟩
  | .hbm, ⟨1, _⟩ => ⟨S4096x2, .f32⟩
  | .hbm, ⟨2, _⟩ => ⟨S4096x2, .f32⟩
  | .hbm, ⟨3, _⟩ => ⟨S6x8, .f32⟩
  | .hbm, ⟨4, _⟩ => ⟨S8, .f32⟩
  | .hbm, ⟨5, _⟩ => ⟨S2x4096, .f32⟩
  | .hbm, ⟨6, _⟩ => ⟨S2x4096, .f32⟩
  | .hbm, ⟨7, _⟩ => ⟨S4096x8, .i32⟩
  | .hbm, ⟨8, _⟩ => ⟨S2x4096, .f32⟩
  | .hbm, ⟨9, _⟩ => ⟨S32768, .i32⟩
  | .hbm, ⟨10, _⟩ => ⟨S48, .f32⟩
  | .hbm, ⟨11, _⟩ => ⟨S4096x64, .f32⟩
  | .local .tc .vmem, ⟨0, _⟩ => ⟨S512x2, .f32⟩
  | .local .tc .vmem, ⟨1, _⟩ => ⟨S512x2, .f32⟩
  | .local .tc .vmem, ⟨2, _⟩ => ⟨S2x4096, .f32⟩
  | .local .tc .vmem, ⟨3, _⟩ => ⟨S2x4096, .f32⟩
  | .local .tc .vmem, ⟨4, _⟩ => ⟨S512x8, .i32⟩
  | .local .tc .vmem, ⟨5, _⟩ => ⟨S512x8, .i32⟩
  | .local .tc .vmem, ⟨6, _⟩ => ⟨S2x4096, .f32⟩
  | .local .scVector .vmem, ⟨0, _⟩ => ⟨S1024, .i32⟩
  | .local .scVector .vmem, ⟨1, _⟩ => ⟨S4096, .f32⟩
  | .local .scVector .vmem, ⟨2, _⟩ => ⟨S4096, .f32⟩
  | .local .scVector .vmem, ⟨3, _⟩ => ⟨S4096, .f32⟩
  | .local .scVector .vmem, ⟨4, _⟩ => ⟨S4096, .f32⟩
  | .local .scVector .vmem, ⟨5, _⟩ => ⟨S64, .f32⟩
  | .local .scVector .vmem, ⟨6, _⟩ => ⟨S128x64, .f32⟩
  | _, _ => ⟨S1, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v3_scv : Ref sig .scVector := ⟨.hbm, 9, rfl⟩
abbrev main_v0_scv : Ref sig .scVector := ⟨.hbm, 5, rfl⟩
abbrev main_v2_1_scv : Ref sig .scVector := ⟨.hbm, 8, rfl⟩
abbrev main_v4_scv : Ref sig .scVector := ⟨.hbm, 10, rfl⟩
abbrev main_arg4_scv : Ref sig .scVector := ⟨.hbm, 4, rfl⟩
abbrev main_v5_scv : Ref sig .scVector := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F] [Named F]

def κ : String → Option EReal := fun
  | "taken" => some ⊤
  | _ => none

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v3 : BitVec 32 := Scalar.muli v1 c1024_i32
  ![v3.toNat]
@[reducible] def k1_t1_loop : Scf.Loop 32 :=
  let c0_i32_3 : BitVec 32 := 0#32
  let c64_i32 : BitVec 32 := 64#32
  let v137 : BitVec 32 := Scalar.addi c0_i32_3 c64_i32
  let c1_i32_4 : BitVec 32 := 1#32
  ⟨c0_i32_3, v137, c1_i32_4⟩
def k1_off2 (k1_t1 : Fin k1_t1_loop.trips) : Fin 1 → Nat :=
  let c0_i32_3 : BitVec 32 := 0#32
  let c1_i32_4 : BitVec 32 := 1#32
  let arg15 : BitVec 32 := Scf.iv c0_i32_3 c1_i32_4 k1_t1
  let c16_i32 : BitVec 32 := 16#32
  let v138 : BitVec 32 := Scalar.muli arg15 c16_i32
  let v139 : Index := Scalar.indexCast v138
  ![v139.toNat]

def k1_chk1 (v140 : IVec S16 32) : Prop :=
  (∀ a x, ((![v140] : Fin 1 → IVec S16 32) a x).toNat < S4096.size a) ∧
  (∀ a x, ((![v140] : Fin 1 → IVec S16 32) a x).toNat < S4096.size a) ∧
  (∀ a x, ((![v140] : Fin 1 → IVec S16 32) a x).toNat < S4096.size a) ∧
  (∀ a x, ((![v140] : Fin 1 → IVec S16 32) a x).toNat < S4096.size a)
theorem k1_idx1_inb : ∀ (v140 : IVec S16 32) (k1_hw1 : k1_chk1 v140), ∀ a x, ((![v140] : Fin 1 → IVec S16 32) a x).toNat < S4096.size a := fun v140 k1_hw1 => k1_hw1.1
theorem k1_idx2_inb : ∀ (v140 : IVec S16 32) (k1_hw1 : k1_chk1 v140), ∀ a x, ((![v140] : Fin 1 → IVec S16 32) a x).toNat < S4096.size a := fun v140 k1_hw1 => k1_hw1.2.1
theorem k1_idx5_inb : ∀ (v140 : IVec S16 32) (k1_hw1 : k1_chk1 v140), ∀ a x, ((![v140] : Fin 1 → IVec S16 32) a x).toNat < S4096.size a := fun v140 k1_hw1 => k1_hw1.2.2.1
theorem k1_idx6_inb : ∀ (v140 : IVec S16 32) (k1_hw1 : k1_chk1 v140), ∀ a x, ((![v140] : Fin 1 → IVec S16 32) a x).toNat < S4096.size a := fun v140 k1_hw1 => k1_hw1.2.2.2

def k1_chk2 (v145 : IVec S16 32) : Prop :=
  (∀ a x, ((![v145] : Fin 1 → IVec S16 32) a x).toNat < S4096.size a) ∧
  (∀ a x, ((![v145] : Fin 1 → IVec S16 32) a x).toNat < S4096.size a) ∧
  (∀ a x, ((![v145] : Fin 1 → IVec S16 32) a x).toNat < S4096.size a) ∧
  (∀ a x, ((![v145] : Fin 1 → IVec S16 32) a x).toNat < S4096.size a)
theorem k1_idx3_inb : ∀ (v145 : IVec S16 32) (k1_hw2 : k1_chk2 v145), ∀ a x, ((![v145] : Fin 1 → IVec S16 32) a x).toNat < S4096.size a := fun v145 k1_hw2 => k1_hw2.1
theorem k1_idx4_inb : ∀ (v145 : IVec S16 32) (k1_hw2 : k1_chk2 v145), ∀ a x, ((![v145] : Fin 1 → IVec S16 32) a x).toNat < S4096.size a := fun v145 k1_hw2 => k1_hw2.2.1
theorem k1_idx7_inb : ∀ (v145 : IVec S16 32) (k1_hw2 : k1_chk2 v145), ∀ a x, ((![v145] : Fin 1 → IVec S16 32) a x).toNat < S4096.size a := fun v145 k1_hw2 => k1_hw2.2.2.1
theorem k1_idx8_inb : ∀ (v145 : IVec S16 32) (k1_hw2 : k1_chk2 v145), ∀ a x, ((![v145] : Fin 1 → IVec S16 32) a x).toNat < S4096.size a := fun v145 k1_hw2 => k1_hw2.2.2.2

def k1_chk3 (v159 : IVec S16 32) (v180 : IVec S16 32) : Prop :=
  (∀ a x, ((![v159, v180] : Fin 2 → IVec S16 32) a x).toNat < S128x64.size a)
theorem k1_idx9_inb : ∀ (v159 : IVec S16 32) (v180 : IVec S16 32) (k1_hw3 : k1_chk3 v159 v180), ∀ a x, ((![v159, v180] : Fin 2 → IVec S16 32) a x).toNat < S128x64.size a := fun v159 v180 k1_hw3 => k1_hw3

def k1_chk4 (v159 : IVec S16 32) (v197 : IVec S16 32) : Prop :=
  (∀ a x, ((![v159, v197] : Fin 2 → IVec S16 32) a x).toNat < S128x64.size a)
theorem k1_idx10_inb : ∀ (v159 : IVec S16 32) (v197 : IVec S16 32) (k1_hw4 : k1_chk4 v159 v197), ∀ a x, ((![v159, v197] : Fin 2 → IVec S16 32) a x).toNat < S128x64.size a := fun v159 v197 k1_hw4 => k1_hw4

def k1_chk5 (v159 : IVec S16 32) (v214 : IVec S16 32) : Prop :=
  (∀ a x, ((![v159, v214] : Fin 2 → IVec S16 32) a x).toNat < S128x64.size a)
theorem k1_idx11_inb : ∀ (v159 : IVec S16 32) (v214 : IVec S16 32) (k1_hw5 : k1_chk5 v159 v214), ∀ a x, ((![v159, v214] : Fin 2 → IVec S16 32) a x).toNat < S128x64.size a := fun v159 v214 k1_hw5 => k1_hw5

def k1_chk6 (v159 : IVec S16 32) (v231 : IVec S16 32) : Prop :=
  (∀ a x, ((![v159, v231] : Fin 2 → IVec S16 32) a x).toNat < S128x64.size a)
theorem k1_idx12_inb : ∀ (v159 : IVec S16 32) (v231 : IVec S16 32) (k1_hw6 : k1_chk6 v159 v231), ∀ a x, ((![v159, v231] : Fin 2 → IVec S16 32) a x).toNat < S128x64.size a := fun v159 v231 k1_hw6 => k1_hw6

def k1_chk7 (v159 : IVec S16 32) (v248 : IVec S16 32) : Prop :=
  (∀ a x, ((![v159, v248] : Fin 2 → IVec S16 32) a x).toNat < S128x64.size a)
theorem k1_idx13_inb : ∀ (v159 : IVec S16 32) (v248 : IVec S16 32) (k1_hw7 : k1_chk7 v159 v248), ∀ a x, ((![v159, v248] : Fin 2 → IVec S16 32) a x).toNat < S128x64.size a := fun v159 v248 k1_hw7 => k1_hw7

def k1_chk8 (v159 : IVec S16 32) (v265 : IVec S16 32) : Prop :=
  (∀ a x, ((![v159, v265] : Fin 2 → IVec S16 32) a x).toNat < S128x64.size a)
theorem k1_idx14_inb : ∀ (v159 : IVec S16 32) (v265 : IVec S16 32) (k1_hw8 : k1_chk8 v159 v265), ∀ a x, ((![v159, v265] : Fin 2 → IVec S16 32) a x).toNat < S128x64.size a := fun v159 v265 k1_hw8 => k1_hw8

def k1_chk9 (v159 : IVec S16 32) (v282 : IVec S16 32) : Prop :=
  (∀ a x, ((![v159, v282] : Fin 2 → IVec S16 32) a x).toNat < S128x64.size a)
theorem k1_idx15_inb : ∀ (v159 : IVec S16 32) (v282 : IVec S16 32) (k1_hw9 : k1_chk9 v159 v282), ∀ a x, ((![v159, v282] : Fin 2 → IVec S16 32) a x).toNat < S128x64.size a := fun v159 v282 k1_hw9 => k1_hw9

def k1_chk10 (v159 : IVec S16 32) (v299 : IVec S16 32) : Prop :=
  (∀ a x, ((![v159, v299] : Fin 2 → IVec S16 32) a x).toNat < S128x64.size a)
theorem k1_idx16_inb : ∀ (v159 : IVec S16 32) (v299 : IVec S16 32) (k1_hw10 : k1_chk10 v159 v299), ∀ a x, ((![v159, v299] : Fin 2 → IVec S16 32) a x).toNat < S128x64.size a := fun v159 v299 k1_hw10 => k1_hw10
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_6_r7 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Proof.Setup.lean ====
/-
  The program as its launch theorem sees it, and the ghost state of the proof.

  The kernel's @main transposes two operands, runs one TensorCore pallas_call (the nearest neighbours and the
  velocities), and then one SparseCore kernel on the 2 × 16 tiles (gathering and embedding). Its ghost state is the
  handshakes' rounds, the pipeline's rounds and the counters of the tiles' local copies.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

/-- At the machine's words a named constant is the literal it stands for: with it the generic program of KernelIdeal
    is, at `Bits`, the printed kernel's. -/
instance namedBits : Named Bits where
  named _ _ {φ} w := Scalar.ofBits φ w

variable {F : FTy → Type}

/-! ## The program -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds, the pipeline's rounds, the counters of the local copies. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

instance EP_landsIn : (EP : Emb UP 𝕄).LandsIn (upEmb : UEmb _ 𝕄) := by unfold EP embR; infer_instance

/-! ## The buffers -/

abbrev tLoc (d : Dev nD) (b : Ref sig .tc) : Loc nD τ sig := (SparseCore.T d).loc b

/-- A tile's subcore, from its coordinates. -/
abbrev cV (L : grid1.Coords) : Fin τ.nSC := (L 0).castLE hcore1
abbrev jV (L : grid1.Coords) : Fin τ.nSub := (L 1).castLE hsub1
abbrev VT (d : Dev nD) (L : grid1.Coords) : Thread nD τ := V d (cV L) (jV L)
theorem bound0 : grid1.bound 0 = 2 := rfl
theorem bound1 : grid1.bound 1 = 16 := rfl
theorem L0_lt (L : grid1.Coords) : (L 0).val < 2 := (L 0).isLt
theorem L1_lt (L : grid1.Coords) : (L 1).val < 16 := (L 1).isLt

/-- The tile's number: `2 s + c`. -/
def tileN (L : grid1.Coords) : Nat := 2 * (L 1).val + (L 0).val
theorem tileN_lt (L : grid1.Coords) : tileN L < 32 := by
  have := L0_lt L; have := L1_lt L; unfold tileN; omega

end Cert.Proof

end
-- ==== Proof.Scatter.lean ====
/-
  An unmasked indexed store, read at one element: the lane that names the element, when one does and no other; the
  old contents, when none does.
-/
module

public import Idealize.ShloMosaic.PureOps

@[expose] public section

noncomputable section

namespace Cert.Proof

open Idealize.ShloMosaic

variable {F : FTy → Type} [FloatOps F] {s : Shape} {e : EltTy} {d : Fin 1 → Nat}

/-- Lanes from `l` that do not name `j` leave it. -/
theorem storeFold_miss (idxs : Fin s.rank → IVec ⟨1, d⟩ 32) (v : Vec F ⟨1, d⟩ e) (h : ∀ a x, (idxs a x).toNat < s.size a)
    (j : s.Idx) (l : List (Fin (d 0))) (f : Vec F s e)
    (hm : ∀ k ∈ l, ¬ ∀ a, (j a).val = (idxAt idxs h (Shape.ofLane k) a).val) :
    (l.foldl (fun (g : Vec F s e) k => fun j => if (∀ a, (j a).val = (idxAt idxs h (Shape.ofLane k) a).val) then v (Shape.ofLane k) else g j) f) j = f j := by
  induction l generalizing f with
  | nil => rfl
  | cons k l ih =>
    rw [List.foldl_cons, ih _ fun k' hk' => hm k' (List.mem_cons_of_mem _ hk')]
    exact if_neg (hm k List.mem_cons_self)

/-- The unmasked, non-adding store as its fold. -/
theorem storeIdx_fold (f : Vec F s e) (idxs : Fin s.rank → IVec ⟨1, d⟩ 32) (v : Vec F ⟨1, d⟩ e) (h : ∀ a x, (idxs a x).toNat < s.size a) :
    storeIdx f idxs v (fun _ => 1#1) false h
      = (List.finRange (d 0)).foldl (fun (g : Vec F s e) k => fun j => if (∀ a, (j a).val = (idxAt idxs h (Shape.ofLane k) a).val) then v (Shape.ofLane k) else g j) f := by
  unfold storeIdx
  congr 1

/-- No lane names `j`: the store leaves it. -/
theorem storeIdx_miss (f : Vec F s e) (idxs : Fin s.rank → IVec ⟨1, d⟩ 32) (v : Vec F ⟨1, d⟩ e) (h : ∀ a x, (idxs a x).toNat < s.size a)
    (j : s.Idx) (hm : ∀ k : Fin (d 0), ¬ ∀ a, (j a).val = (idxs a (Shape.ofLane k)).toNat) :
    storeIdx f idxs v (fun _ => 1#1) false h j = f j := by
  rw [storeIdx_fold]; exact storeFold_miss idxs v h j _ f fun k _ => hm k

/-- Lane `k₀` names `j` and no other lane does: the store leaves `k₀`'s value there. -/
theorem storeIdx_hit (f : Vec F s e) (idxs : Fin s.rank → IVec ⟨1, d⟩ 32) (v : Vec F ⟨1, d⟩ e) (h : ∀ a x, (idxs a x).toNat < s.size a)
    (j : s.Idx) (k₀ : Fin (d 0)) (h₀ : ∀ a, (j a).val = (idxs a (Shape.ofLane k₀)).toNat)
    (hu : ∀ k : Fin (d 0), (∀ a, (j a).val = (idxs a (Shape.ofLane k)).toNat) → k = k₀) :
    storeIdx f idxs v (fun _ => 1#1) false h j = v (Shape.ofLane k₀) := by
  rw [storeIdx_fold]
  obtain ⟨l₁, l₂, hl⟩ := List.append_of_mem (List.mem_finRange k₀)
  have hnd := List.nodup_finRange (d 0)
  rw [hl] at hnd ⊢
  rw [List.foldl_append, List.foldl_cons, storeFold_miss idxs v h j l₂]
  · exact if_pos h₀
  · intro k hk hj
    have := hu k hj
    subst this
    exact (List.nodup_cons.mp (List.nodup_append.mp hnd).2.1).1 hk

end Cert.Proof

end
-- ==== Proof.TileValue.lean ====
/-
  What one tile computes, as a function of the buffers it holds: the words it addresses its buffers by, and the block
  of the result that one trip of its loop fills.

  A tile's result block has 128 rows of 64 columns. Row `n` is agent `base + n`; column `q = 8 i + e` is entry `e` of
  its `i`-th neighbour's embedding. Trip `t` fills rows `2 t` and `2 t + 1`, eight indexed stores of 16 lanes, one for
  each entry `e`.
-/
module

public import proofs.«01_k».proof.Proof.Setup
public import proofs.«01_k».proof.Proof.Scatter

@[expose] public section

noncomputable section

namespace Cert.Proof

open Cert.KernelIdeal Cert.KernelIdeal.Gen
open Idealize.ShloMosaic

variable {F : FTy → Type} [FloatOps F]

/-! ## Places in the buffers, by number -/

def i16 (k : Nat) : S16.Idx := fun | 0 => ⟨k % 16, Nat.mod_lt _ (by decide)⟩
def i48 (k : Nat) : S48.Idx := fun | 0 => ⟨k % 48, Nat.mod_lt _ (by decide)⟩
def i8 (k : Nat) : S8.Idx := fun | 0 => ⟨k % 8, Nat.mod_lt _ (by decide)⟩
def i1024 (k : Nat) : S1024.Idx := fun | 0 => ⟨k % 1024, Nat.mod_lt _ (by decide)⟩
def i4096 (k : Nat) : S4096.Idx := fun | 0 => ⟨k % 4096, Nat.mod_lt _ (by decide)⟩

theorem ext16 {x y : S16.Idx} (h : (x 0).val = (y 0).val) : x = y := by funext a; fin_cases a; exact Fin.ext h
theorem ext4096 {x y : S4096.Idx} (h : (x 0).val = (y 0).val) : x = y := by funext a; fin_cases a; exact Fin.ext h
theorem ext1024 {x y : S1024.Idx} (h : (x 0).val = (y 0).val) : x = y := by funext a; fin_cases a; exact Fin.ext h
theorem lane_eq (k : Fin 16) : (Shape.ofLane k : S16.Idx) = i16 k.val := ext16 (Nat.mod_eq_of_lt k.isLt).symm

/-! ## One entry of an embedding -/

/-- The affine form of the four differences with its bias, cut off below at zero. -/
def entry (dx dy du dv w0 w1 w2 w3 b : F .f32) : F .f32 :=
  FloatOps.maximumf
    (FloatOps.addf
      (FloatOps.addf (FloatOps.addf (FloatOps.addf (FloatOps.mulf dx w0) (FloatOps.mulf dy w1)) (FloatOps.mulf du w2)) (FloatOps.mulf dv w3))
      b)
    (Scalar.ofBits .f32 0x00000000#32)

/-- The bias of entry `e`: the weights of the two constant features, and the layer's own. -/
def biasE (w5 w6 w7 : Vec F S16 .f32) (e : Nat) : F .f32 :=
  Scalar.addf (Scalar.addf (w5 (i16 e)) (w6 (i16 (8 + e)))) (w7 (i16 e))

/-- Row `n`, column `q` of the block of the tile whose first agent is `base`. -/
def tileAt (base : Nat) (w4 w5 w6 w7 : Vec F S16 .f32) (ix : Vec F S1024 .i32) (a b c d : Vec F S4096 .f32) (n q : Nat) : F .f32 :=
  let j := (ix (i1024 (8 * n + q / 8)) : BitVec 32).toNat
  entry (FloatOps.subf (a (i4096 j)) (a (i4096 (base + n)))) (FloatOps.subf (b (i4096 j)) (b (i4096 (base + n))))
    (FloatOps.subf (c (i4096 j)) (c (i4096 (base + n)))) (FloatOps.subf (d (i4096 j)) (d (i4096 (base + n))))
    (w4 (i16 (q % 8))) (w4 (i16 (8 + q % 8))) (w5 (i16 (8 + q % 8))) (w6 (i16 (q % 8))) (biasE w5 w6 w7 (q % 8))

/-! ## The words a trip addresses by -/

theorem trips_lt (t : Fin k1_t1_loop.trips) : t.val < 64 := lt_of_lt_of_le t.isLt k1_t1_abs.2.1

/-- The tile's first item and its first agent, as the body computes them. -/
def w2 (L : grid1.Coords) : BitVec 32 := Scalar.muli (Scalar.addi (Scalar.muli (BitVec.ofNat 32 (L 1).val) 2#32) (BitVec.ofNat 32 (L 0).val)) 128#32
def w3 (L : grid1.Coords) : BitVec 32 := Scalar.muli (Scalar.addi (Scalar.muli (BitVec.ofNat 32 (L 1).val) 2#32) (BitVec.ofNat 32 (L 0).val)) 1024#32
abbrev lanes : IVec S16 32 := iota .scVector S16 32 [0] iota_S16_d0_w32_scVector

theorem w2_toNat (L : grid1.Coords) : (w2 L).toNat = 128 * tileN L := by
  have h0 := L0_lt L; have h1 := L1_lt L
  simp only [w2, Scalar.muli, Scalar.addi, IntOp.muli, IntOp.addi, BitVec.toNat_mul, BitVec.toNat_add, BitVec.toNat_ofNat, tileN]
  omega
theorem w3_toNat (L : grid1.Coords) : (w3 L).toNat = 1024 * tileN L := by
  have h0 := L0_lt L; have h1 := L1_lt L
  simp only [w3, Scalar.muli, Scalar.addi, IntOp.muli, IntOp.addi, BitVec.toNat_mul, BitVec.toNat_add, BitVec.toNat_ofNat, tileN]
  omega
theorem lanes_toNat (k : Fin 16) : (lanes (Shape.ofLane k : S16.Idx)).toNat = k.val := by
  revert k; decide

/-- The number of lane `k`'s item. -/
theorem item_toNat (L : grid1.Coords) (t : Fin k1_t1_loop.trips) (k : Fin 16) :
    (k1_pay1 (w3 L) lanes 0#32 1#32 t (Shape.ofLane k : S16.Idx)).toNat = 1024 * tileN L + 16 * t.val + k.val := by
  have ht := trips_lt t; have hn := tileN_lt L; have hk := k.isLt
  simp only [k1_pay1, addi, broadcast, IntOp.addi, Scalar.muli, Scalar.addi, IntOp.muli, Scf.iv, BitVec.toNat_mul, BitVec.toNat_add, BitVec.toNat_ofNat,
    w3_toNat, lanes_toNat]
  omega

/-- The agent of lane `k`'s item. -/
theorem self_toNat (L : grid1.Coords) (t : Fin k1_t1_loop.trips) (k : Fin 16) :
    (k1_pay2 (w3 L) lanes 0#32 1#32 t (Shape.ofLane k : S16.Idx)).toNat = 128 * tileN L + (2 * t.val + k.val / 8) := by
  have ht := trips_lt t; have hn := tileN_lt L; have hk := k.isLt
  have e := item_toNat L t k
  simp only [k1_pay2, shrui, broadcast, IntOp.shrui, BitVec.toNat_ofNat]
  rw [if_pos (by decide), BitVec.ushiftRight_eq', BitVec.toNat_ushiftRight, e, Nat.shiftRight_eq_div_pow]
  rw [show (2 ^ (3#32).toNat : Nat) = 8 by decide]
  omega

/-- Its row in the tile's block. -/
theorem row_toNat (L : grid1.Coords) (t : Fin k1_t1_loop.trips) (k : Fin 16) :
    (k1_pay7 (w2 L) (k1_pay2 (w3 L) lanes 0#32 1#32 t) (Shape.ofLane k : S16.Idx)).toNat = 2 * t.val + k.val / 8 := by
  have ht := trips_lt t; have hn := tileN_lt L; have hk := k.isLt
  have e := self_toNat L t k
  simp only [k1_pay7, subi, broadcast, IntOp.subi, BitVec.toNat_sub, e, w2_toNat]
  omega

/-- The first column of its neighbour. -/
theorem col_toNat (L : grid1.Coords) (t : Fin k1_t1_loop.trips) (k : Fin 16) :
    (k1_pay8 (w3 L) lanes 0#32 1#32 t (Shape.ofLane k : S16.Idx)).toNat = 8 * (k.val % 8) := by
  have ht := trips_lt t; have hn := tileN_lt L; have hk := k.isLt
  have e := item_toNat L t k
  simp only [k1_pay8, muli, andi, broadcast, IntOp.muli, IntOp.andi, BitVec.toNat_mul, BitVec.toNat_and, BitVec.toNat_ofNat, e]
  rw [show (7 % 2 ^ 32 : Nat) = 2 ^ 3 - 1 by decide, Nat.and_two_pow_sub_one_eq_mod]
  omega

/-- Column `e` past it. -/
theorem colAdd_toNat (L : grid1.Coords) (t : Fin k1_t1_loop.trips) (e : Nat) (he : e < 8) (k : Fin 16) :
    (addi (k1_pay8 (w3 L) lanes 0#32 1#32 t) (broadcast S16 (BitVec.ofNat 32 e)) (Shape.ofLane k : S16.Idx)).toNat = 8 * (k.val % 8) + e := by
  have hk := k.isLt
  have c := col_toNat L t k
  simp only [addi, broadcast, IntOp.addi, BitVec.toNat_add, BitVec.toNat_ofNat, c]
  omega

theorem allLanes {P : S16.Idx → Prop} (h : ∀ k : Fin 16, P (Shape.ofLane k : S16.Idx)) : ∀ x, P x := fun x => by
  have : x = (Shape.ofLane (x 0) : S16.Idx) := by funext a; fin_cases a; rfl
  rw [this]; exact h _

/-! ## One indexed store of a trip -/

theorem rows_inb (rows cols : IVec S16 32) (t e : Nat) (ht : t < 64) (he : e < 8)
    (hr : ∀ k : Fin 16, (rows (Shape.ofLane k : S16.Idx)).toNat = 2 * t + k.val / 8)
    (hc : ∀ k : Fin 16, (cols (Shape.ofLane k : S16.Idx)).toNat = 8 * (k.val % 8) + e) :
    ∀ a x, ((![rows, cols] : Fin 2 → IVec S16 32) a x).toNat < S128x64.size a := fun a => allLanes fun k => by
  have := k.isLt; have := hr k; have := hc k
  match a with
  | 0 => show (rows _).toNat < 128; omega
  | 1 => show (cols _).toNat < 64; omega

/-- It writes entry `e` of every neighbour in rows `2 t` and `2 t + 1`, and nothing else. -/
theorem store_apply (g : Vec F S128x64 .f32) (rows cols : IVec S16 32) (w : Vec F S16 .f32) (t e : Nat) (he : e < 8)
    (hr : ∀ k : Fin 16, (rows (Shape.ofLane k : S16.Idx)).toNat = 2 * t + k.val / 8)
    (hc : ∀ k : Fin 16, (cols (Shape.ofLane k : S16.Idx)).toNat = 8 * (k.val % 8) + e)
    (h : ∀ a x, ((![rows, cols] : Fin 2 → IVec S16 32) a x).toNat < S128x64.size a) (j : S128x64.Idx) :
    storeIdx g ![rows, cols] w (fun _ => 1#1) false h j
      = if (j 0).val / 2 = t ∧ (j 1).val % 8 = e then w (i16 (8 * ((j 0).val % 2) + (j 1).val / 8)) else g j := by
  have h0 : (j 0).val < 128 := (j 0).isLt
  have h1 : (j 1).val < 64 := (j 1).isLt
  split
  · rename_i hj
    have hk : 8 * ((j 0).val % 2) + (j 1).val / 8 < 16 := by omega
    rw [storeIdx_hit (d := ![16]) g ![rows, cols] w h j ⟨8 * ((j 0).val % 2) + (j 1).val / 8, hk⟩]
    · exact congrArg w (lane_eq ⟨_, hk⟩)
    · intro a
      match a with
      | 0 => refine Eq.trans ?_ (hr ⟨_, hk⟩).symm; show _ = 2 * t + (8 * ((j 0).val % 2) + (j 1).val / 8) / 8; omega
      | 1 => refine Eq.trans ?_ (hc ⟨_, hk⟩).symm; show _ = 8 * ((8 * ((j 0).val % 2) + (j 1).val / 8) % 8) + e; omega
    · intro k hk'
      have a0 : (j 0).val = (rows (Shape.ofLane k : S16.Idx)).toNat := hk' 0
      have a1 : (j 1).val = (cols (Shape.ofLane k : S16.Idx)).toNat := hk' 1
      have b0 := a0.trans (hr k); have b1 := a1.trans (hc k)
      apply Fin.ext; show k.val = 8 * ((j 0).val % 2) + (j 1).val / 8
      have : k.val < 16 := k.isLt
      omega
  · rename_i hj
    refine storeIdx_miss (d := ![16]) g ![rows, cols] w h j fun k hk' => hj ?_
    have a0 : (j 0).val = (rows (Shape.ofLane k : S16.Idx)).toNat := hk' 0
    have a1 : (j 1).val = (cols (Shape.ofLane k : S16.Idx)).toNat := hk' 1
    have b0 := a0.trans (hr k); have b1 := a1.trans (hc k)
    have : k.val < 16 := k.isLt
    omega

/-- Eight of them, one for each entry, fill the two rows. -/
theorem sweep (g : Vec F S128x64 .f32) (rows : IVec S16 32) (C : Nat → IVec S16 32) (W0 W1 W2 W3 W4 W5 W6 W7 : Vec F S16 .f32) (V : Nat → Nat → F .f32) (t : Nat)
    (hr : ∀ k : Fin 16, (rows (Shape.ofLane k : S16.Idx)).toNat = 2 * t + k.val / 8)
    (hc : ∀ e, e < 8 → ∀ k : Fin 16, (C e (Shape.ofLane k : S16.Idx)).toNat = 8 * (k.val % 8) + e)
    (w0 : ∀ k : Fin 16, W0 (Shape.ofLane k : S16.Idx) = V (2 * t + k.val / 8) (8 * (k.val % 8) + 0))
    (w1 : ∀ k : Fin 16, W1 (Shape.ofLane k : S16.Idx) = V (2 * t + k.val / 8) (8 * (k.val % 8) + 1))
    (w2 : ∀ k : Fin 16, W2 (Shape.ofLane k : S16.Idx) = V (2 * t + k.val / 8) (8 * (k.val % 8) + 2))
    (w3 : ∀ k : Fin 16, W3 (Shape.ofLane k : S16.Idx) = V (2 * t + k.val / 8) (8 * (k.val % 8) + 3))
    (w4 : ∀ k : Fin 16, W4 (Shape.ofLane k : S16.Idx) = V (2 * t + k.val / 8) (8 * (k.val % 8) + 4))
    (w5 : ∀ k : Fin 16, W5 (Shape.ofLane k : S16.Idx) = V (2 * t + k.val / 8) (8 * (k.val % 8) + 5))
    (w6 : ∀ k : Fin 16, W6 (Shape.ofLane k : S16.Idx) = V (2 * t + k.val / 8) (8 * (k.val % 8) + 6))
    (w7 : ∀ k : Fin 16, W7 (Shape.ofLane k : S16.Idx) = V (2 * t + k.val / 8) (8 * (k.val % 8) + 7))
    (h0 : ∀ a x, ((![rows, C 0] : Fin 2 → IVec S16 32) a x).toNat < S128x64.size a)
    (h1 : ∀ a x, ((![rows, C 1] : Fin 2 → IVec S16 32) a x).toNat < S128x64.size a)
    (h2 : ∀ a x, ((![rows, C 2] : Fin 2 → IVec S16 32) a x).toNat < S128x64.size a)
    (h3 : ∀ a x, ((![rows, C 3] : Fin 2 → IVec S16 32) a x).toNat < S128x64.size a)
    (h4 : ∀ a x, ((![rows, C 4] : Fin 2 → IVec S16 32) a x).toNat < S128x64.size a)
    (h5 : ∀ a x, ((![rows, C 5] : Fin 2 → IVec S16 32) a x).toNat < S128x64.size a)
    (h6 : ∀ a x, ((![rows, C 6] : Fin 2 → IVec S16 32) a x).toNat < S128x64.size a)
    (h7 : ∀ a x, ((![rows, C 7] : Fin 2 → IVec S16 32) a x).toNat < S128x64.size a) (j : S128x64.Idx) :
    storeIdx (storeIdx (storeIdx (storeIdx (storeIdx (storeIdx (storeIdx (storeIdx g ![rows, C 0] W0 (fun _ => 1#1) false h0)
        ![rows, C 1] W1 (fun _ => 1#1) false h1) ![rows, C 2] W2 (fun _ => 1#1) false h2) ![rows, C 3] W3 (fun _ => 1#1) false h3)
        ![rows, C 4] W4 (fun _ => 1#1) false h4) ![rows, C 5] W5 (fun _ => 1#1) false h5) ![rows, C 6] W6 (fun _ => 1#1) false h6)
        ![rows, C 7] W7 (fun _ => 1#1) false h7 j
      = if (j 0).val / 2 = t then V (j 0).val (j 1).val else g j := by
  have hj0 : (j 0).val < 128 := (j 0).isLt
  have hj1 : (j 1).val < 64 := (j 1).isLt
  have hV (e : Nat) (W : Vec F S16 .f32) (hW : ∀ k : Fin 16, W (Shape.ofLane k : S16.Idx) = V (2 * t + k.val / 8) (8 * (k.val % 8) + e))
      (ht : (j 0).val / 2 = t) (hq : (j 1).val % 8 = e) :
      W (i16 (8 * ((j 0).val % 2) + (j 1).val / 8)) = V (j 0).val (j 1).val := by
    have hk : 8 * ((j 0).val % 2) + (j 1).val / 8 < 16 := by omega
    have := hW ⟨_, hk⟩
    rw [lane_eq] at this
    refine this.trans (congrArg₂ V ?_ ?_)
    · show 2 * t + (8 * ((j 0).val % 2) + (j 1).val / 8) / 8 = _; omega
    · show 8 * ((8 * ((j 0).val % 2) + (j 1).val / 8) % 8) + e = _; omega
  rw [store_apply _ rows (C 7) W7 t 7 (by decide) hr (hc 7 (by decide)), store_apply _ rows (C 6) W6 t 6 (by decide) hr (hc 6 (by decide)), store_apply _ rows (C 5) W5 t 5 (by decide) hr (hc 5 (by decide)), store_apply _ rows (C 4) W4 t 4 (by decide) hr (hc 4 (by decide)), store_apply _ rows (C 3) W3 t 3 (by decide) hr (hc 3 (by decide)), store_apply _ rows (C 2) W2 t 2 (by decide) hr (hc 2 (by decide)), store_apply _ rows (C 1) W1 t 1 (by decide) hr (hc 1 (by decide)), store_apply _ rows (C 0) W0 t 0 (by decide) hr (hc 0 (by decide))]
  by_cases ht : (j 0).val / 2 = t
  · simp only [ht, true_and, if_true]
    have : (j 1).val % 8 < 8 := Nat.mod_lt _ (by decide)
    split_ifs with c7 c6 c5 c4 c3 c2 c1 c0
    · exact hV 7 W7 w7 ht c7
    · exact hV 6 W6 w6 ht c6
    · exact hV 5 W5 w5 ht c5
    · exact hV 4 W4 w4 ht c4
    · exact hV 3 W3 w3 ht c3
    · exact hV 2 W2 w2 ht c2
    · exact hV 1 W1 w1 ht c1
    · exact hV 0 W0 w0 ht c0
    · omega
  · simp only [ht, false_and, if_false]

/-! ## What the lanes hold -/

theorem gather_lane (f : Vec F S4096 .f32) (v : IVec S16 32) (h : ∀ a x, ((![v] : Fin 1 → IVec S16 32) a x).toNat < S4096.size a) (k : Fin 16) :
    loadIdx f ![v] h (Shape.ofLane k : S16.Idx) = f (i4096 (v (Shape.ofLane k : S16.Idx)).toNat) :=
  congrArg f (ext4096 (Nat.mod_eq_of_lt (h 0 (Shape.ofLane k : S16.Idx))).symm)

theorem slot (w : Vec F S16 .f32) (e : Nat) (he : e < 16) (hs : Shape.Slices S16 ![e] S1) (hp : ∀ a, (![0] : Fin 1 → Nat) a < S1.size a) :
    extractAt ![0] (extractStridedSlice S1 ![e] w hs) hp = w (i16 e) :=
  congrArg w (ext16 (by show e + 0 = e % 16; omega))

theorem tile_lane (base : Nat) (w4 w5 w6 w7 : Vec F S16 .f32) (ix : Vec F S1024 .i32) (a b c d : Vec F S4096 .f32) (t e k : Nat) (hk : k < 16) (he : e < 8) :
    tileAt base w4 w5 w6 w7 ix a b c d (2 * t + k / 8) (8 * (k % 8) + e)
      = entry (FloatOps.subf (a (i4096 (ix (i1024 (16 * t + k)) : BitVec 32).toNat)) (a (i4096 (base + (2 * t + k / 8)))))
          (FloatOps.subf (b (i4096 (ix (i1024 (16 * t + k)) : BitVec 32).toNat)) (b (i4096 (base + (2 * t + k / 8)))))
          (FloatOps.subf (c (i4096 (ix (i1024 (16 * t + k)) : BitVec 32).toNat)) (c (i4096 (base + (2 * t + k / 8)))))
          (FloatOps.subf (d (i4096 (ix (i1024 (16 * t + k)) : BitVec 32).toNat)) (d (i4096 (base + (2 * t + k / 8)))))
          (w4 (i16 e)) (w4 (i16 (8 + e))) (w5 (i16 (8 + e))) (w6 (i16 e)) (biasE w5 w6 w7 e) := by
  unfold tileAt
  rw [show 8 * (2 * t + k / 8) + (8 * (k % 8) + e) / 8 = 16 * t + k by omega, show (8 * (k % 8) + e) % 8 = e by omega]

/-! The eight vectors a trip scatters, read at one lane. -/

theorem lane0 (w4 w5 w6 w7 x0 x1 x2 x3 x4 x5 x6 x7 : Vec F S16 .f32) (x : S16.Idx) :
    k1_pay9 (k1_pay27 w4) (k1_pay36 (k1_pay35 w4)) (k1_pay44 w5) (k1_pay52 w6) (k1_pay60 w5 w6 w7) x0 x1 x2 x3 x4 x5 x6 x7 x
      = entry (FloatOps.subf (x0 x) (x2 x)) (FloatOps.subf (x1 x) (x3 x)) (FloatOps.subf (x4 x) (x6 x)) (FloatOps.subf (x5 x) (x7 x))
          (w4 (i16 0)) (w4 (i16 (8 + 0))) (w5 (i16 (8 + 0))) (w6 (i16 0)) (biasE w5 w6 w7 0) := by
  unfold entry biasE
  rw [← slot w4 0 (by decide) slices_S16_o0_S1 inpos_S1_p0, show 8 + 0 = 8 from rfl, ← slot w4 8 (by decide) slices_S16_o8_S1 inpos_S1_p0, ← slot w5 8 (by decide) slices_S16_o8_S1 inpos_S1_p0, ← slot w6 0 (by decide) slices_S16_o0_S1 inpos_S1_p0,
    ← slot w5 0 (by decide) slices_S16_o0_S1 inpos_S1_p0, ← slot w6 8 (by decide) slices_S16_o8_S1 inpos_S1_p0, ← slot w7 0 (by decide) slices_S16_o0_S1 inpos_S1_p0]
  rfl

theorem lane1 (w4 w5 w6 w7 x0 x1 x2 x3 x4 x5 x6 x7 : Vec F S16 .f32) (x : S16.Idx) :
    k1_pay13 (k1_pay53 w6) (k1_pay62 w7 (k1_pay61 w5 w6)) (k1_pay5 x4 x6) (k1_pay6 x5 x7) (k1_pay11 (k1_pay28 w4) (k1_pay37 w4) x0 x1 x2 x3) (k1_pay12 (k1_pay45 w5)) x
      = entry (FloatOps.subf (x0 x) (x2 x)) (FloatOps.subf (x1 x) (x3 x)) (FloatOps.subf (x4 x) (x6 x)) (FloatOps.subf (x5 x) (x7 x))
          (w4 (i16 1)) (w4 (i16 (8 + 1))) (w5 (i16 (8 + 1))) (w6 (i16 1)) (biasE w5 w6 w7 1) := by
  unfold entry biasE
  rw [← slot w4 1 (by decide) slices_S16_o1_S1 inpos_S1_p0, show 8 + 1 = 9 from rfl, ← slot w4 9 (by decide) slices_S16_o9_S1 inpos_S1_p0, ← slot w5 9 (by decide) slices_S16_o9_S1 inpos_S1_p0, ← slot w6 1 (by decide) slices_S16_o1_S1 inpos_S1_p0,
    ← slot w5 1 (by decide) slices_S16_o1_S1 inpos_S1_p0, ← slot w6 9 (by decide) slices_S16_o9_S1 inpos_S1_p0, ← slot w7 1 (by decide) slices_S16_o1_S1 inpos_S1_p0]
  rfl

theorem lane2 (w4 w5 w6 w7 x0 x1 x2 x3 x4 x5 x6 x7 : Vec F S16 .f32) (x : S16.Idx) :
    k1_pay15 (k1_pay29 w4) (k1_pay38 w4) (k1_pay46 w5) (k1_pay54 w6) (k1_pay63 w5 w6 w7) (k1_pay3 x0 x2) (k1_pay4 x1 x3) (k1_pay5 x4 x6) (k1_pay6 x5 x7) x
      = entry (FloatOps.subf (x0 x) (x2 x)) (FloatOps.subf (x1 x) (x3 x)) (FloatOps.subf (x4 x) (x6 x)) (FloatOps.subf (x5 x) (x7 x))
          (w4 (i16 2)) (w4 (i16 (8 + 2))) (w5 (i16 (8 + 2))) (w6 (i16 2)) (biasE w5 w6 w7 2) := by
  unfold entry biasE
  rw [← slot w4 2 (by decide) slices_S16_o2_S1 inpos_S1_p0, show 8 + 2 = 10 from rfl, ← slot w4 10 (by decide) slices_S16_o10_S1 inpos_S1_p0, ← slot w5 10 (by decide) slices_S16_o10_S1 inpos_S1_p0, ← slot w6 2 (by decide) slices_S16_o2_S1 inpos_S1_p0,
    ← slot w5 2 (by decide) slices_S16_o2_S1 inpos_S1_p0, ← slot w6 10 (by decide) slices_S16_o10_S1 inpos_S1_p0, ← slot w7 2 (by decide) slices_S16_o2_S1 inpos_S1_p0]
  rfl

theorem lane3 (w4 w5 w6 w7 x0 x1 x2 x3 x4 x5 x6 x7 : Vec F S16 .f32) (x : S16.Idx) :
    k1_pay17 (k1_pay30 w4) (k1_pay39 w4) (k1_pay47 w5) (k1_pay55 w6) (k1_pay64 w5 w6 w7) (k1_pay3 x0 x2) (k1_pay4 x1 x3) (k1_pay5 x4 x6) (k1_pay6 x5 x7) x
      = entry (FloatOps.subf (x0 x) (x2 x)) (FloatOps.subf (x1 x) (x3 x)) (FloatOps.subf (x4 x) (x6 x)) (FloatOps.subf (x5 x) (x7 x))
          (w4 (i16 3)) (w4 (i16 (8 + 3))) (w5 (i16 (8 + 3))) (w6 (i16 3)) (biasE w5 w6 w7 3) := by
  unfold entry biasE
  rw [← slot w4 3 (by decide) slices_S16_o3_S1 inpos_S1_p0, show 8 + 3 = 11 from rfl, ← slot w4 11 (by decide) slices_S16_o11_S1 inpos_S1_p0, ← slot w5 11 (by decide) slices_S16_o11_S1 inpos_S1_p0, ← slot w6 3 (by decide) slices_S16_o3_S1 inpos_S1_p0,
    ← slot w5 3 (by decide) slices_S16_o3_S1 inpos_S1_p0, ← slot w6 11 (by decide) slices_S16_o11_S1 inpos_S1_p0, ← slot w7 3 (by decide) slices_S16_o3_S1 inpos_S1_p0]
  rfl

theorem lane4 (w4 w5 w6 w7 x0 x1 x2 x3 x4 x5 x6 x7 : Vec F S16 .f32) (x : S16.Idx) :
    k1_pay21 (k1_pay48 w5) (k1_pay56 w6) (k1_pay65 w5 w6 w7) (k1_pay4 x1 x3) (k1_pay5 x4 x6) (k1_pay6 x5 x7) (k1_pay19 (k1_pay31 w4) (k1_pay3 x0 x2)) (k1_pay20 (k1_pay40 w4)) x
      = entry (FloatOps.subf (x0 x) (x2 x)) (FloatOps.subf (x1 x) (x3 x)) (FloatOps.subf (x4 x) (x6 x)) (FloatOps.subf (x5 x) (x7 x))
          (w4 (i16 4)) (w4 (i16 (8 + 4))) (w5 (i16 (8 + 4))) (w6 (i16 4)) (biasE w5 w6 w7 4) := by
  unfold entry biasE
  rw [← slot w4 4 (by decide) slices_S16_o4_S1 inpos_S1_p0, show 8 + 4 = 12 from rfl, ← slot w4 12 (by decide) slices_S16_o12_S1 inpos_S1_p0, ← slot w5 12 (by decide) slices_S16_o12_S1 inpos_S1_p0, ← slot w6 4 (by decide) slices_S16_o4_S1 inpos_S1_p0,
    ← slot w5 4 (by decide) slices_S16_o4_S1 inpos_S1_p0, ← slot w6 12 (by decide) slices_S16_o12_S1 inpos_S1_p0, ← slot w7 4 (by decide) slices_S16_o4_S1 inpos_S1_p0]
  rfl

theorem lane5 (w4 w5 w6 w7 x0 x1 x2 x3 x4 x5 x6 x7 : Vec F S16 .f32) (x : S16.Idx) :
    k1_pay23 (k1_pay32 w4) (k1_pay41 w4) (k1_pay49 w5) (k1_pay57 w6) (k1_pay66 w5 w6 w7) (k1_pay3 x0 x2) (k1_pay4 x1 x3) (k1_pay5 x4 x6) (k1_pay6 x5 x7) x
      = entry (FloatOps.subf (x0 x) (x2 x)) (FloatOps.subf (x1 x) (x3 x)) (FloatOps.subf (x4 x) (x6 x)) (FloatOps.subf (x5 x) (x7 x))
          (w4 (i16 5)) (w4 (i16 (8 + 5))) (w5 (i16 (8 + 5))) (w6 (i16 5)) (biasE w5 w6 w7 5) := by
  unfold entry biasE
  rw [← slot w4 5 (by decide) slices_S16_o5_S1 inpos_S1_p0, show 8 + 5 = 13 from rfl, ← slot w4 13 (by decide) slices_S16_o13_S1 inpos_S1_p0, ← slot w5 13 (by decide) slices_S16_o13_S1 inpos_S1_p0, ← slot w6 5 (by decide) slices_S16_o5_S1 inpos_S1_p0,
    ← slot w5 5 (by decide) slices_S16_o5_S1 inpos_S1_p0, ← slot w6 13 (by decide) slices_S16_o13_S1 inpos_S1_p0, ← slot w7 5 (by decide) slices_S16_o5_S1 inpos_S1_p0]
  rfl

theorem lane6 (w4 w5 w6 w7 x0 x1 x2 x3 x4 x5 x6 x7 : Vec F S16 .f32) (x : S16.Idx) :
    k1_pay25 (k1_pay33 w4) (k1_pay42 w4) (k1_pay50 w5) (k1_pay58 w6) (k1_pay67 w5 w6 w7) (k1_pay3 x0 x2) (k1_pay4 x1 x3) (k1_pay5 x4 x6) (k1_pay6 x5 x7) x
      = entry (FloatOps.subf (x0 x) (x2 x)) (FloatOps.subf (x1 x) (x3 x)) (FloatOps.subf (x4 x) (x6 x)) (FloatOps.subf (x5 x) (x7 x))
          (w4 (i16 6)) (w4 (i16 (8 + 6))) (w5 (i16 (8 + 6))) (w6 (i16 6)) (biasE w5 w6 w7 6) := by
  unfold entry biasE
  rw [← slot w4 6 (by decide) slices_S16_o6_S1 inpos_S1_p0, show 8 + 6 = 14 from rfl, ← slot w4 14 (by decide) slices_S16_o14_S1 inpos_S1_p0, ← slot w5 14 (by decide) slices_S16_o14_S1 inpos_S1_p0, ← slot w6 6 (by decide) slices_S16_o6_S1 inpos_S1_p0,
    ← slot w5 6 (by decide) slices_S16_o6_S1 inpos_S1_p0, ← slot w6 14 (by decide) slices_S16_o14_S1 inpos_S1_p0, ← slot w7 6 (by decide) slices_S16_o6_S1 inpos_S1_p0]
  rfl

theorem lane7 (w4 w5 w6 w7 x0 x1 x2 x3 x4 x5 x6 x7 : Vec F S16 .f32) (x : S16.Idx) :
    k1_pay68 w5 w6 w7 (k1_pay34 w4) (k1_pay43 w4) (k1_pay51 w5) (k1_pay59 w6) (k1_pay3 x0 x2) (k1_pay4 x1 x3) (k1_pay5 x4 x6) (k1_pay6 x5 x7) x
      = entry (FloatOps.subf (x0 x) (x2 x)) (FloatOps.subf (x1 x) (x3 x)) (FloatOps.subf (x4 x) (x6 x)) (FloatOps.subf (x5 x) (x7 x))
          (w4 (i16 7)) (w4 (i16 (8 + 7))) (w5 (i16 (8 + 7))) (w6 (i16 7)) (biasE w5 w6 w7 7) := by
  unfold entry biasE
  rw [← slot w4 7 (by decide) slices_S16_o7_S1 inpos_S1_p0, show 8 + 7 = 15 from rfl, ← slot w4 15 (by decide) slices_S16_o15_S1 inpos_S1_p0, ← slot w5 15 (by decide) slices_S16_o15_S1 inpos_S1_p0, ← slot w6 7 (by decide) slices_S16_o7_S1 inpos_S1_p0,
    ← slot w5 7 (by decide) slices_S16_o7_S1 inpos_S1_p0, ← slot w6 15 (by decide) slices_S16_o15_S1 inpos_S1_p0, ← slot w7 7 (by decide) slices_S16_o7_S1 inpos_S1_p0]
  rfl

end Cert.Proof

end
-- ==== Proof.Trip.lean ====
/-
  One trip of a tile's loop: its loads, its eight gathers, its eight scatters.
-/
module

public import proofs.«01_k».proof.Proof.TileValue

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- A tile's scratch buffer, held whole at contents `f`. -/
abbrev sPts (d : Dev nD) (L : grid1.Coords) (b : Ref sig .scVector) (f : Buf (Elt F) ((VT d L).loc b)) : sProp 𝕄 :=
  (Memref.whole b).view.loc (VT d L) ↦{fullShare} f

/-- A check that holds passes. -/
theorem wp_pass (d : Dev nD) (L : grid1.Coords) {α : Type} {Q : α → sProp 𝕄} {P : Prop} {dec : Decidable P} {k : PLift P → Prog (TpuEff nD τ sig (Elt F) Λ₀ (VT d L).2) α} (h : P) :
    wp frame (wpE (defs₀ (F := F)) 𝒱₀ (VT d L) none) Set.univ (k ⟨h⟩) Q
      ⊢ wp frame (wpE (defs₀ (F := F)) 𝒱₀ (VT d L) none) Set.univ (Prog.lift (TpuEff.assume P dec) >>= k) Q :=
  Entails.of_eq (wp_assume_of (defs := defs₀ (F := F)) (k := k) (Q := Q) 𝒱₀ (VT d L) none Set.univ h).symm

/-- An indexed store over the whole block. -/
theorem wp_scatter (d : Dev nD) (L : grid1.Coords) {α : Type} {Q : α → sProp 𝕄} {g : Vec F S128x64 .f32} {rows cols : IVec S16 32} {w : Vec F S16 .f32}
    {h : ∀ a x, ((![rows, cols] : Fin 2 → IVec S16 32) a x).toNat < S128x64.size a}
    {hs : ((Memref.whole cc1_scratch6 : Memref sig .scVector .vmem S128x64 .f32).access (.whole S128x64)).Stores Finset.univ}
    {k : PUnit → Prog (TpuEff nD τ sig (Elt F) Λ₀ (VT d L).2) α} :
    sPts d L cc1_scratch6 g
      ⊢ iprop((sPts d L cc1_scratch6 (storeIdx g ![rows, cols] w (fun _ => 1#1) false h)
          -∗ wp frame (wpE (defs₀ (F := F)) 𝒱₀ (VT d L) none) Set.univ (k ⟨⟩) Q)
        -∗ wp frame (wpE (defs₀ (F := F)) 𝒱₀ (VT d L) none) Set.univ
            (SparseCore.vectorStoreIdx (Memref.whole cc1_scratch6 : Memref sig .scVector .vmem S128x64 .f32) ![rows, cols] w (fun _ => 1#1) false h hs >>= k) Q) := by
  have := SparseCore.wp_vectorStoreIdx (defs := defs₀ (F := F)) (Q := Q) 𝒱₀ (VT d L) none Set.univ
    (base := (Memref.whole cc1_scratch6 : Memref sig .scVector .vmem S128x64 .f32)) (idxs := ![rows, cols]) (v := w) (mask := fun _ => 1#1) (add := false)
    (h := h) (hs := hs) (k := k) (f := g)
  rw [Memref.set_access_whole] at this
  rw [Memref.write_access_whole_univ, Memref.read_access_whole] at this
  exact this

/-- The index words trip `t` loads. -/
theorem load_lane (t : Fin k1_t1_loop.trips) (ix : Vec F S1024 .i32) (k : Fin 16) :
    (Memref.whole cc1_scratch0 : Memref sig .scVector .vmem S1024 .i32).view.readAt (Elt F)
      (Rect.unit (s := S1024) (k1_off2 t) S16.size (k1_off2_inb t)).toLoadRect ix (Shape.ofLane k : S16.Idx) = ix (i1024 (16 * t.val + k.val)) := by
  have ht := trips_lt t
  have hk := k.isLt
  rw [View.readAt_apply]
  refine congrArg ix (ext1024 ?_)
  show k1_off2 t 0 + 1 * k.val = (16 * t.val + k.val) % 1024
  rw [k1_off2_eq]
  show 16 * t.val + 1 * k.val = _
  omega

theorem trip_wp (d : Dev nD) (L : grid1.Coords) (t : Fin k1_t1_loop.trips) (w4 w5 w6 w7 : Vec F S16 .f32)
    (ix : Vec F S1024 .i32) (a b c e : Vec F S4096 .f32) (g : Vec F S128x64 .f32)
    (hix : ∀ x, (ix x : BitVec 32).toNat < 4096) :
    (iprop(sPts d L cc1_scratch0 ix ∗ sPts d L cc1_scratch1 a ∗ sPts d L cc1_scratch2 b ∗ sPts d L cc1_scratch3 c ∗ sPts d L cc1_scratch4 e
        ∗ sPts d L cc1_scratch6 g) : sProp 𝕄)
      ⊢ wp frame (wpE (defs₀ (F := F)) 𝒱₀ (VT d L) none) Set.univ
          (k1_t1_body L (Memref.whole main_v3_scv) (Memref.isWhole_whole _) (Memref.whole main_v0_scv) (Memref.isWhole_whole _) (Memref.whole main_v2_1_scv) (Memref.isWhole_whole _) (Memref.whole main_v4_scv) (Memref.isWhole_whole _) (Memref.whole main_arg4_scv) (Memref.isWhole_whole _) (Memref.whole main_v5_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _)
            cc1_scoped0 cc1_scoped1 cc1_scoped2 cc1_scoped3 cc1_scoped4 cc1_scoped5 cc1_scoped6 cc1_scoped7 (w2 L) (w3 L) w5 w6 w7 (k1_pay27 w4) (k1_pay28 w4) (k1_pay29 w4) (k1_pay30 w4) (k1_pay31 w4) (k1_pay32 w4) (k1_pay33 w4) (k1_pay34 w4) (k1_pay36 (k1_pay35 w4)) (k1_pay37 w4) (k1_pay38 w4) (k1_pay39 w4) (k1_pay40 w4) (k1_pay41 w4) (k1_pay42 w4) (k1_pay43 w4) (k1_pay44 w5) (k1_pay45 w5) (k1_pay46 w5) (k1_pay47 w5) (k1_pay48 w5) (k1_pay49 w5) (k1_pay50 w5) (k1_pay51 w5) (k1_pay52 w6) (k1_pay53 w6) (k1_pay54 w6) (k1_pay55 w6) (k1_pay56 w6) (k1_pay57 w6) (k1_pay58 w6) (k1_pay59 w6) (k1_pay60 w5 w6 w7) (k1_pay61 w5 w6) lanes t ())
          fun _ => iprop(sPts d L cc1_scratch0 ix ∗ sPts d L cc1_scratch1 a ∗ sPts d L cc1_scratch2 b ∗ sPts d L cc1_scratch3 c ∗ sPts d L cc1_scratch4 e
            ∗ ∃ g' : Vec F S128x64 .f32, ⌜∀ j, g' j = if (j 0).val / 2 = t.val then tileAt (128 * tileN L) w4 w5 w6 w7 ix a b c e (j 0).val (j 1).val else g j⌝
                ∗ sPts d L cc1_scratch6 g') := by
  iintro ⟨H0, H1, H2, H3, H4, H6⟩
  unfold k1_t1_body
  simp only [k1_part1_eq_skeleton, k1_part2_eq_skeleton, k1_part3_eq_skeleton]
  unfold k1_part1_skel k1_part2_skel k1_part3_skel
  simp only [bind_assoc, pure_bind]
  have ht := trips_lt t
  have hn := tileN_lt L
  iapply (wp_load 𝒱₀ (VT d L) none Set.univ (m := (Memref.whole cc1_scratch0 : Memref sig .scVector .vmem S1024 .i32)) (S := Finset.univ) (q := fullShare) (f := ix) (Finset.subset_univ _)) $$ H0
  iintro H0
  generalize hv : (Memref.whole cc1_scratch0 : Memref sig .scVector .vmem S1024 .i32).view.readAt (Elt F)
      (Rect.unit (s := S1024) (k1_off2 t) S16.size (k1_off2_inb t)).toLoadRect ix = v
  have hvl : ∀ k : Fin 16, v (Shape.ofLane k : S16.Idx) = ix (i1024 (16 * t.val + k.val)) := fun k => hv ▸ load_lane t ix k
  have c1 : ∀ a x, ((![v] : Fin 1 → IVec S16 32) a x).toNat < S4096.size a := fun a => allLanes fun k => by
    match a with
    | 0 => show (v (Shape.ofLane k : S16.Idx) : BitVec 32).toNat < 4096; rw [hvl]; exact hix _
  have c2 : ∀ a x, ((![k1_pay2 (w3 L) lanes 0#32 1#32 t] : Fin 1 → IVec S16 32) a x).toNat < S4096.size a := fun a => allLanes fun k => by
    match a with
    | 0 =>
      show (k1_pay2 (w3 L) lanes 0#32 1#32 t (Shape.ofLane k : S16.Idx)).toNat < 4096
      rw [self_toNat]; have := k.isLt; omega
  have hc (e : Nat) (he : e < 8) := rows_inb (k1_pay7 (w2 L) (k1_pay2 (w3 L) lanes 0#32 1#32 t)) (addi (k1_pay8 (w3 L) lanes 0#32 1#32 t) (broadcast S16 (BitVec.ofNat 32 e)))
    t.val e ht he (row_toNat L t) (colAdd_toNat L t e he)
  iapply (wp_pass d L (show k1_chk1 v from ⟨c1, c1, c1, c1⟩))
  iapply (wp_pass d L (show k1_chk2 _ from ⟨c2, c2, c2, c2⟩))
  iapply (SparseCore.wp_vectorLoadIdx 𝒱₀ (VT d L) none Set.univ (base := (Memref.whole cc1_scratch1 : Memref sig .scVector .vmem S4096 .f32)) (S := Finset.univ) (q := fullShare) (f := a) (Finset.subset_univ _)) $$ H1; iintro H1
  iapply (SparseCore.wp_vectorLoadIdx 𝒱₀ (VT d L) none Set.univ (base := (Memref.whole cc1_scratch2 : Memref sig .scVector .vmem S4096 .f32)) (S := Finset.univ) (q := fullShare) (f := b) (Finset.subset_univ _)) $$ H2; iintro H2
  iapply (SparseCore.wp_vectorLoadIdx 𝒱₀ (VT d L) none Set.univ (base := (Memref.whole cc1_scratch1 : Memref sig .scVector .vmem S4096 .f32)) (S := Finset.univ) (q := fullShare) (f := a) (Finset.subset_univ _)) $$ H1; iintro H1
  iapply (SparseCore.wp_vectorLoadIdx 𝒱₀ (VT d L) none Set.univ (base := (Memref.whole cc1_scratch2 : Memref sig .scVector .vmem S4096 .f32)) (S := Finset.univ) (q := fullShare) (f := b) (Finset.subset_univ _)) $$ H2; iintro H2
  iapply (SparseCore.wp_vectorLoadIdx 𝒱₀ (VT d L) none Set.univ (base := (Memref.whole cc1_scratch3 : Memref sig .scVector .vmem S4096 .f32)) (S := Finset.univ) (q := fullShare) (f := c) (Finset.subset_univ _)) $$ H3; iintro H3
  iapply (SparseCore.wp_vectorLoadIdx 𝒱₀ (VT d L) none Set.univ (base := (Memref.whole cc1_scratch4 : Memref sig .scVector .vmem S4096 .f32)) (S := Finset.univ) (q := fullShare) (f := e) (Finset.subset_univ _)) $$ H4; iintro H4
  iapply (SparseCore.wp_vectorLoadIdx 𝒱₀ (VT d L) none Set.univ (base := (Memref.whole cc1_scratch3 : Memref sig .scVector .vmem S4096 .f32)) (S := Finset.univ) (q := fullShare) (f := c) (Finset.subset_univ _)) $$ H3; iintro H3
  iapply (SparseCore.wp_vectorLoadIdx 𝒱₀ (VT d L) none Set.univ (base := (Memref.whole cc1_scratch4 : Memref sig .scVector .vmem S4096 .f32)) (S := Finset.univ) (q := fullShare) (f := e) (Finset.subset_univ _)) $$ H4; iintro H4
  iapply (wp_pass d L (show k1_chk3 _ _ from hc 0 (by decide))); iapply (wp_scatter d L) $$ H6; iintro H6
  iapply (wp_pass d L (show k1_chk4 _ _ from hc 1 (by decide))); iapply (wp_scatter d L) $$ H6; iintro H6
  iapply (wp_pass d L (show k1_chk5 _ _ from hc 2 (by decide))); iapply (wp_scatter d L) $$ H6; iintro H6
  iapply (wp_pass d L (show k1_chk6 _ _ from hc 3 (by decide))); iapply (wp_scatter d L) $$ H6; iintro H6
  iapply (wp_pass d L (show k1_chk7 _ _ from hc 4 (by decide))); iapply (wp_scatter d L) $$ H6; iintro H6
  iapply (wp_pass d L (show k1_chk8 _ _ from hc 5 (by decide))); iapply (wp_scatter d L) $$ H6; iintro H6
  iapply (wp_pass d L (show k1_chk9 _ _ from hc 6 (by decide))); iapply (wp_scatter d L) $$ H6; iintro H6
  iapply (wp_pass d L (show k1_chk10 _ _ from hc 7 (by decide))); iapply (wp_scatter d L) $$ H6; iintro H6
  sl_step
  isplitl [H0]; · iexact H0
  isplitl [H1]; · iexact H1
  isplitl [H2]; · iexact H2
  isplitl [H3]; · iexact H3
  isplitl [H4]; · iexact H4
  iexists _; isplitr [H6]
  rotate_left
  · iexact H6
  ipureintro
  intro j
  simp only [Memref.read_access_whole]
  have hk16 (k : Fin 16) : k.val < 16 := k.isLt
  have g1 (f : Vec F S4096 .f32) (k : Fin 16) : loadIdx f ![v] c1 (Shape.ofLane k : S16.Idx) = f (i4096 (ix (i1024 (16 * t.val + k.val)) : BitVec 32).toNat) :=
    (gather_lane f v c1 k).trans (by rw [hvl])
  have g2 (f : Vec F S4096 .f32) (k : Fin 16) : loadIdx f ![k1_pay2 (w3 L) lanes 0#32 1#32 t] c2 (Shape.ofLane k : S16.Idx) = f (i4096 (128 * tileN L + (2 * t.val + k.val / 8))) :=
    (gather_lane f _ c2 k).trans (by rw [self_toNat])
  refine sweep g _ (fun e => addi (k1_pay8 (w3 L) lanes 0#32 1#32 t) (broadcast S16 (BitVec.ofNat 32 e))) _ _ _ _ _ _ _ _
    (tileAt (128 * tileN L) w4 w5 w6 w7 ix a b c e) t.val (row_toNat L t) (colAdd_toNat L t) ?_ ?_ ?_ ?_ ?_ ?_ ?_ ?_ _ _ _ _ _ _ _ _ j
  · intro k
    refine Eq.trans ?_ (tile_lane (128 * tileN L) w4 w5 w6 w7 ix a b c e t.val 0 k.val (hk16 k) (by decide)).symm
    rw [← g1 a k, ← g1 b k, ← g1 c k, ← g1 e k, ← g2 a k, ← g2 b k, ← g2 c k, ← g2 e k]
    exact lane0 w4 w5 w6 w7 (loadIdx a ![v] c1) (loadIdx b ![v] c1) (loadIdx a _ c2) (loadIdx b _ c2) (loadIdx c ![v] c1) (loadIdx e ![v] c1) (loadIdx c _ c2) (loadIdx e _ c2) (Shape.ofLane k : S16.Idx)
  · intro k
    refine Eq.trans ?_ (tile_lane (128 * tileN L) w4 w5 w6 w7 ix a b c e t.val 1 k.val (hk16 k) (by decide)).symm
    rw [← g1 a k, ← g1 b k, ← g1 c k, ← g1 e k, ← g2 a k, ← g2 b k, ← g2 c k, ← g2 e k]
    exact lane1 w4 w5 w6 w7 (loadIdx a ![v] c1) (loadIdx b ![v] c1) (loadIdx a _ c2) (loadIdx b _ c2) (loadIdx c ![v] c1) (loadIdx e ![v] c1) (loadIdx c _ c2) (loadIdx e _ c2) (Shape.ofLane k : S16.Idx)
  · intro k
    refine Eq.trans ?_ (tile_lane (128 * tileN L) w4 w5 w6 w7 ix a b c e t.val 2 k.val (hk16 k) (by decide)).symm
    rw [← g1 a k, ← g1 b k, ← g1 c k, ← g1 e k, ← g2 a k, ← g2 b k, ← g2 c k, ← g2 e k]
    exact lane2 w4 w5 w6 w7 (loadIdx a ![v] c1) (loadIdx b ![v] c1) (loadIdx a _ c2) (loadIdx b _ c2) (loadIdx c ![v] c1) (loadIdx e ![v] c1) (loadIdx c _ c2) (loadIdx e _ c2) (Shape.ofLane k : S16.Idx)
  · intro k
    refine Eq.trans ?_ (tile_lane (128 * tileN L) w4 w5 w6 w7 ix a b c e t.val 3 k.val (hk16 k) (by decide)).symm
    rw [← g1 a k, ← g1 b k, ← g1 c k, ← g1 e k, ← g2 a k, ← g2 b k, ← g2 c k, ← g2 e k]
    exact lane3 w4 w5 w6 w7 (loadIdx a ![v] c1) (loadIdx b ![v] c1) (loadIdx a _ c2) (loadIdx b _ c2) (loadIdx c ![v] c1) (loadIdx e ![v] c1) (loadIdx c _ c2) (loadIdx e _ c2) (Shape.ofLane k : S16.Idx)
  · intro k
    refine Eq.trans ?_ (tile_lane (128 * tileN L) w4 w5 w6 w7 ix a b c e t.val 4 k.val (hk16 k) (by decide)).symm
    rw [← g1 a k, ← g1 b k, ← g1 c k, ← g1 e k, ← g2 a k, ← g2 b k, ← g2 c k, ← g2 e k]
    exact lane4 w4 w5 w6 w7 (loadIdx a ![v] c1) (loadIdx b ![v] c1) (loadIdx a _ c2) (loadIdx b _ c2) (loadIdx c ![v] c1) (loadIdx e ![v] c1) (loadIdx c _ c2) (loadIdx e _ c2) (Shape.ofLane k : S16.Idx)
  · intro k
    refine Eq.trans ?_ (tile_lane (128 * tileN L) w4 w5 w6 w7 ix a b c e t.val 5 k.val (hk16 k) (by decide)).symm
    rw [← g1 a k, ← g1 b k, ← g1 c k, ← g1 e k, ← g2 a k, ← g2 b k, ← g2 c k, ← g2 e k]
    exact lane5 w4 w5 w6 w7 (loadIdx a ![v] c1) (loadIdx b ![v] c1) (loadIdx a _ c2) (loadIdx b _ c2) (loadIdx c ![v] c1) (loadIdx e ![v] c1) (loadIdx c _ c2) (loadIdx e _ c2) (Shape.ofLane k : S16.Idx)
  · intro k
    refine Eq.trans ?_ (tile_lane (128 * tileN L) w4 w5 w6 w7 ix a b c e t.val 6 k.val (hk16 k) (by decide)).symm
    rw [← g1 a k, ← g1 b k, ← g1 c k, ← g1 e k, ← g2 a k, ← g2 b k, ← g2 c k, ← g2 e k]
    exact lane6 w4 w5 w6 w7 (loadIdx a ![v] c1) (loadIdx b ![v] c1) (loadIdx a _ c2) (loadIdx b _ c2) (loadIdx c ![v] c1) (loadIdx e ![v] c1) (loadIdx c _ c2) (loadIdx e _ c2) (Shape.ofLane k : S16.Idx)
  · intro k
    refine Eq.trans ?_ (tile_lane (128 * tileN L) w4 w5 w6 w7 ix a b c e t.val 7 k.val (hk16 k) (by decide)).symm
    rw [← g1 a k, ← g1 b k, ← g1 c k, ← g1 e k, ← g2 a k, ← g2 b k, ← g2 c k, ← g2 e k]
    exact lane7 w4 w5 w6 w7 (loadIdx a ![v] c1) (loadIdx b ![v] c1) (loadIdx a _ c2) (loadIdx b _ c2) (loadIdx c ![v] c1) (loadIdx e ![v] c1) (loadIdx c _ c2) (loadIdx e _ c2) (Shape.ofLane k : S16.Idx)

end Cert.Proof

end
-- ==== Proof.TileOut.lean ====
/-
  The result a tile leaves, in terms of the tables it reads: what its seven copies put into its scratch buffers, element by
  element, and the rows of the result.
-/
module

public import proofs.«01_k».proof.Proof.TileValue

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## Places in the tables, by number -/

def i32768 (k : Nat) : S32768.Idx := fun | 0 => ⟨k % 32768, Nat.mod_lt _ (by decide)⟩
def i2 (r k : Nat) : S2x4096.Idx := fun | 0 => ⟨r % 2, Nat.mod_lt _ (by decide)⟩ | 1 => ⟨k % 4096, Nat.mod_lt _ (by decide)⟩

/-- Row `r`, column `q` of the result, from the five tables: neighbour `q / 8` of agent `r`, entry `q % 8`. -/
def outAt (iv : Vec F S32768 .i32) (x u : Vec F S2x4096 .f32) (ww : Vec F S48 .f32) (bb : Vec F S8 .f32) (r q : Nat) : F .f32 :=
  let j := (iv (i32768 (8 * r + q / 8)) : BitVec 32).toNat
  entry (FloatOps.subf (x (i2 0 j)) (x (i2 0 r))) (FloatOps.subf (x (i2 1 j)) (x (i2 1 r)))
    (FloatOps.subf (u (i2 0 j)) (u (i2 0 r))) (FloatOps.subf (u (i2 1 j)) (u (i2 1 r)))
    (ww (i48 (q % 8))) (ww (i48 (8 + q % 8))) (ww (i48 (24 + q % 8))) (ww (i48 (32 + q % 8)))
    (Scalar.addf (Scalar.addf (ww (i48 (16 + q % 8))) (ww (i48 (40 + q % 8)))) (bb (i8 (q % 8))))

/-- The whole result. -/
def outF (iv : Vec F S32768 .i32) (x u : Vec F S2x4096 .f32) (ww : Vec F S48 .f32) (bb : Vec F S8 .f32) : Vec F S4096x64 .f32 :=
  fun j => outAt iv x u ww bb (j 0).val (j 1).val

/-- A tile's block holds the result's rows from the tile's first agent on. -/
theorem tileAt_eq (T : Nat) (hT : T < 32) (iv : Vec F S32768 .i32) (x u : Vec F S2x4096 .f32) (ww : Vec F S48 .f32) (bb : Vec F S8 .f32)
    (w4 w5 w6 w7 : Vec F S16 .f32) (ix : Vec F S1024 .i32) (a b c d : Vec F S4096 .f32)
    (h4 : ∀ k, k < 16 → w4 (i16 k) = ww (i48 k)) (h5 : ∀ k, k < 16 → w5 (i16 k) = ww (i48 (16 + k)))
    (h6 : ∀ k, k < 16 → w6 (i16 k) = ww (i48 (32 + k))) (h7 : ∀ k, k < 8 → w7 (i16 k) = bb (i8 k))
    (hi : ∀ k, k < 1024 → ix (i1024 k) = iv (i32768 (1024 * T + k)))
    (ha : ∀ k, a (i4096 k) = x (i2 0 k)) (hb : ∀ k, b (i4096 k) = x (i2 1 k)) (hc : ∀ k, c (i4096 k) = u (i2 0 k)) (hd : ∀ k, d (i4096 k) = u (i2 1 k))
    (n q : Nat) (hn : n < 128) (hq : q < 64) :
    tileAt (128 * T) w4 w5 w6 w7 ix a b c d n q = outAt iv x u ww bb (128 * T + n) q := by
  have he : q % 8 < 8 := Nat.mod_lt _ (by decide)
  unfold tileAt outAt biasE
  rw [hi _ (by omega), h4 _ (by omega), h4 _ (by omega), h5 _ (by omega), h5 _ (by omega), h6 _ (by omega), h6 _ (by omega), h7 _ he,
    show 1024 * T + (8 * n + q / 8) = 8 * (128 * T + n) + q / 8 by omega, show 16 + (8 + q % 8) = 24 + q % 8 by omega,
    show 32 + (8 + q % 8) = 40 + q % 8 by omega]
  simp only [ha, hb, hc, hd]

/-! ## What the copies land -/

/-- The parameters' buffer after its two copies: lanes 0 to 47 hold the weights, -/
theorem params_lo (d : Dev nD) (L : grid1.Coords) (f : Buf (Elt F) ((Memref.whole cc1_scratch5 : Memref sig .scVector .vmem S64 .f32).view.loc (VT d L)))
    (p8 : Vec F S8 .f32) (p48 : Vec F S48 .f32) (off : Nat) (inb : ∀ a, (![off] : Fin 1 → Nat) a + S16.size a ≤ S64.size a) (k : Nat) (hk : k < 16) (h : off + k < 48) :
    View.readAt (Elt F) (Memref.whole cc1_scratch5 : Memref sig .scVector .vmem S64 .f32).view (Rect.unit (s := S64) ![off] S16.size inb).toLoadRect
      ((Memref.whole cc1_scratch5 : Memref sig .scVector .vmem S64 .f32).view.writes (Elt F) f
        [⟨Rect.unit (s := S64) ![48] S8.size inb_S64_S8_48, p8⟩, ⟨Rect.unit (s := S64) ![0] S48.size inb_S64_S48_0, p48⟩]) (i16 k) = p48 (i48 (off + k)) := by
  rw [View.readAt_apply]
  have hy : (((Rect.unit (s := S64) ![off] S16.size inb).toLoadRect.idx (i16 k)) 0).val = off + k := by
    show off + 1 * (k % 16) = _; omega
  rw [View.read_writes_cons_miss_of_axis _ _ _ _ _ 0 48 8 rfl rfl rfl (Or.inl (by rw [hy]; exact h))]
  refine View.read_writes_cons_hit_of_coords _ _ (Rect.unit (s := S64) ![0] S48.size inb_S64_S48_0) p48 _ (i48 (off + k)) _ fun a => ?_
  match a with
  | 0 => rw [hy]; show off + k = 0 + 1 * ((off + k) % 48); omega

/-- and lanes 48 to 55 the bias. -/
theorem params_hi (d : Dev nD) (L : grid1.Coords) (f : Buf (Elt F) ((Memref.whole cc1_scratch5 : Memref sig .scVector .vmem S64 .f32).view.loc (VT d L)))
    (p8 : Vec F S8 .f32) (L' : List (View.Piece (Elt F) S64 .f32)) (inb : ∀ a, (![48] : Fin 1 → Nat) a + S16.size a ≤ S64.size a) (k : Nat) (hk : k < 8) :
    View.readAt (Elt F) (Memref.whole cc1_scratch5 : Memref sig .scVector .vmem S64 .f32).view (Rect.unit (s := S64) ![48] S16.size inb).toLoadRect
      ((Memref.whole cc1_scratch5 : Memref sig .scVector .vmem S64 .f32).view.writes (Elt F) f
        (⟨Rect.unit (s := S64) ![48] S8.size inb_S64_S8_48, p8⟩ :: L')) (i16 k) = p8 (i8 k) := by
  rw [View.readAt_apply]
  have hy : (((Rect.unit (s := S64) ![48] S16.size inb).toLoadRect.idx (i16 k)) 0).val = 48 + k := by
    show 48 + 1 * (k % 16) = _; omega
  refine View.read_writes_cons_hit_of_coords _ _ (Rect.unit (s := S64) ![48] S8.size inb_S64_S8_48) p8 _ (i8 k) _ fun a => ?_
  match a with
  | 0 => rw [hy]; show 48 + k = 48 + 1 * (k % 8); omega

/-- A row of a two-row table, as a copy reads it. -/
theorem row_x (x : Vec F S2x4096 .f32) (r : Nat) (hr : r < 2) (inb : ∀ a, (![r, 0] : Fin 2 → Nat) a + S1x4096.size a ≤ S2x4096.size a) (hs) (hq) (k : Nat) :
    (ReadAs.same : ReadAs (Elt F) S4096 .f32 S4096 .f32).apply (View.read (Elt F)
      (((Memref.whole main_v0_scv : Memref sig .scVector .hbm S2x4096 .f32).slice (Rect.unit (s := S2x4096) ![r, 0] S1x4096.size inb) hs).squeeze S4096 hq).view x) (i4096 k)
      = x (i2 r k) := by
  refine ((View.read_apply _ _).trans (cast_eq _ _)).trans (congrArg x ?_)
  funext a
  apply Fin.ext
  show ((Rect.unit (s := S2x4096) ![r, 0] S1x4096.size inb).emb (Shape.reshapeEquiv hq.numel_eq (i4096 k)) a).val = _
  have : Shape.reshapeEquiv hq.numel_eq (i4096 k) = (Fin.cons ⟨0, Nat.one_pos⟩ (i4096 k) : S1x4096.Idx) := Shape.reshapeEquiv_cons_one _ _
  rw [this]
  match a with
  | 0 => show r + 1 * 0 = r % 2; omega
  | 1 => show 0 + 1 * (k % 4096) = k % 4096; omega

theorem row_u (x : Vec F S2x4096 .f32) (r : Nat) (hr : r < 2) (inb : ∀ a, (![r, 0] : Fin 2 → Nat) a + S1x4096.size a ≤ S2x4096.size a) (hs) (hq) (k : Nat) :
    (ReadAs.same : ReadAs (Elt F) S4096 .f32 S4096 .f32).apply (View.read (Elt F)
      (((Memref.whole main_v2_1_scv : Memref sig .scVector .hbm S2x4096 .f32).slice (Rect.unit (s := S2x4096) ![r, 0] S1x4096.size inb) hs).squeeze S4096 hq).view x) (i4096 k)
      = x (i2 r k) :=
  row_x x r hr inb hs hq k

/-- The tile's index words, as its copy reads them. -/
theorem words_apply (L : grid1.Coords) (iv : Vec F S32768 .i32) (hs) (k : Nat) (hk : k < 1024) :
    (ReadAs.same : ReadAs (Elt F) S1024 .i32 S1024 .i32).apply (View.read (Elt F)
      ((Memref.whole main_v3_scv : Memref sig .scVector .hbm S32768 .i32).slice (Rect.unit (s := S32768) (k1_off1 L) S1024.size (k1_off1_inb L)) hs).view iv) (i1024 k)
      = iv (i32768 (1024 * tileN L + k)) := by
  have hT := tileN_lt L
  refine ((View.read_apply _ _).trans (cast_eq _ _)).trans (congrArg iv ?_)
  funext a
  apply Fin.ext
  show ((Rect.unit (s := S32768) (k1_off1 L) S1024.size (k1_off1_inb L)).emb (i1024 k) a).val = _
  match a with
  | 0 =>
    show k1_off1 L 0 + 1 * (k % 1024) = (1024 * tileN L + k) % 32768
    rw [k1_off1_eq]
    show 2048 * (L 1).val + 1024 * (L 0).val + 1 * (k % 1024) = _
    unfold tileN at hT ⊢
    omega

end Cert.Proof

end
-- ==== Proof.Tile.lean ====
/-
  A tile's whole run: seven copies in, the loop, one copy out.
-/
module

public import proofs.«01_k».proof.Proof.Trip
public import proofs.«01_k».proof.Proof.TileOut

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- A table in memory at a read share, as a tile names it. -/
abbrev rPts (d : Dev nD) (L : grid1.Coords) (b : Ref sig .scVector) (q : PosShare TreeShare) (f : Buf (Elt F) ((VT d L).loc b)) : sProp 𝕄 :=
  (Memref.whole b).view.loc (VT d L) ↦{q} f

/-- The tile's block of the result, as the body slices it. -/
abbrev oBlk (L : grid1.Coords) : Memref sig .scVector .hbm S128x64 .f32 := (Memref.whole main_v5_scv).slice (Rect.unit (s := S4096x64) (k1_off3 L) S128x64.size (k1_off3_inb L)) (fun _ => rfl)

abbrev csem (k : Nat) (hk : k < 15 := by decide) : DmaSem sig := ⟨k, hk⟩
abbrev cells0 (d : Dev nD) (L : grid1.Coords) : sProp 𝕄 :=
  iprop(semVal (VT d L, SemLoc.dma (csem 7)) 0 ∗ semVal (VT d L, SemLoc.dma (csem 8)) 0 ∗ semVal (VT d L, SemLoc.dma (csem 9)) 0
    ∗ semVal (VT d L, SemLoc.dma (csem 10)) 0 ∗ semVal (VT d L, SemLoc.dma (csem 11)) 0 ∗ semVal (VT d L, SemLoc.dma (csem 12)) 0
    ∗ semVal (VT d L, SemLoc.dma (csem 13)) 0 ∗ semVal (VT d L, SemLoc.dma (csem 14)) 0)

/-- Before trip `t` of the loop: the five read buffers unchanged, the block's rows below `2 t` done. -/
def inv (d : Dev nD) (L : grid1.Coords) (w4 w5 w6 w7 : Vec F S16 .f32) (ix : Vec F S1024 .i32) (a b c e : Vec F S4096 .f32) (t : Nat) (_ : Unit) : sProp 𝕄 :=
  iprop(sPts d L cc1_scratch0 ix ∗ sPts d L cc1_scratch1 a ∗ sPts d L cc1_scratch2 b ∗ sPts d L cc1_scratch3 c ∗ sPts d L cc1_scratch4 e
    ∗ ∃ g : Vec F S128x64 .f32, ⌜∀ j : S128x64.Idx, (j 0).val < 2 * t → g j = tileAt (128 * tileN L) w4 w5 w6 w7 ix a b c e (j 0).val (j 1).val⌝
        ∗ sPts d L cc1_scratch6 g)

/-- The block on its way out lands as the result's rows. -/
theorem out_set (d : Dev nD) (L : grid1.Coords) (iv : Vec F S32768 .i32) (x u : Vec F S2x4096 .f32) (ww : Vec F S48 .f32) (bb : Vec F S8 .f32)
    (o0 : Buf (Elt F) ((oBlk L).view.loc (VT d L))) (w : Vec F S128x64 .f32)
    (hw : ∀ j : S128x64.Idx, w j = outAt iv x u ww bb (128 * tileN L + (j 0).val) (j 1).val) :
    ∀ z ∈ (oBlk L).view.set, (oBlk L).view.writes (Elt F) o0 [⟨Rect.whole S128x64, w⟩] z = (outF iv x u ww bb : Vec F S4096x64 .f32) z := by
  intro z hz
  obtain ⟨y, -, rfl⟩ := Finset.mem_map.1 hz
  rw [← View.write_univ_eq_writes_whole, View.writes_nil, View.write_emb_of_mem _ _ (Finset.mem_univ _), cast_eq]
  refine (hw y).trans ?_
  have e0 : (((oBlk L).view.emb y) 0).val = 128 * tileN L + (y 0).val := by
    show k1_off3 L 0 + 1 * (y 0).val = _
    rw [k1_off3_eq]
    show 256 * (L 1).val + 128 * (L 0).val + 1 * (y 0).val = 128 * (2 * (L 1).val + (L 0).val) + (y 0).val
    omega
  have e1 : (((oBlk L).view.emb y) 1).val = (y 1).val := by
    show k1_off3 L 1 + 1 * (y 1).val = _
    rw [k1_off3_eq]
    show 0 + 1 * (y 1).val = (y 1).val
    omega
  show _ = outAt iv x u ww bb (((oBlk L).view.emb y) 0).val (((oBlk L).view.emb y) 1).val
  rw [e0, e1]

theorem out_land (d : Dev nD) (L : grid1.Coords) (iv : Vec F S32768 .i32) (x u : Vec F S2x4096 .f32) (ww : Vec F S48 .f32) (bb : Vec F S8 .f32)
    (o0 : Buf (Elt F) ((oBlk L).view.loc (VT d L))) (w : Vec F S128x64 .f32)
    (hw : ∀ j : S128x64.Idx, w j = outAt iv x u ww bb (128 * tileN L + (j 0).val) (j 1).val) :
    (((oBlk L).view.loc (VT d L) ↦[(oBlk L).view.set]{fullShare} (oBlk L).view.writes (Elt F) o0 [⟨Rect.whole S128x64, w⟩]) : sProp 𝕄)
      ⊢ ((oBlk L).view.loc (VT d L) ↦[(oBlk L).view.set]{fullShare} outF iv x u ww bb) :=
  by rw [pointsTo_congr (out_set d L iv x u ww bb o0 w hw)]

/-- The loop and the copy out, from what the copies in have put into the scratch buffers. -/
theorem rest_wp (d : Dev nD) (L : grid1.Coords) (O : CellTallies nD τ sig (HIx 1)) (W : Waits sig (HIx 1))
    (iv : Vec F S32768 .i32) (x u : Vec F S2x4096 .f32) (ww : Vec F S48 .f32) (bb : Vec F S8 .f32)
    (hiv : ∀ j, (iv j : BitVec 32).toNat < 4096) (o0 : Buf (Elt F) ((oBlk L).view.loc (VT d L)))
    (w4 w5 w6 w7 : Vec F S16 .f32) (ix : Vec F S1024 .i32) (a b c e : Vec F S4096 .f32) (s6 : Vec F S128x64 .f32)
    (h4 : ∀ k, k < 16 → w4 (i16 k) = ww (i48 k)) (h5 : ∀ k, k < 16 → w5 (i16 k) = ww (i48 (16 + k)))
    (h6 : ∀ k, k < 16 → w6 (i16 k) = ww (i48 (32 + k))) (h7 : ∀ k, k < 8 → w7 (i16 k) = bb (i8 k))
    (hi : ∀ k, k < 1024 → ix (i1024 k) = iv (i32768 (1024 * tileN L + k)))
    (ha : ∀ k, a (i4096 k) = x (i2 0 k)) (hb : ∀ k, b (i4096 k) = x (i2 1 k)) (hc : ∀ k, c (i4096 k) = u (i2 0 k)) (he : ∀ k, e (i4096 k) = u (i2 1 k)) :
    (iprop(Transfers.MayWaits (VT d L) (default : HIx 1) O
        ∗ sPts d L cc1_scratch0 ix ∗ sPts d L cc1_scratch1 a ∗ sPts d L cc1_scratch2 b ∗ sPts d L cc1_scratch3 c ∗ sPts d L cc1_scratch4 e
        ∗ sPts d L cc1_scratch6 s6
        ∗ ((oBlk L).view.loc (VT d L) ↦[(oBlk L).view.set]{fullShare} o0)
        ∗ semVal (VT d L, SemLoc.dma (csem 14)) 0
        ∗ owes (VT d L) O W) : sProp 𝕄)
      ⊢ wp frame (wpE (defs₀ (F := F)) 𝒱₀ (VT d L) none) Set.univ (do
          Scf.Loop.for k1_t1_loop k1_t1_ok ⟨⟩ (k1_t1_body L (Memref.whole main_v3_scv) (Memref.isWhole_whole _) (Memref.whole main_v0_scv) (Memref.isWhole_whole _) (Memref.whole main_v2_1_scv) (Memref.isWhole_whole _) (Memref.whole main_v4_scv) (Memref.isWhole_whole _) (Memref.whole main_arg4_scv) (Memref.isWhole_whole _) (Memref.whole main_v5_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _)
            cc1_scoped0 cc1_scoped1 cc1_scoped2 cc1_scoped3 cc1_scoped4 cc1_scoped5 cc1_scoped6 cc1_scoped7 (w2 L) (w3 L) w5 w6 w7 (k1_pay27 w4) (k1_pay28 w4) (k1_pay29 w4) (k1_pay30 w4) (k1_pay31 w4) (k1_pay32 w4) (k1_pay33 w4) (k1_pay34 w4) (k1_pay36 (k1_pay35 w4)) (k1_pay37 w4) (k1_pay38 w4) (k1_pay39 w4) (k1_pay40 w4) (k1_pay41 w4) (k1_pay42 w4) (k1_pay43 w4) (k1_pay44 w5) (k1_pay45 w5) (k1_pay46 w5) (k1_pay47 w5) (k1_pay48 w5) (k1_pay49 w5) (k1_pay50 w5) (k1_pay51 w5) (k1_pay52 w6) (k1_pay53 w6) (k1_pay54 w6) (k1_pay55 w6) (k1_pay56 w6) (k1_pay57 w6) (k1_pay58 w6) (k1_pay59 w6) (k1_pay60 w5 w6 w7) (k1_pay61 w5 w6) lanes)
          Prog.lift (.enqueueDma (Memref.whole cc1_scratch6) (.here (oBlk L)) (.dma cc1_scoped7.sem) (Memref.isWhole_whole _).wordExact (View.wordExact_bits rfl) ⟨Or.inl rfl, trivial⟩)
          Prog.lift (.waitDma2 cc1_scoped7.sem (Memref.whole cc1_scratch6) (oBlk L) (Memref.isWhole_whole _).wordExact (View.wordExact_bits rfl))
          pure (⟨⟩ : PUnit))
          fun _ => iprop((∃ f, sPts d L cc1_scratch0 f) ∗ (∃ f, sPts d L cc1_scratch1 f) ∗ (∃ f, sPts d L cc1_scratch2 f) ∗ (∃ f, sPts d L cc1_scratch3 f)
            ∗ (∃ f, sPts d L cc1_scratch4 f) ∗ (∃ f, sPts d L cc1_scratch6 f)
            ∗ ((oBlk L).view.loc (VT d L) ↦[(oBlk L).view.set]{fullShare} outF iv x u ww bb)
            ∗ semVal (VT d L, SemLoc.dma (csem 14)) 0
            ∗ ∃ W', owes (VT d L) O W') := by
  iintro ⟨#Hmw, H0, H1, H2, H3, H4, H6, HO0, Hc7, HO⟩
  have hT := tileN_lt L
  have hix : ∀ z, (ix z : BitVec 32).toNat < 4096 := fun z => by
    have hz : (z 0).val < 1024 := (z 0).isLt
    rw [show z = i1024 (z 0).val from ext1024 (Nat.mod_eq_of_lt hz).symm, hi _ hz]; exact hiv _
  sl_for (inv d L w4 w5 w6 w7 ix a b c e) $$ [H0 H1 H2 H3 H4 H6]
  case region =>
    intro t _
    unfold inv
    iintro ⟨H0, H1, H2, H3, H4, %g, %hg, H6⟩
    iapply (wp_wand_r Idealize.ShloMosaic.frame (wpE (defs₀ (F := F)) 𝒱₀ (VT d L) none) Set.univ)
    isplitl [H0 H1 H2 H3 H4 H6]
    · iapply (trip_wp d L t w4 w5 w6 w7 ix a b c e g hix)
      isplitl [H0]; · iexact H0
      isplitl [H1]; · iexact H1
      isplitl [H2]; · iexact H2
      isplitl [H3]; · iexact H3
      isplitl [H4]; · iexact H4
      iexact H6
    iintro %_ ⟨H0, H1, H2, H3, H4, %g', %hg', H6⟩
    isplitl [H0]; · iexact H0
    isplitl [H1]; · iexact H1
    isplitl [H2]; · iexact H2
    isplitl [H3]; · iexact H3
    isplitl [H4]; · iexact H4
    iexists g'; isplitr
    · ipureintro; intro j hj
      rw [hg' j]
      split_ifs with h
      · rfl
      · exact hg j (by omega)
    · iexact H6
  · unfold inv
    isplitl [H0]; · iexact H0
    isplitl [H1]; · iexact H1
    isplitl [H2]; · iexact H2
    isplitl [H3]; · iexact H3
    isplitl [H4]; · iexact H4
    iexists s6; isplitr
    · ipureintro; intro j hj; omega
    · iexact H6
  iintro %_ HI'
  unfold inv
  icases HI' with ⟨H0, H1, H2, H3, H4, %g, %hg, H6⟩
  sl_exec
  sl_step
  have hg2 : ∀ j : S128x64.Idx, (rest_wp.sl.dma0 g : Vec F S128x64 .f32) j = outAt iv x u ww bb (128 * tileN L + (j 0).val) (j 1).val := by
    intro j
    have hj : (j 0).val < 128 := (j 0).isLt
    refine (hg j (by rw [show Scf.trips k1_t1_loop.lb k1_t1_loop.ub k1_t1_loop.st = 64 by decide]; omega)).trans ?_
    exact tileAt_eq (tileN L) hT iv x u ww bb w4 w5 w6 w7 ix a b c e h4 h5 h6 h7 hi ha hb hc he _ _ hj (j 1).isLt
  generalize rest_wp.sl.dma0 g = w at hg2
  isplitl [H0]; · iexists _; iexact H0
  isplitl [H1]; · iexists _; iexact H1
  isplitl [H2]; · iexists _; iexact H2
  isplitl [H3]; · iexists _; iexact H3
  isplitl [H4]; · iexists _; iexact H4
  isplitl [H6]; · iexists _; iexact H6
  isplitl [HO0]; · iapply (out_land d L iv x u ww bb o0 w hg2); iexact HO0
  isplitl [Hc7]; · iexact Hc7
  iexists _; iexact HO

-- the whole of a tile's body stands in one goal: seven copies, the parameter reads and the loop, each stepping the same separating frame
set_option maxHeartbeats 600000 in
theorem tile_run (d : Dev nD) (L : grid1.Coords) (q : PosShare TreeShare) (O : CellTallies nD τ sig (HIx 1)) (W : Waits sig (HIx 1))
    (iv : Vec F S32768 .i32) (x u : Vec F S2x4096 .f32) (ww : Vec F S48 .f32) (bb : Vec F S8 .f32)
    (hiv : ∀ j, (iv j : BitVec 32).toNat < 4096) (o0 : Buf (Elt F) ((oBlk L).view.loc (VT d L)))
    (s0 : Vec F S1024 .i32) (s1 s2 s3 s4 : Vec F S4096 .f32) (s5 : Vec F S64 .f32) (s6 : Vec F S128x64 .f32) :
    (iprop(Transfers.MayWaits (VT d L) (default : HIx 1) O
        ∗ rPts d L main_v3_scv q iv ∗ rPts d L main_v0_scv q x ∗ rPts d L main_v2_1_scv q u
        ∗ rPts d L main_v4_scv q ww ∗ rPts d L main_arg4_scv q bb
        ∗ ((oBlk L).view.loc (VT d L) ↦[(oBlk L).view.set]{fullShare} o0)
        ∗ sPts d L cc1_scratch0 s0 ∗ sPts d L cc1_scratch1 s1 ∗ sPts d L cc1_scratch2 s2 ∗ sPts d L cc1_scratch3 s3 ∗ sPts d L cc1_scratch4 s4
        ∗ sPts d L cc1_scratch5 s5 ∗ sPts d L cc1_scratch6 s6
        ∗ cells0 d L
        ∗ owes (VT d L) O W) : sProp 𝕄)
      ⊢ wp frame (wpE (defs₀ (F := F)) 𝒱₀ (VT d L) none) Set.univ
          (cc1__sc_body L (Memref.whole main_v3_scv) (Memref.isWhole_whole _) (Memref.whole main_v0_scv) (Memref.isWhole_whole _) (Memref.whole main_v2_1_scv) (Memref.isWhole_whole _) (Memref.whole main_v4_scv) (Memref.isWhole_whole _) (Memref.whole main_arg4_scv) (Memref.isWhole_whole _) (Memref.whole main_v5_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scoped0 cc1_scoped1 cc1_scoped2 cc1_scoped3 cc1_scoped4 cc1_scoped5 cc1_scoped6 cc1_scoped7)
          fun _ => iprop(rPts d L main_v3_scv q iv ∗ rPts d L main_v0_scv q x ∗ rPts d L main_v2_1_scv q u
            ∗ rPts d L main_v4_scv q ww ∗ rPts d L main_arg4_scv q bb
            ∗ ((oBlk L).view.loc (VT d L) ↦[(oBlk L).view.set]{fullShare} outF iv x u ww bb)
            ∗ (∃ f, sPts d L cc1_scratch0 f) ∗ (∃ f, sPts d L cc1_scratch1 f) ∗ (∃ f, sPts d L cc1_scratch2 f) ∗ (∃ f, sPts d L cc1_scratch3 f)
            ∗ (∃ f, sPts d L cc1_scratch4 f) ∗ (∃ f, sPts d L cc1_scratch5 f) ∗ (∃ f, sPts d L cc1_scratch6 f)
            ∗ cells0 d L
            ∗ ∃ W', owes (VT d L) O W') := by
  iintro ⟨#Hmw, HI, HX, HU, HW, HB, HO0, H0, H1, H2, H3, H4, H5, H6, ⟨Hc0, Hc1, Hc2, Hc3, Hc4, Hc5, Hc6, Hc7⟩, HO⟩
  unfold cc1__sc_body
  simp only [k1_part4_eq_skeleton, k1_part5_eq_skeleton, k1_part6_eq_skeleton, k1_part7_eq_skeleton]
  unfold k1_part4_skel k1_part5_skel k1_part6_skel k1_part7_skel
  simp only [bind_assoc, pure_bind]
  sl_exec
  have hT := tileN_lt L
  have h4 : ∀ k, k < 16 → tile_run.sl.x ww bb (i16 k) = ww (i48 k) := fun k hk => by
    have h := params_lo (F := F) d L (Memref.whole cc1_scratch5 : Memref sig .scVector .vmem S64 .f32).view.junk bb ww 0 inb_S64_S16_0 k hk (by omega)
    rw [Nat.zero_add] at h
    exact h
  have h5 : ∀ k, k < 16 → tile_run.sl.x_1 ww bb (i16 k) = ww (i48 (16 + k)) := fun k hk => params_lo (F := F) d L _ bb ww 16 inb_S64_S16_16 k hk (by omega)
  have h6 : ∀ k, k < 16 → tile_run.sl.x_2 ww bb (i16 k) = ww (i48 (32 + k)) := fun k hk => params_lo (F := F) d L _ bb ww 32 inb_S64_S16_32 k hk (by omega)
  have h7 : ∀ k, k < 8 → tile_run.sl.x_3 ww bb s5 (i16 k) = bb (i8 k) := fun k hk => params_hi (F := F) d L _ bb _ inb_S64_S16_48 k hk
  have hi : ∀ k, k < 1024 → tile_run.sl.dma0 L iv (i1024 k) = iv (i32768 (1024 * tileN L + k)) := words_apply L iv _
  have ha : ∀ k, tile_run.sl.dma0_1 x (i4096 k) = x (i2 0 k) := row_x x 0 (by omega) _ _ _
  have hb : ∀ k, tile_run.sl.dma0_2 x (i4096 k) = x (i2 1 k) := row_x x 1 (by omega) _ _ _
  have hc : ∀ k, tile_run.sl.dma0_3 u (i4096 k) = u (i2 0 k) := row_u u 0 (by omega) _ _ _
  have he : ∀ k, tile_run.sl.dma0_4 u (i4096 k) = u (i2 1 k) := row_u u 1 (by omega) _ _ _
  have e0 : ∀ X, View.write (Elt F) (Memref.whole cc1_scratch0 : Memref sig .scVector .vmem S1024 .i32).view s0 X Finset.univ = X := View.write_whole_univ _ _
  have e1 : ∀ X, View.write (Elt F) (Memref.whole cc1_scratch1 : Memref sig .scVector .vmem S4096 .f32).view s1 X Finset.univ = X := View.write_whole_univ _ _
  have e2 : ∀ X, View.write (Elt F) (Memref.whole cc1_scratch2 : Memref sig .scVector .vmem S4096 .f32).view s2 X Finset.univ = X := View.write_whole_univ _ _
  have e3 : ∀ X, View.write (Elt F) (Memref.whole cc1_scratch3 : Memref sig .scVector .vmem S4096 .f32).view s3 X Finset.univ = X := View.write_whole_univ _ _
  have e4 : ∀ X, View.write (Elt F) (Memref.whole cc1_scratch4 : Memref sig .scVector .vmem S4096 .f32).view s4 X Finset.univ = X := View.write_whole_univ _ _
  rw [e0, e1, e2, e3, e4]
  generalize tile_run.sl.x ww bb = w4 at h4 ⊢
  generalize tile_run.sl.x_1 ww bb = w5 at h5 ⊢
  generalize tile_run.sl.x_2 ww bb = w6 at h6 ⊢
  generalize tile_run.sl.x_3 ww bb s5 = w7 at h7 ⊢
  generalize tile_run.sl.dma0 L iv = ix at hi ⊢
  generalize tile_run.sl.dma0_1 x = a at ha ⊢
  generalize tile_run.sl.dma0_2 x = b at hb ⊢
  generalize tile_run.sl.dma0_3 u = c at hc ⊢
  generalize tile_run.sl.dma0_4 u = e at he ⊢
  iapply (wp_wand_r Idealize.ShloMosaic.frame (wpE (defs₀ (F := F)) 𝒱₀ (VT d L) none) Set.univ)
  isplitl [H0 H1 H2 H3 H4 H6 HO0 Hc7 HO]
  · iapply (rest_wp d L O _ iv x u ww bb hiv o0 w4 w5 w6 w7 ix a b c e s6 h4 h5 h6 h7 hi ha hb hc he)
    isplitr; · iexact Hmw
    isplitl [H0]; · iexact H0
    isplitl [H1]; · iexact H1
    isplitl [H2]; · iexact H2
    isplitl [H3]; · iexact H3
    isplitl [H4]; · iexact H4
    isplitl [H6]; · iexact H6
    isplitl [HO0]; · iexact HO0
    isplitl [Hc7]; · iexact Hc7
    iexact HO
  iintro %_ ⟨H0, H1, H2, H3, H4, H6, HO0, Hc7, HO⟩
  isplitl [HI]; · iexact HI
  isplitl [HX]; · iexact HX
  isplitl [HU]; · iexact HU
  isplitl [HW]; · iexact HW
  isplitl [HB]; · iexact HB
  isplitl [HO0]; · iexact HO0
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [Hc0 Hc1 Hc2 Hc3 Hc4 Hc5 Hc6 Hc7]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  iexact HO

end Cert.Proof

end
-- ==== Proof.Obl.lean ====
/-
  The SparseCore call: what the handshakes carry, the tile's obligation, and how a SparseCore's share splits over its tiles.
-/
module

public import proofs.«01_k».proof.Proof.Tile
public import Idealize.ShloMosaic.Lib.ShareLeaves

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownSems0 ownBufs ownCells mem_ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The tables a tile reads, and what the result's buffer holds before the call. -/
structure Tabs (F : FTy → Type) where
  iv : Vec F S32768 .i32
  x : Vec F S2x4096 .f32
  u : Vec F S2x4096 .f32
  ww : Vec F S48 .f32
  bb : Vec F S8 .f32
  o0 : Vec F S4096x64 .f32

/-! ## The tiles' blocks of the result -/

def coordsV (c : Fin (grid1.bound 0)) (s : Fin (grid1.bound 1)) : grid1.Coords :=
  fun | 0 => c | 1 => s | ⟨_ + 2, h⟩ => absurd h (Nat.not_lt.2 (Nat.le_add_left _ _))

abbrev tile (p : Fin 2 × Fin 16) : grid1.Coords := coordsV p.1 p.2
abbrev oSet (p : Fin 2 × Fin 16) : Finset S4096x64.Idx := (oBlk (tile p)).view.set

theorem mem_oSet (p : Fin 2 × Fin 16) (z : S4096x64.Idx) : z ∈ oSet p ↔ (z 0).val / 128 = 2 * p.2.val + p.1.val := by
  have e : oSet p = (Rect.unit (s := S4096x64) (k1_off3 (tile p)) S128x64.size (k1_off3_inb (tile p))).set := by
    show ((View.whole (main_v5_scv : Ref sig .scVector)).slice _).set = _
    rw [View.set_slice]; exact Finset.map_refl
  rw [e, Rect.mem_set_unit]
  have e0 : k1_off3 (tile p) 0 = 256 * p.2.val + 128 * p.1.val := by rw [k1_off3_eq]; rfl
  have e1 : k1_off3 (tile p) 1 = 0 := by rw [k1_off3_eq]; rfl
  have h1 : (z 1).val < 64 := (z 1).isLt
  constructor
  · intro h
    have h0 := h 0
    rw [e0] at h0
    have h0' : 256 * p.2.val + 128 * p.1.val ≤ (z 0).val ∧ (z 0).val < 256 * p.2.val + 128 * p.1.val + 128 := h0
    omega
  · intro h a
    match a with
    | 0 => rw [e0]; show 256 * p.2.val + 128 * p.1.val ≤ (z 0).val ∧ (z 0).val < 256 * p.2.val + 128 * p.1.val + 128; omega
    | 1 => rw [e1]; show 0 ≤ (z 1).val ∧ (z 1).val < 0 + 64; omega

theorem oSets_disjoint : ∀ p ∈ (Finset.univ : Finset (Fin 2 × Fin 16)), ∀ p' ∈ (Finset.univ : Finset (Fin 2 × Fin 16)), p ≠ p' → Disjoint (oSet p) (oSet p') := by
  intro p _ p' _ h
  refine Finset.disjoint_left.mpr fun z hz hz' => h ?_
  rw [mem_oSet] at hz hz'
  have h1 := p.1.isLt; have h2 := p'.1.isLt
  exact Prod.ext (Fin.ext (by omega)) (Fin.ext (by omega))

theorem oSets_cover : (Finset.univ : Finset (Fin 2 × Fin 16)).biUnion oSet = Finset.univ := by
  refine Finset.eq_univ_of_forall fun z => Finset.mem_biUnion.mpr ?_
  have h0 : (z 0).val < 4096 := (z 0).isLt
  refine ⟨(⟨(z 0).val / 128 % 2, by omega⟩, ⟨(z 0).val / 256, by omega⟩), Finset.mem_univ _, ?_⟩
  rw [mem_oSet]
  show (z 0).val / 128 = 2 * ((z 0).val / 256) + (z 0).val / 128 % 2
  omega

/-! ## What the handshakes carry -/

abbrev oPts (d : Dev nD) (p : Fin 2 × Fin 16) (f : Vec F S4096x64 .f32) : sProp 𝕄 := tLoc d main_v5 ↦[oSet p]{fullShare} f

/-- The five tables at one read share. -/
abbrev rd (A : Tabs F) (d : Dev nD) (q : PosShare TreeShare) : sProp 𝕄 :=
  iprop((tLoc d main_v3 ↦{q} A.iv) ∗ (tLoc d main_v0 ↦{q} A.x) ∗ (tLoc d main_v2_1 ↦{q} A.u) ∗ (tLoc d main_v4 ↦{q} A.ww) ∗ (tLoc d main_arg4 ↦{q} A.bb))

abbrev cShare (c : Fin 2) : PosShare TreeShare := ShareLeaves.leaf 1 fullShare c
abbrev tShare (c : Fin 2) (i : Fin 16) : PosShare TreeShare := ShareLeaves.leaf 4 (cShare c) i

abbrev outOf (A : Tabs F) : Vec F S4096x64 .f32 := outF A.iv A.x A.u A.ww A.bb

/-- A SparseCore takes its share of the tables and its tiles' blocks; a tile its share of that and its own block. -/
def P (A : Tabs F) : (K (F := F)).Pay (nD := nD) (Val := Elt F) (Name := ℕ) (U := UU) where
  st := fun q d c => match q with | 0 => iprop(rd A d (cShare (Fin.cast nCore_zero c)) ∗ bigSep Finset.univ fun i : Fin 16 => oPts d (Fin.cast nCore_zero c, i) A.o0)
  dn := fun q d c => match q with | 0 => iprop(rd A d (cShare (Fin.cast nCore_zero c)) ∗ bigSep Finset.univ fun i : Fin 16 => oPts d (Fin.cast nCore_zero c, i) (outOf A))
  go := fun q d c i => match q with
    | 0 => iprop(rd A d (tShare (Fin.cast nCore_zero c) (Fin.cast nSub_zero i)) ∗ oPts d (Fin.cast nCore_zero c, Fin.cast nSub_zero i) A.o0)
  td := fun q d c i => match q with
    | 0 => iprop(rd A d (tShare (Fin.cast nCore_zero c) (Fin.cast nSub_zero i)) ∗ oPts d (Fin.cast nCore_zero c, Fin.cast nSub_zero i) (outOf A))
  x := fun _ _ => iprop(emp)

instance P_storable (A : Tabs F) : (P A).IsStorable where
  st q d c := match q with
    | 0 => (inferInstance : BI.Storable (upEmb : UEmb _ 𝕄) iprop(rd A d (cShare (Fin.cast nCore_zero c)) ∗ bigSep Finset.univ fun i : Fin 16 => oPts d (Fin.cast nCore_zero c, i) A.o0))
  dn q d c := match q with
    | 0 => (inferInstance : BI.Storable (upEmb : UEmb _ 𝕄) iprop(rd A d (cShare (Fin.cast nCore_zero c)) ∗ bigSep Finset.univ fun i : Fin 16 => oPts d (Fin.cast nCore_zero c, i) (outOf A)))
  go q d c i := match q with
    | 0 => (inferInstance : BI.Storable (upEmb : UEmb _ 𝕄)
      iprop(rd A d (tShare (Fin.cast nCore_zero c) (Fin.cast nSub_zero i)) ∗ oPts d (Fin.cast nCore_zero c, Fin.cast nSub_zero i) A.o0))
  td q d c i := match q with
    | 0 => (inferInstance : BI.Storable (upEmb : UEmb _ 𝕄)
      iprop(rd A d (tShare (Fin.cast nCore_zero c) (Fin.cast nSub_zero i)) ∗ oPts d (Fin.cast nCore_zero c, Fin.cast nSub_zero i) (outOf A)))

/-! ## A SparseCore's holdings are its tiles' -/

theorem rd_leaves (A : Tabs F) (d : Dev nD) (n : Nat) (q : PosShare TreeShare) :
    (rd A d q : sProp 𝕄) = bigSep Finset.univ fun i : Fin (2 ^ n) => rd A d (ShareLeaves.leaf n q i) := by
  unfold rd
  rw [bigSep_sep', bigSep_sep', bigSep_sep', bigSep_sep', ← ShareLeaves.pointsTo_leaves, ← ShareLeaves.pointsTo_leaves, ← ShareLeaves.pointsTo_leaves,
    ← ShareLeaves.pointsTo_leaves, ← ShareLeaves.pointsTo_leaves]

/-- What a SparseCore holds is what its tiles hold, the result's blocks at `f`. -/
theorem core_eq (A : Tabs F) (d : Dev nD) (c : Fin 2) (f : Vec F S4096x64 .f32) :
    (bigSep Finset.univ fun i : Fin 16 => iprop(rd A d (tShare c i) ∗ oPts d (c, i) f))
      = (iprop(rd A d (cShare c) ∗ bigSep Finset.univ fun i : Fin 16 => oPts d (c, i) f) : sProp 𝕄) := by
  rw [bigSep_sep', rd_leaves A d 4 (cShare c)]
  rfl

theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit (A : Tabs F) : (K (F := F)).VecSplit' (P A) 0 := by
  intro d c
  show iprop(rd A d (cShare (Fin.cast nCore_zero c)) ∗ bigSep Finset.univ fun i : Fin 16 => oPts d (Fin.cast nCore_zero c, i) A.o0) ⊢ |={Set.univ}=> iprop(
      (bigSep Finset.univ fun i : Fin ((K (F := F)).nSub 0) =>
        iprop(rd A d (tShare (Fin.cast nCore_zero c) (Fin.cast nSub_zero i)) ∗ oPts d (Fin.cast nCore_zero c, Fin.cast nSub_zero i) A.o0))
      ∗ ((bigSep Finset.univ fun i : Fin ((K (F := F)).nSub 0) =>
          iprop(rd A d (tShare (Fin.cast nCore_zero c) (Fin.cast nSub_zero i)) ∗ oPts d (Fin.cast nCore_zero c, Fin.cast nSub_zero i) (outOf A)))
          -∗ iprop(rd A d (cShare (Fin.cast nCore_zero c)) ∗ bigSep Finset.univ fun i : Fin 16 => oPts d (Fin.cast nCore_zero c, i) (outOf A))))
  rw [bigSep_subs (F := F) (fun i => iprop(rd A d (tShare (Fin.cast nCore_zero c) i) ∗ oPts d (Fin.cast nCore_zero c, i) A.o0)),
    bigSep_subs (F := F) (fun i => iprop(rd A d (tShare (Fin.cast nCore_zero c) i) ∗ oPts d (Fin.cast nCore_zero c, i) (outOf A))),
    core_eq, core_eq]
  iintro H; imodintro
  isplitl [H]; · iexact H
  iintro H; iexact H

/-- The two SparseCores' holdings are the tables and the result whole. -/
theorem cores_eq (A : Tabs F) (d : Dev nD) (f : Vec F S4096x64 .f32) :
    (bigSep Finset.univ fun c : Fin 2 => iprop(rd A d (cShare c) ∗ bigSep Finset.univ fun i : Fin 16 => oPts d (c, i) f))
      = (iprop(rd A d fullShare ∗ tLoc d main_v5 ↦{fullShare} f) : sProp 𝕄) := by
  rw [bigSep_sep', rd_leaves A d 1 fullShare, ← BI.bigSep_univ_prod (fun p : Fin 2 × Fin 16 => (oPts d p f : sProp 𝕄)),
    ← pointsTo_biUnion Finset.univ (ℓ := tLoc d main_v5) oSet oSets_disjoint, oSets_cover]
  rfl

theorem st_eq (A : Tabs F) (d : Dev nD) :
    (bigSep Finset.univ fun c : Fin ((K (F := F)).nCore 0) => (P A).st 0 d c) = (iprop(rd A d fullShare ∗ tLoc d main_v5 ↦{fullShare} A.o0) : sProp 𝕄) :=
  (bigSep_cores (F := F) fun c => iprop(rd A d (cShare c) ∗ bigSep Finset.univ fun i : Fin 16 => oPts d (c, i) A.o0)).trans (cores_eq A d A.o0)
theorem dn_eq (A : Tabs F) (d : Dev nD) :
    (bigSep Finset.univ fun c : Fin ((K (F := F)).nCore 0) => (P A).dn 0 d c) = (iprop(rd A d fullShare ∗ tLoc d main_v5 ↦{fullShare} outOf A) : sProp 𝕄) :=
  (bigSep_cores (F := F) fun c => iprop(rd A d (cShare c) ∗ bigSep Finset.univ fun i : Fin 16 => oPts d (c, i) (outOf A))).trans (cores_eq A d (outOf A))

/-! ## The tile's own cells and buffers -/

/-- The eight cells a tile's copies count on. -/
abbrev dcell (d : Dev nD) (L : grid1.Coords) (k : Fin 8) : GSem nD τ sig := (VT d L, .dma (csem (7 + k.val) (by have := k.isLt; omega)))

theorem dcell_mem (d : Dev nD) (L : grid1.Coords) (k : Fin 8) : dcell d L k ∈ ownCells (VT d L) :=
  mem_ownCells.mpr ⟨rfl, (show ∀ k : Fin 8, (SemLoc.dma (csem (7 + k.val) (by have := k.isLt; omega)) : SemLoc sig).isScoped .scVector = true by decide) k⟩

theorem ownSems0_V (d : Dev nD) (L : grid1.Coords) :
    (ownSems0 (VT d L) : sProp 𝕄)
      = iprop(cells0 d L ∗ bigSep ((ownCells (VT d L)) \ Finset.univ.image (dcell d L)) fun g => semVal g 0) := by
  unfold SparseCore.Cfg.ownSems0
  rw [SparseCore.bigSep_sdiff_split' (t := Finset.univ.image (dcell d L)) (Finset.image_subset_iff.mpr fun k _ => dcell_mem d L k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

abbrev pV (L : grid1.Coords) : Proc τ := Proc.scVector (cV L) (jV L)

/-- The seven buffers of the tile's own. -/
abbrev scr : Fin 7 → Ref sig .scVector := ![cc1_scratch0, cc1_scratch1, cc1_scratch2, cc1_scratch3, cc1_scratch4, cc1_scratch5, cc1_scratch6]
abbrev scrRef (L : grid1.Coords) (k : Fin 7) : DevRef τ sig := (pV L).devRef (scr k)

theorem scr_injective : Function.Injective scr := by decide
theorem scr_owner (L : grid1.Coords) (k : Fin 7) : scrRef L k ∈ ownRefs (τ := τ) (pV L) :=
  SparseCore.Cfg.mem_ownRefs_of_owner (p := pV L) (b := scrRef L k)
    (match k with | 0 => rfl | 1 => rfl | 2 => rfl | 3 => rfl | 4 => rfl | 5 => rfl | 6 => rfl)

theorem ownBufs_V (d : Dev nD) (L : grid1.Coords) :
    (ownBufs (VT d L) : sProp 𝕄)
      = iprop(((∃ f, sPts d L cc1_scratch0 f) ∗ (∃ f, sPts d L cc1_scratch1 f) ∗ (∃ f, sPts d L cc1_scratch2 f) ∗ (∃ f, sPts d L cc1_scratch3 f)
          ∗ (∃ f, sPts d L cc1_scratch4 f) ∗ (∃ f, sPts d L cc1_scratch5 f) ∗ (∃ f, sPts d L cc1_scratch6 f))
        ∗ bigSep ((ownRefs (τ := τ) (pV L)) \ Finset.univ.image (scrRef L)) fun b => iprop(∃ f, ((d, b) : Loc nD τ sig) ↦{fullShare} f)) := by
  unfold SparseCore.Cfg.ownBufs
  rw [SparseCore.bigSep_sdiff_split' (t := Finset.univ.image (scrRef L)) (Finset.image_subset_iff.mpr fun k _ => scr_owner L k),
    SparseCore.bigSep_image_of_injOn (fun a _ b _ h => scr_injective (Proc.devRef_injective _ h))]
  rw [show (Finset.univ : Finset (Fin 7)) = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-! ## The task -/

/-- A tile's task, from what `go` hands it to what `td` takes back. -/
theorem tile_body (A : Tabs F) (hA : ∀ j, (A.iv j : BitVec 32).toNat < 4096) (d : Dev nD) (p : Fin 2 × Fin 16) (hF : (K (F := F)).Facts) (q : PosShare TreeShare)
    (O : CellTallies nD τ sig (HIx 1)) (W : Waits sig (HIx 1)) (hO : ∀ g, O g none = 0) :
    iprop(levAts (K (F := F)).L (K (F := F)).lev ∗ emp ∗ (rd A d q ∗ oPts d p A.o0) ∗ scopedBufs (VT d (tile p)) ∗ scopedSems0 (VT d (tile p)) ∗ owes (VT d (tile p)) O W)
      ⊢ wp frame (wpE (defs₀ (F := F)) 𝒱₀ (VT d (tile p)) none) Set.univ
          (cc1__sc_body (tile p) (Memref.whole main_v3_scv) (Memref.isWhole_whole _) (Memref.whole main_v0_scv) (Memref.isWhole_whole _) (Memref.whole main_v2_1_scv) (Memref.isWhole_whole _) (Memref.whole main_v4_scv) (Memref.isWhole_whole _) (Memref.whole main_arg4_scv) (Memref.isWhole_whole _) (Memref.whole main_v5_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scoped0 cc1_scoped1 cc1_scoped2 cc1_scoped3 cc1_scoped4 cc1_scoped5 cc1_scoped6 cc1_scoped7)
          fun _ => iprop((rd A d q ∗ oPts d p (outOf A))
            ∗ scopedBufs (VT d (tile p)) ∗ scopedSems0 (VT d (tile p))
            ∗ ∃ W', ⌜∀ z ∈ W', z ∈ W ∨ z.2 = none ∨ z.2 = some (0 : Fin 1)⌝ ∗ owes (VT d (tile p)) O W') := by
  rw [(K (F := F)).scopedBufs_V hF d (cV (tile p)) (jV (tile p)), SparseCore.Cfg.scopedSems0_V (Val := Elt F) d (cV (tile p)) (jV (tile p)), ownSems0_V, ownBufs_V]
  iintro ⟨#Hlv, -, ⟨⟨HI, HX, HU, HW, HB⟩, HO0⟩, ⟨⟨⟨%g0, H0⟩, ⟨%g1, H1⟩, ⟨%g2, H2⟩, ⟨%g3, H3⟩, ⟨%g4, H4⟩, ⟨%g5, H5⟩, ⟨%g6, H6⟩⟩, Hbufs⟩, ⟨HC, Hsems⟩, HO⟩
  ihave Hmw := (show levAts (K (F := F)).L (K (F := F)).lev ⊢ Transfers.MayWaits (VT d (tile p)) (default : HIx 1) O from
    (K (F := F)).mayWaits_none (thr := VT d (tile p)) hO) $$ Hlv
  iapply (wp_wand_r Idealize.ShloMosaic.frame (wpE (defs₀ (F := F)) 𝒱₀ (VT d (tile p)) none) Set.univ)
  isplitl [HI HX HU HW HB HO0 H0 H1 H2 H3 H4 H5 H6 HC HO]
  · iapply (tile_run d (tile p) q O W A.iv A.x A.u A.ww A.bb hA A.o0 g0 g1 g2 g3 g4 g5 g6)
    isplitr; · iexact Hmw
    isplitl [HI]; · iexact HI
    isplitl [HX]; · iexact HX
    isplitl [HU]; · iexact HU
    isplitl [HW]; · iexact HW
    isplitl [HB]; · iexact HB
    isplitl [HO0]; · iexact HO0
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HC]; · iexact HC
    iexact HO
  iintro %_ ⟨HI, HX, HU, HW, HB, HO0, H0, H1, H2, H3, H4, H5, H6, HC, ⟨%W', HO⟩⟩
  isplitl [HI HX HU HW HB HO0]
  · isplitl [HI HX HU HW HB]
    · isplitl [HI]; · iexact HI
      isplitl [HX]; · iexact HX
      isplitl [HU]; · iexact HU
      isplitl [HW]; · iexact HW
      iexact HB
    iexact HO0
  isplitl [H0 H1 H2 H3 H4 H5 H6 Hbufs]
  · isplitr [Hbufs]
    · isplitl [H0]; · iexact H0
      isplitl [H1]; · iexact H1
      isplitl [H2]; · iexact H2
      isplitl [H3]; · iexact H3
      isplitl [H4]; · iexact H4
      isplitl [H5]; · iexact H5
      iexact H6
    iexact Hbufs
  isplitl [HC Hsems]
  · isplitl [HC]; · iexact HC
    iexact Hsems
  iexists W'; isplitr
  · ipureintro; intro z _
    rcases z.2 with _ | q
    · exact .inr (.inl rfl)
    · exact .inr (.inr (congrArg some (Subsingleton.elim q 0)))
  · iexact HO

/-! ## The obligation -/

theorem defs₀_vector (c : Fin τ.nSC) (s : Fin τ.nSub) :
    defs₀ (F := F) (.scVector c s) 1 ()
      = SparseCore.onTile hcore1 hsub1 (fun c s => cc1__sc_body (coordsV c s) (Memref.whole main_v3_scv) (Memref.isWhole_whole _) (Memref.whole main_v0_scv) (Memref.isWhole_whole _) (Memref.whole main_v2_1_scv) (Memref.isWhole_whole _) (Memref.whole main_v4_scv) (Memref.isWhole_whole _) (Memref.whole main_arg4_scv) (Memref.isWhole_whole _) (Memref.whole main_v5_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scoped0 cc1_scoped1 cc1_scoped2 cc1_scoped3 cc1_scoped4 cc1_scoped5 cc1_scoped6 cc1_scoped7) ⟨⟩ c s := rfl

theorem tileObl (A : Tabs F) (hA : ∀ j, (A.iv j : BitVec 32).toNat < 4096) (hF : (K (F := F)).Facts) : (K (F := F)).TileObl (D (F := F)) 𝒱 (P A) v₀ 0 := by
  intro d c i O W hO _ _
  simp only [show (P A).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body A hA d (Fin.cast nCore_zero c, Fin.cast nSub_zero i) hF _ O W hO

end Cert.Proof

end
-- ==== Proof.TcBody.lean ====
/-
  The TensorCore kernel's body at a grid point, run once at a symbolic point: what it leaves in its two results' staging
  buffers, as functions of the blocks it reads.
-/
module

public import proofs.«01_k».proof.Proof.Setup
public import proofs.«01_k».proof.Proof.Gen.KernelIdeal.Skeleton
public import proofs.«01_k».proof.Proof.Gen.KernelIdeal.Points
public import Idealize.ShloMosaic.Lib.Pipeline.Value
public import Idealize.ShloMosaic.Lib.Pipeline.FrameBody

@[expose] public section

noncomputable section

namespace Cert.Proof

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)

variable {F : FTy → Type} [FloatOps F] [Named F]

local notation "𝕄" => MT nD τ sig (HIx 1) (Elt F) ℕ UU ℕ

/-! ## The body's accesses -/

abbrev rBoth : Rect S2x4096 := Rect.unit (s := S2x4096) ![0, 0] S2x4096.size inb_S2x4096_S2x4096_0_0
abbrev rRow0 : Rect S2x4096 := Rect.unit (s := S2x4096) ![0, 0] S1x4096.size inb_S2x4096_S1x4096_0_0
abbrev rRow1 : Rect S2x4096 := Rect.unit (s := S2x4096) ![1, 0] S1x4096.size inb_S2x4096_S1x4096_1_0
abbrev rCol0 : Rect S512x2 := Rect.unit (s := S512x2) ![0, 0] S512x1.size inb_S512x2_S512x1_0_0
abbrev rCol1 : Rect S512x2 := Rect.unit (s := S512x2) ![0, 1] S512x1.size inb_S512x2_S512x1_0_1
abbrev rIdx : Rect S512x8 := Rect.unit (s := S512x8) ![0, 0] S512x8.size inb_S512x8_S512x8_0_0

/-! ## What it leaves -/

/-- The distances of a block of rows to all columns, the diagonal set apart. -/
def dist0 (i : grid0.Coords) (x0 : Vec F S512x2 .f32) (x1 : Vec F S2x4096 .f32) : FVec F S512x4096 .f32 :=
  k0_pay4 i (View.ld x1 rRow0) (View.ld x1 rRow1) (View.ld x0 rCol0) (View.ld x0 rCol1)
def near0 (i : grid0.Coords) (x0 : Vec F S512x2 .f32) (x1 : Vec F S2x4096 .f32) : FVec F S512x1 .f32 :=
  k0_pay5 i (View.ld x1 rRow0) (View.ld x1 rRow1) (View.ld x0 rCol0) (View.ld x0 rCol1)
def mask0 (i : grid0.Coords) (x0 : Vec F S512x2 .f32) (x1 : Vec F S2x4096 .f32) : IVec S512x4096 1 :=
  k0_pay6 i (View.ld x1 rRow0) (View.ld x1 rRow1) (View.ld x0 rCol0) (View.ld x0 rCol1)

/-- The eight nearest columns of each row of a block. -/
def nearBlk (i : grid0.Coords) (x0 : Vec F S512x2 .f32) (x1 : Vec F S2x4096 .f32) : IVec S512x8 32 :=
  k0_pay1 k0_pay3 (near0 i x0 x1) (k0_pay9 k0_pay3 (dist0 i x0 x1) (mask0 i x0 x1) k0_pay7)
    (k0_pay11 k0_pay3 (dist0 i x0 x1) (mask0 i x0 x1) k0_pay7) (k0_pay13 k0_pay3 (dist0 i x0 x1) (mask0 i x0 x1) k0_pay7)
    (k0_pay14 k0_pay3 (dist0 i x0 x1) (mask0 i x0 x1) k0_pay7) (k0_pay15 k0_pay3 (dist0 i x0 x1) (mask0 i x0 x1) k0_pay7)

/-- The displacement of every column since the earlier observation. -/
def velBlk (x1 x2 : Vec F S2x4096 .f32) : FVec F S2x4096 .f32 := subf x1 x2

theorem hz2 : (![0, 0] : Fin 2 → Nat) = fun _ => 0 := funext fun a => by fin_cases a <;> rfl

theorem coverIdx (p0 : Vec F S512x8 .i32) (y : S512x8.Idx) :
    ∃ pc ∈ ([⟨rIdx, p0⟩] : List (View.Piece (Elt F) S512x8 .i32)), y ∈ pc.1.set :=
  View.cover_of_tiled [⟨rIdx, p0⟩] S512x8.size (by rfl) y

theorem coverVel (p0 : Vec F S2x4096 .f32) (y : S2x4096.Idx) :
    ∃ pc ∈ ([⟨rBoth, p0⟩] : List (View.Piece (Elt F) S2x4096 .f32)), y ∈ pc.1.set :=
  View.cover_of_tiled [⟨rBoth, p0⟩] S2x4096.size (by rfl) y

theorem vel_eq (x1 x2 : Vec F S2x4096 .f32) : k0_pay2 (View.ld x1 rBoth) (View.ld x2 rBoth) = velBlk x1 x2 := by
  rw [View.ld_unit_zero hz2, View.ld_unit_zero hz2]
  unfold k0_pay2 velBlk
  simp only [shapeCast_self]

/-! ## The body's triples -/

/-- At the first point the body also writes the displacements. -/
theorem tc_first (c : Dev nD) (i : grid0.Coords) (hi : k0_cond1 i = 1#1) (M1 : Memref sig .tc .vmem S512x2 .f32) (h1 : M1.IsWhole)
    (M2 : Memref sig .tc .vmem S2x4096 .f32) (h2 : M2.IsWhole) (M3 : Memref sig .tc .vmem S2x4096 .f32) (h3 : M3.IsWhole)
    (M4 : Memref sig .tc .vmem S512x8 .i32) (h4 : M4.IsWhole) (M5 : Memref sig .tc .vmem S2x4096 .f32) (h5 : M5.IsWhole)
    (x0 : Vec F S512x2 .f32) (x1 x2 : Vec F S2x4096 .f32) (Q : PUnit → sProp 𝕄) :
    iprop(owns (c : Thread nD τ) M1 fullShare x0 ∗ owns (c : Thread nD τ) M2 fullShare x1 ∗ owns (c : Thread nD τ) M3 fullShare x2
        ∗ (∃ d, owns (c : Thread nD τ) M4 fullShare d) ∗ (∃ d, owns (c : Thread nD τ) M5 fullShare d)
        ∗ (iprop(owns (c : Thread nD τ) M1 fullShare x0 ∗ owns (c : Thread nD τ) M2 fullShare x1 ∗ owns (c : Thread nD τ) M3 fullShare x2
          ∗ owns (c : Thread nD τ) M4 fullShare (nearBlk i x0 x1 : Vec F S512x8 .i32) ∗ owns (c : Thread nD τ) M5 fullShare (velBlk x1 x2)) -∗ Q ⟨⟩))
      ⊢ wp frame (wpE (defs₀ (F := F)) 𝒱₀ (c : Thread nD τ) none) Set.univ (cc0__tc_topk_body i M1 h1 M2 h2 M3 h3 M4 h4 M5 h5) Q := by
  simp only [cc0__tc_topk_body_eq_skeleton]; unfold cc0__tc_topk_body_skel
  simp only [k0_part1_eq_skeleton, k0_part2_eq_skeleton]; unfold k0_part1_skel k0_part2_skel
  simp only [hi, dif_pos, bind_assoc, pure_bind]
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (coverIdx _)).trans ?_
    exact View.canon_unit_zero hz2 _ _
  iexists _; isplitr
  swap; · iexact H5
  ipureintro
  refine (View.read_writes_eq_canon _ _ _ (coverVel _)).trans ?_
  exact (View.canon_unit_zero hz2 _ _).trans (vel_eq _ _)

/-- At every later point it leaves that buffer alone. -/
theorem tc_later (c : Dev nD) (i : grid0.Coords) (hi : ¬ k0_cond1 i = 1#1) (M1 : Memref sig .tc .vmem S512x2 .f32) (h1 : M1.IsWhole)
    (M2 : Memref sig .tc .vmem S2x4096 .f32) (h2 : M2.IsWhole) (M3 : Memref sig .tc .vmem S2x4096 .f32) (h3 : M3.IsWhole)
    (M4 : Memref sig .tc .vmem S512x8 .i32) (h4 : M4.IsWhole) (M5 : Memref sig .tc .vmem S2x4096 .f32) (h5 : M5.IsWhole)
    (x0 : Vec F S512x2 .f32) (x1 : Vec F S2x4096 .f32) (Q : PUnit → sProp 𝕄) :
    iprop(owns (c : Thread nD τ) M1 fullShare x0 ∗ owns (c : Thread nD τ) M2 fullShare x1
        ∗ (∃ d, owns (c : Thread nD τ) M4 fullShare d)
        ∗ (iprop(owns (c : Thread nD τ) M1 fullShare x0 ∗ owns (c : Thread nD τ) M2 fullShare x1
          ∗ owns (c : Thread nD τ) M4 fullShare (nearBlk i x0 x1 : Vec F S512x8 .i32)) -∗ Q ⟨⟩))
      ⊢ wp frame (wpE (defs₀ (F := F)) 𝒱₀ (c : Thread nD τ) none) Set.univ (cc0__tc_topk_body i M1 h1 M2 h2 M3 h3 M4 h4 M5 h5) Q := by
  simp only [cc0__tc_topk_body_eq_skeleton]; unfold cc0__tc_topk_body_skel
  simp only [k0_part1_eq_skeleton, k0_part2_eq_skeleton]; unfold k0_part1_skel k0_part2_skel
  simp only [dif_neg hi, bind_assoc, pure_bind]
  unfold owns
  iintro ⟨⟨%f1, %hf1, H1⟩, ⟨%f2, %hf2, H2⟩, ⟨%d4, %f4, -, H4⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H4
  ipureintro
  refine (View.read_writes_eq_canon _ _ _ (coverIdx _)).trans ?_
  exact View.canon_unit_zero hz2 _ _

end Cert.Proof

end
-- ==== Proof.TcRegion.lean ====
/-
  The TensorCore kernel's pipeline: its proof data at the contents it is entered from, the body obligation at a symbolic
  point, and the region as one step of @main.
-/
module

public import proofs.«01_k».proof.Proof.TcBody
public import proofs.«01_k».proof.Proof.Gen.KernelIdeal.Launch
public import Idealize.ShloMosaic.Lib.Pipeline.RegionsLoop

@[expose] public section

noncomputable section

namespace Cert.Proof

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)

variable {F : FTy → Type} [FloatOps F] [Named F]

local notation "𝕄" => MT nD τ sig (HIx 1) (Elt F) ℕ UU ℕ

/-! ## The grid's points -/

theorem coord_t (t : Fin cfg0.N) : (grid0.coords t 0).val = t.val := by
  have : ∀ t : Fin grid0.N, (grid0.coords t 0).val = t.val := by decide
  exact this t

theorem cond_t (t : Fin cfg0.N) : k0_cond1 (grid0.coords t) = 1#1 ↔ t.val = 0 := by
  have : ∀ t : Fin grid0.N, k0_cond1 (grid0.coords t) = 1#1 ↔ t.val = 0 := by decide
  exact this t

theorem t_lt (t : Fin cfg0.N) : t.val < 8 := by
  have h := t.isLt
  have e : cfg0.N = 8 := N_0
  omega

/-! ## The proof data, at the contents the region is entered from -/

/-- What the TensorCore's buffers hold on each device. -/
abbrev Ent (F : FTy → Type) : Type := (c : Dev nD) → (b : Ref sig .tc) → Buf (Elt F) ((c : Thread nD τ).loc b)

variable (W : Ent F)

/-- The block of rows a point reads. -/
abbrev rows (c : Dev nD) (t : Fin cfg0.N) : Vec F S512x2 .f32 := ((cfg0.win 0).blk t).view.read (Elt F) (W c main_arg2)

/-- The pairs the core's waits record: none at a stage of the SparseCore call. -/
abbrev calm : Set (SemLoc sig × HIx 1) := {p | p.2 = none}

/-- The proof data: every input's buffer as fetched; the nearest columns' block computed at the point; the
    displacements, written at the first point, kept. -/
def dat (c : Dev nD) : Dat τ (Elt F) (HIx 1) ℕ UU ℕ cfg0 c where
  A w := W c (Pipeline.arrRef spec0 w)
  after w t := match w with
    | ⟨0, _⟩ => rows W c t
    | ⟨1, _⟩ => W c main_v0
    | ⟨2, _⟩ => W c main_v1
    | ⟨3, _⟩ => nearBlk (grid0.coords t) (rows W c t) (W c main_v0)
    | ⟨4, _⟩ => velBlk (W c main_v0) (W c main_v1)
  Φ _ := Pipeline.scopedRest (Ix := HIx 1) (Name := ℕ) (U := UU) (Lvl := ℕ) (Val := Elt F) spec0 c
  q _ := fullShare
  owed _ := (K (F := F)).Otc c 0
  recorded _ := calm

theorem after_0 (c : Dev nD) (t : Fin cfg0.N) : (dat W c).after 0 t = rows W c t := by dsimp only [dat]
theorem after_1 (c : Dev nD) (t : Fin cfg0.N) : (dat W c).after 1 t = W c main_v0 := by dsimp only [dat]
theorem after_2 (c : Dev nD) (t : Fin cfg0.N) : (dat W c).after 2 t = W c main_v1 := by dsimp only [dat]
theorem after_3 (c : Dev nD) (t : Fin cfg0.N) : (dat W c).after 3 t = nearBlk (grid0.coords t) (rows W c t) (W c main_v0) := by dsimp only [dat]
theorem after_4 (c : Dev nD) (t : Fin cfg0.N) : (dat W c).after 4 t = velBlk (W c main_v0) (W c main_v1) := by dsimp only [dat]

/-- The one block of a whole-array window is the array. -/
theorem blk_1 (t : Fin cfg0.N) (f : Vec F S2x4096 .f32) : ((cfg0.win 1).blk t).view.read (Elt F) f = f := by
  funext x
  show f ((win0_1.rect t).emb x) = f x
  refine congrArg f (funext fun a => Fin.ext ?_)
  exact (Pipeline.Window.rect_emb_val_of_index_zero win0_1 t a (by match a with | 0 => rfl | 1 => rfl) x)

theorem blk_2 (t : Fin cfg0.N) (f : Vec F S2x4096 .f32) : ((cfg0.win 2).blk t).view.read (Elt F) f = f := by
  funext x
  show f ((win0_2.rect t).emb x) = f x
  refine congrArg f (funext fun a => Fin.ext ?_)
  exact (Pipeline.Window.rect_emb_val_of_index_zero win0_2 t a (by match a with | 0 => rfl | 1 => rfl) x)

theorem before_0 (c : Dev nD) (t : Fin cfg0.N) (d) : (dat W c).before 0 t d = rows W c t := by
  rw [(dat W c).before_fetched 0 t (fetch0_0 t)]; rfl

theorem before_1 (c : Dev nD) (t : Fin cfg0.N) (d) : (dat W c).before 1 t d = W c main_v0 := by
  rw [(dat W c).before_in_eq_fetched 1 rfl (fun _ => rfl) (fun _ _ _ => rfl) (fun t => (after_1 W c t).trans (blk_1 (F := F) t (W c main_v0)).symm) t d]
  exact blk_1 (F := F) t (W c main_v0)

theorem before_2 (c : Dev nD) (t : Fin cfg0.N) (d) : (dat W c).before 2 t d = W c main_v1 := by
  rw [(dat W c).before_in_eq_fetched 2 rfl (fun _ => rfl) (fun _ _ _ => rfl) (fun t => (after_2 W c t).trans (blk_2 (F := F) t (W c main_v1)).symm) t d]
  exact blk_2 (F := F) t (W c main_v1)

theorem idle_first (t : Fin cfg0.N) (h : t.val = 0) : cfg0.idle 4 (cfg0.grid.coords t) = false := by
  show (!(k0_cond1 (grid0.coords t) == 1#1)) = false
  rw [(cond_t t).mpr h]; rfl

theorem idle_later (t : Fin cfg0.N) (h : t.val ≠ 0) : cfg0.idle 4 (cfg0.grid.coords t) = true := by
  show (!(k0_cond1 (grid0.coords t) == 1#1)) = true
  rw [beq_eq_false_iff_ne.mpr (fun e => h ((cond_t t).mp e))]; rfl

/-- The displacements stay in their buffer from the first point on. -/
theorem before_4 (c : Dev nD) : ∀ (n : ℕ) (t : Fin cfg0.N) (ht : t.val = n + 1) (d), (dat W c).before 4 t d = velBlk (W c main_v0) (W c main_v1)
  | 0, t, ht, d => by
    have hlt := t_lt t
    rw [(dat W c).before_of_pos 4 t (by omega) ((cfg0.win 4).fetch_out rfl t)]
    rw [if_neg (fun h => by have := (flush0_4 _).mp h; dsimp only at this; omega)]
    unfold Dat.left
    rw [idle_first _ (by dsimp only; omega)]
    exact after_4 W c _
  | n + 1, t, ht, d => by
    have hlt := t_lt t
    rw [(dat W c).before_of_pos 4 t (by omega) ((cfg0.win 4).fetch_out rfl t)]
    rw [if_neg (fun h => by have := (flush0_4 _).mp h; dsimp only at this; omega)]
    unfold Dat.left
    rw [idle_later _ (by dsimp only; omega)]
    exact before_4 c n _ (by dsimp only; omega) d

/-! ## The body obligation -/

/-- What the body is called with at point `t`, the windows one by one. -/
def bodyPre (c : Dev nD) (t : Fin cfg0.N) : sProp 𝕄 :=
  iprop((dat W c).Φ t.castSucc ∗ (dat W c).owesAt none t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d))
    ∗ (∃ d, owns (c : Thread nD τ) (st0_3 t) fullShare ((dat W c).before 3 t d))
    ∗ (∃ d, owns (c : Thread nD τ) (st0_4 t) fullShare ((dat W c).before 4 t d)))

/-- What it returns of the displacements' window. -/
def left4 (c : Dev nD) (t : Fin cfg0.N) : sProp 𝕄 :=
  match cfg0.idle 4 (cfg0.grid.coords t) with
  | true =>
    match (cfg0.win 4).flush t with
    | false => iprop(∃ d, owns (c : Thread nD τ) (st0_4 t) fullShare ((dat W c).before 4 t d))
    | true => owns (c : Thread nD τ) (st0_4 t) fullShare ((dat W c).after 4 t)
  | false => owns (c : Thread nD τ) (st0_4 t) fullShare ((dat W c).after 4 t)

/-- What it returns. -/
def bodyPost (c : Dev nD) (t : Fin cfg0.N) : sProp 𝕄 :=
  iprop((dat W c).Φ t.succ ∗ (dat W c).owesAt none t.succ
    ∗ owns (c : Thread nD τ) (st0_0 t) fullShare ((dat W c).after 0 t)
    ∗ owns (c : Thread nD τ) (st0_1 t) fullShare ((dat W c).after 1 t)
    ∗ owns (c : Thread nD τ) (st0_2 t) fullShare ((dat W c).after 2 t)
    ∗ owns (c : Thread nD τ) (st0_3 t) fullShare ((dat W c).after 3 t)
    ∗ left4 W c t)

theorem sound_body (c : Dev nD) (t : Fin cfg0.N) :
    bodyPre W c t ⊢ wp frame (wpE (defs₀ (F := F)) 𝒱₀ (c : Thread nD τ) none) Set.univ (bodyAt0 t) (fun _ => bodyPost W c t) := by
  unfold bodyPre bodyPost bodyAt0
  simp only [before_0, before_1, before_2]
  rw [show (dat W c).Φ t.succ = (dat W c).Φ t.castSucc from rfl,
    show (dat W c).owesAt none t.succ = (dat W c).owesAt none t.castSucc from rfl, after_0, after_1, after_2, after_3]
  by_cases h : t.val = 0
  · have e4 : left4 W c t = owns (c : Thread nD τ) (st0_4 t) fullShare (velBlk (W c main_v0) (W c main_v1)) := by
      unfold left4; rw [idle_first t h]; dsimp only; rw [after_4]
    rw [e4]
    iintro ⟨HΦ, Ho, ⟨%d0, H0⟩, ⟨%d1, H1⟩, ⟨%d2, H2⟩, ⟨%d3, H3⟩, ⟨%d4, H4⟩⟩
    iapply (tc_first c (grid0.coords t) ((cond_t t).mpr h) _ _ _ _ _ _ _ _ _ _ (rows W c t) (W c main_v0) (W c main_v1) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · obtain ⟨n, hn⟩ := Nat.exists_eq_succ_of_ne_zero h
    have e4 : owns (c : Thread nD τ) (st0_4 t) fullShare (velBlk (W c main_v0) (W c main_v1)) ⊢ left4 W c t := by
      unfold left4; rw [idle_later t h]; dsimp only
      split
      · iintro H; iexists (fun _ => Classical.arbitrary _); rw [before_4 W c n t hn]; iexact H
      · rw [after_4]
    simp only [before_4 W c n t hn]
    iintro ⟨HΦ, Ho, ⟨%d0, H0⟩, ⟨%d1, H1⟩, ⟨%d2, H2⟩, ⟨%d3, H3⟩, ⟨%d4, H4⟩⟩
    iapply (tc_later c (grid0.coords t) (fun e => h ((cond_t t).mp e)) _ _ _ _ _ _ _ _ _ _ (rows W c t) (W c main_v0) _)
    isplitl [H0]; · iexact H0
    isplitl [H1]; · iexact H1
    isplitl [H3]; · iexists _; iexact H3
    iintro ⟨H0, H1, H3⟩
    isplitl [HΦ]; · iexact HΦ
    isplitl [Ho]; · iexact Ho
    isplitl [H0]; · iexact H0
    isplitl [H1]; · iexact H1
    isplitl [H2]; · iexact H2
    isplitl [H3]; · iexact H3
    iapply e4; iexact H4

/-- The body table's row at point `t`'s slots is the body as `bodyAt0` spells it. -/
theorem defs₀_row (t : Fin cfg0.N) :
    defs₀ (F := F) .tc cfg0.body (cfg0.bodyArgs t (cfg0.slots t)) = bodyAt0 t := rfl

theorem body_obligation (c : Dev nD) : BodyObligation (dat W c) (defs₀ (F := F)) 𝒱₀ none Set.univ := fun t => by
  rw [bigSep_W0, bigSep_W0, defs₀_row]
  exact triple_restated (sound_body W c t) rfl .rfl fun _ => .rfl

/-! ## What the region leaves in its arrays -/

/-- The point that computes a row. -/
def ptOf (z : S4096x8.Idx) : Fin cfg0.N := ⟨(z 0).val / 512, by
  have h : (z 0).val < 4096 := (z 0).isLt
  have e : cfg0.N = 8 := N_0
  omega⟩

/-- A row's place in its block. -/
def inBlk (z : S4096x8.Idx) : S512x8.Idx := fun | 0 => ⟨(z 0).val % 512, Nat.mod_lt _ (by decide)⟩ | 1 => z 1

/-- Every row's eight nearest columns. -/
def nearArr (c : Dev nD) : Vec F S4096x8 .i32 := fun z => nearBlk (grid0.coords (ptOf z)) (rows W c (ptOf z)) (W c main_v0) (inBlk z)

theorem index_3 (t : Fin cfg0.N) : win0_3.index t 0 = t.val ∧ win0_3.index t 1 = 0 := by
  have : ∀ t : Fin grid0.N, win0_3.index t 0 = t.val ∧ win0_3.index t 1 = 0 := by decide
  exact this t

theorem emb_3 (t : Fin cfg0.N) (y : S512x8.Idx) : ((win0_3.rect t).emb y 0).val = 512 * t.val + (y 0).val ∧ ((win0_3.rect t).emb y 1).val = (y 1).val := by
  refine ⟨?_, ?_⟩
  · refine (Pipeline.Window.rect_emb_val win0_3 t y 0).trans ?_
    rw [(index_3 t).1]
    show t.val * 512 + (y 0).val = _
    omega
  · refine (Pipeline.Window.rect_emb_val win0_3 t y 1).trans ?_
    rw [(index_3 t).2]
    show 0 * 8 + (y 1).val = _
    omega

theorem arr_3 (c : Dev nD) : (dat W c).arrAt 3 cfg0.N = nearArr W c := by
  refine (dat W c).arrAt_eq_of_cover 3 (nearArr W c) (fun t _ => ?_) (fun z => ⟨ptOf z, flush0_3 _, ?_⟩)
  · show (dat W c).after 3 t = _
    rw [after_3]
    funext y
    have hy : (y 0).val < 512 := (y 0).isLt
    obtain ⟨e0, e1⟩ := emb_3 t y
    show _ = nearArr W c ((win0_3.rect t).emb y)
    have ep : ptOf ((win0_3.rect t).emb y) = t := Fin.ext (by show ((win0_3.rect t).emb y 0).val / 512 = t.val; rw [e0]; omega)
    have eb : inBlk ((win0_3.rect t).emb y) = y := by
      funext a
      match a with
      | 0 => exact Fin.ext (by show ((win0_3.rect t).emb y 0).val % 512 = (y 0).val; rw [e0]; omega)
      | 1 => exact Fin.ext e1
    unfold nearArr
    rw [ep, eb]
  · show z ∈ ((View.whole main_v2_0).slice (win0_3.rect (ptOf z))).set
    rw [View.set_slice_whole, Rect.mem_set_unit]
    have h0 : (z 0).val < 4096 := (z 0).isLt
    have h1 : (z 1).val < 8 := (z 1).isLt
    intro a
    match a with
    | 0 =>
      show win0_3.index (ptOf z) 0 * 512 ≤ (z 0).val ∧ (z 0).val < win0_3.index (ptOf z) 0 * 512 + 512
      rw [(index_3 _).1]; show (z 0).val / 512 * 512 ≤ (z 0).val ∧ (z 0).val < (z 0).val / 512 * 512 + 512; omega
    | 1 =>
      show win0_3.index (ptOf z) 1 * 8 ≤ (z 1).val ∧ (z 1).val < win0_3.index (ptOf z) 1 * 8 + 8
      rw [(index_3 _).2]; omega

theorem emb_4 (t : Fin cfg0.N) (y : S2x4096.Idx) : (win0_4.rect t).emb y = y := by
  funext a
  exact Fin.ext (Pipeline.Window.rect_emb_val_of_index_zero win0_4 t a (by match a with | 0 => rfl | 1 => rfl) y)

/-- Reading the whole array by window 4's block changes nothing. -/
theorem read_4 (t : Fin cfg0.N) (G : Vec F S2x4096 .f32) : ((View.whole main_v2_1).slice (win0_4.rect t)).read (Elt F) G = G := by
  funext y
  show G ((win0_4.rect t).emb y) = G y
  rw [emb_4]

theorem arr_4 (c : Dev nD) : (dat W c).arrAt 4 cfg0.N = (velBlk (W c main_v0) (W c main_v1) : Vec F S2x4096 .f32) := by
  refine (dat W c).arrAt_eq_of_cover 4 (velBlk (W c main_v0) (W c main_v1) : Vec F S2x4096 .f32) (fun t _ => ?_) (fun z => ⟨t0_7, (flush0_4 _).mpr rfl, ?_⟩)
  · show (dat W c).after 4 t = _
    rw [after_4]
    exact (read_4 t (velBlk (W c main_v0) (W c main_v1))).symm
  · show z ∈ ((View.whole main_v2_1).slice (win0_4.rect t0_7)).set
    rw [View.set_slice_whole, Rect.mem_set_unit]
    have h0 : (z 0).val < 2 := (z 0).isLt
    have h1 : (z 1).val < 4096 := (z 1).isLt
    intro a
    match a with
    | 0 => exact ⟨Nat.zero_le _, by show (z 0).val < 0 + 2; omega⟩
    | 1 => exact ⟨Nat.zero_le _, by show (z 1).val < 0 + 4096; omega⟩

/-! ## The region -/

abbrev adm0 : (p : Fin 1) → (pcfgs (F := F) p).Adm := fun p => (cfgs p).toPCfg_adm

def pdats : (p : Fin 1) → (c : Dev nD) → Dat τ (Elt F) (HIx 1) ℕ UU ℕ (Pipeline.pin (pcfgs (F := F)) adm0 p) c
  | ⟨0, _⟩ => dat W

/-- The core's debts and waits between the host's steps: it owes the SparseCore call's start, and has waited at no
    stage of the call. -/
def calmOwes (c : Dev nD) : sProp 𝕄 := iprop(∃ Wt, ⌜∀ p ∈ Wt, p.2 = none⌝ ∗ owes (c : Thread nD τ) ((K (F := F)).Otc c 0) Wt)

theorem Otc_pos (c : Dev nD) (g : GSem nD τ sig) (i : HIx 1) (h : 0 < (K (F := F)).Otc c 0 g i) :
    i ∈ (K (F := F)).L g ∧ 0 < (K (F := F)).lev g i := by
  refine ⟨Finset.mem_univ _, ?_⟩
  have := SparseCore.Cfg.lev_of_Otc_pos h
  omega

variable (W' : Ent F)

-- the entry's and exit's lemmas are stated at the pinned configuration, whose types unify with these only by unfolding
set_option backward.isDefEq.respectTransparency.types false in
def reg (h0 : ∀ c, W' c main_v2_0 = nearArr W c) (h1 : ∀ c, W' c main_v2_1 = (velBlk (W c main_v0) (W c main_v1) : Vec F S2x4096 .f32))
    (hne : ∀ c (b : Ref sig .tc), b ≠ main_v2_0 → b ≠ main_v2_1 → W' c b = W c b) :
    Pipeline.RegionSeg (pcfgs (F := F)) adm0 (pdats W) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation W c).loose
  hwaits c := Pipeline.cellsWaits_of_cut (Pipeline.pin (pcfgs (F := F)) adm0) (pdats W) none 0 c 0 ((K (F := F)).Otc c 0) (fun _ => rfl)
    (fun _ _ => Finset.mem_univ _) (fun _ _ => le_rfl) (Otc_pos c)
  pre c := iprop(unscopedBufs c (W c) ∗ calmOwes c)
  post c := iprop(unscopedBufs c (W' c) ∗ calmOwes c)
  X _ := BI.emp
  Y _ := BI.emp
  Z c := Pipeline.unscopedRest (Ix := HIx 1) (Name := ℕ) (U := UU) (Lvl := ℕ) spec0 c (W c)
  hentry c := by
    rw [Pipeline.ownSems0_none]
    have hsplit := Pipeline.arrays_of_unscopedBufs (p := 0) (pcfgs (F := F)) adm0 (pdats W) launch0.win launch0.arr_whole c
      ((pdats W 0 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold calmOwes Pipeline.Dat.owesAt Pipeline.owesWithin
      icases HO with ⟨%Wt, %hW, HO⟩; iexists Wt; isplitr; · ipureintro; exact fun p hp => Or.inl (hW p hp)
      iexact HO
    isplitr; · iempintro
    iexact Hrest
  hin c := by
    rw [show (pdats W 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats W 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm0 (Ix := HIx 1) (Name := ℕ) (U := UU) (Lvl := ℕ) launch0.win launch0.arr_whole c
      (pdats W) ((pdats W 0 c).share_full fun _ => rfl) (W c) (W' c) ((pdats W 0 c).arrAt · cfg0.N)
      (fun w => by
        match w with
        | ⟨0, _⟩ => exact ((pdats W 0 c).arrAt_in 0 rfl _).trans (hne c main_arg2 (by decide) (by decide)).symm
        | ⟨1, _⟩ => exact ((pdats W 0 c).arrAt_in 1 rfl _).trans (hne c main_v0 (by decide) (by decide)).symm
        | ⟨2, _⟩ => exact ((pdats W 0 c).arrAt_in 2 rfl _).trans (hne c main_v1 (by decide) (by decide)).symm
        | ⟨3, _⟩ => exact (arr_3 W c).trans (h0 c).symm
        | ⟨4, _⟩ => exact (arr_4 W c).trans (h1 c).symm)
      (fun b hb => hne c b (fun h => hb (h ▸ Finset.mem_image.mpr ⟨3, Finset.mem_univ _, rfl⟩)) (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    unfold calmOwes Pipeline.Dat.owesAt Pipeline.owesWithin
    icases HO with ⟨%Wt, %hW, HO⟩; iexists Wt; isplitr
    · ipureintro; intro p hp
      rcases hW hp with h | ⟨w, s, rfl⟩
      · exact h
      · rfl
    iexact HO

end Cert.Proof

end
-- ==== Proof.Launch.lean ====
/-
  The launch: @main's run on the TensorCore — the two transposes, the nearest-neighbour kernel, the two reshapes, the
  SparseCore call —, and the whole program's run, with what its result holds.
-/
module

public import proofs.«01_k».proof.Proof.Obl
public import proofs.«01_k».proof.Proof.TcRegion
public import Idealize.ShloMosaic.Lib.Pipeline.Frame

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The host's steps -/

/-- A host array, as a buffer of the device. -/
abbrev r' (b : Ref sig .tc) : DevRef τ sig := Proc.devRef .tc b

abbrev opT0 : HloOp τ sig (Elt F) := StableHlo.unary main_arg2 main_v0 ((transpose S2x4096 [1, 0] · transposes_S4096x2_S2x4096_1_0) : (⟨S4096x2, .f32⟩ : BufTy).Contents (Elt F) → (⟨S2x4096, .f32⟩ : BufTy).Contents (Elt F))
abbrev opT1 : HloOp τ sig (Elt F) := StableHlo.unary main_arg1 main_v1 ((transpose S2x4096 [1, 0] · transposes_S4096x2_S2x4096_1_0) : (⟨S4096x2, .f32⟩ : BufTy).Contents (Elt F) → (⟨S2x4096, .f32⟩ : BufTy).Contents (Elt F))
abbrev opR0 : HloOp τ sig (Elt F) := StableHlo.reshape main_v2_0 main_v3 (rfl : (.i32 : EltTy) = .i32) shapeCasts_S4096x8_S32768
abbrev opR1 : HloOp τ sig (Elt F) := StableHlo.reshape main_arg3 main_v4 (rfl : (.f32 : EltTy) = .f32) shapeCasts_S6x8_S48

variable (m : (ℓ : Loc nD τ sig) → Buf (Elt F) ℓ)

/-- The arrays at launch, before the TensorCore kernel, after it, and before the SparseCore call. -/
def V0 (d : Dev nD) : Valuation τ sig (Elt F) := fun b => m (d, b)
def V1 (d : Dev nD) : Valuation τ sig (Elt F) := opT1.result (opT0.result (V0 m d))
def ent (d : Dev nD) (b : Ref sig .tc) : Buf (Elt F) ((d.tc : Thread nD τ).loc b) := V1 m d (r' b)
def V2 (d : Dev nD) : Valuation τ sig (Elt F) :=
  Function.update (Function.update (V1 m d) (r' main_v2_0) (nearArr (ent m) d)) (r' main_v2_1) (velBlk (ent m d main_v0) (ent m d main_v1) : Vec F S2x4096 .f32)
def V3 (d : Dev nD) : Valuation τ sig (Elt F) := opR1.result (opR0.result (V2 m d))

theorem V1_of (d : Dev nD) (b : Ref sig .tc) (h0 : b ≠ main_v0) (h1 : b ≠ main_v1) : V1 m d (r' b) = m (tLoc d b) := by
  unfold V1
  rw [opT1.result_of_not_mem _ (b := r' b) (fun h => h1 (Proc.devRef_injective _ (Finset.mem_singleton.mp h))),
    opT0.result_of_not_mem _ (b := r' b) (fun h => h0 (Proc.devRef_injective _ (Finset.mem_singleton.mp h)))]
  rfl

theorem V2_of (d : Dev nD) (b : Ref sig .tc) (h0 : b ≠ main_v2_0) (h1 : b ≠ main_v2_1) : V2 m d (r' b) = V1 m d (r' b) := by
  unfold V2
  rw [Function.update_of_ne (fun h => h1 (Proc.devRef_injective _ h)), Function.update_of_ne (fun h => h0 (Proc.devRef_injective _ h))]

theorem V3_of (d : Dev nD) (b : Ref sig .tc) (h0 : b ≠ main_v3) (h1 : b ≠ main_v4) : V3 m d (r' b) = V2 m d (r' b) := by
  unfold V3
  rw [opR1.result_of_not_mem _ (b := r' b) (fun h => h1 (Proc.devRef_injective _ (Finset.mem_singleton.mp h))),
    opR0.result_of_not_mem _ (b := r' b) (fun h => h0 (Proc.devRef_injective _ (Finset.mem_singleton.mp h)))]

/-- The observations, transposed, as the program's own step writes them. -/
abbrev tr (x : Vec F S4096x2 .f32) : Vec F S2x4096 .f32 := transpose S2x4096 [1, 0] x transposes_S4096x2_S2x4096_1_0

theorem V1_v0 (d : Dev nD) : V1 m d (r' main_v0) = tr (m (tLoc d main_arg2)) := by
  unfold V1
  rw [opT1.result_of_not_mem _ (b := r' main_v0) (fun h => absurd (Proc.devRef_injective _ (Finset.mem_singleton.mp h)) (by decide))]
  exact StableHlo.unary_result _ _ _ _ _ _
theorem V1_v1 (d : Dev nD) : V1 m d (r' main_v1) = tr (m (tLoc d main_arg1)) := by
  unfold V1
  refine (StableHlo.unary_result _ _ _ _ _ _).trans ?_
  rw [opT0.result_of_not_mem _ (b := r' main_arg1) (fun h => absurd (Proc.devRef_injective _ (Finset.mem_singleton.mp h)) (by decide))]
  rfl

/-- What the SparseCore call reads. -/
def tabs (d : Dev nD) : Tabs F where
  iv := V3 m d (r' main_v3)
  x := V3 m d (r' main_v0)
  u := V3 m d (r' main_v2_1)
  ww := V3 m d (r' main_v4)
  bb := V3 m d (r' main_arg4)
  o0 := V3 m d (r' main_v5)

theorem tabs_iv (d : Dev nD) : (tabs m d).iv = (shapeCast S32768 (nearArr (ent m) d) shapeCasts_S4096x8_S32768 : Vec F S32768 .i32) := by
  show V3 m d (r' main_v3) = _
  unfold V3
  rw [opR1.result_of_not_mem _ (b := r' main_v3) (fun h => absurd (Proc.devRef_injective _ (Finset.mem_singleton.mp h)) (by decide))]
  refine (StableHlo.reshape_result _ _ _ _ _ _ _).trans ?_
  unfold V2
  rw [Function.update_of_ne (by decide), Function.update_self]
  rfl
theorem tabs_x (d : Dev nD) : (tabs m d).x = tr (m (tLoc d main_arg2)) :=
  (V3_of m d main_v0 (by decide) (by decide)).trans ((V2_of m d main_v0 (by decide) (by decide)).trans (V1_v0 m d))
theorem tabs_u (d : Dev nD) : (tabs m d).u = velBlk (tr (m (tLoc d main_arg2))) (tr (m (tLoc d main_arg1))) := by
  refine (V3_of m d main_v2_1 (by decide) (by decide)).trans ?_
  unfold V2
  rw [Function.update_self]
  show velBlk (V1 m d (r' main_v0)) (V1 m d (r' main_v1)) = _
  rw [V1_v0, V1_v1]
theorem tabs_ww (d : Dev nD) : (tabs m d).ww = (shapeCast S48 (m (tLoc d main_arg3)) shapeCasts_S6x8_S48 : Vec F S48 .f32) := by
  show V3 m d (r' main_v4) = _
  unfold V3
  refine (StableHlo.reshape_result _ _ _ _ _ _ _).trans ?_
  rw [opR0.result_of_not_mem _ (b := r' main_arg3) (fun h => absurd (Proc.devRef_injective _ (Finset.mem_singleton.mp h)) (by decide)), V2_of m d main_arg3 (by decide) (by decide), V1_of m d main_arg3 (by decide) (by decide)]
  rfl
theorem tabs_bb (d : Dev nD) : (tabs m d).bb = m (tLoc d main_arg4) :=
  (V3_of m d main_arg4 (by decide) (by decide)).trans ((V2_of m d main_arg4 (by decide) (by decide)).trans (V1_of m d main_arg4 (by decide) (by decide)))

theorem V3_arg (d : Dev nD) (b : Ref sig .tc) (h : b ∈ ({main_arg0, main_arg1, main_arg2, main_arg3, main_arg4} : Finset (Ref sig .tc))) : V3 m d (r' b) = m (tLoc d b) := by
  have hb : ∀ b ∈ ({main_arg0, main_arg1, main_arg2, main_arg3, main_arg4} : Finset (Ref sig .tc)),
      b ≠ main_v0 ∧ b ≠ main_v1 ∧ b ≠ main_v2_0 ∧ b ≠ main_v2_1 ∧ b ≠ main_v3 ∧ b ≠ main_v4 := by decide
  obtain ⟨a0, a1, a2, a3, a4, a5⟩ := hb b h
  rw [V3_of m d b a4 a5, V2_of m d b a2 a3, V1_of m d b a0 a1]

/-! ## The certificate's ghost state at launch -/

/-- The handshakes' rounds, the pipeline's rounds, no counter. -/
def u₀ (F : FTy → Type) : UU := (initOf (K (F := F)).hsCells (K (F := F)).hsToks, (initOf (Pipeline.cells cfgs cellOf_inj) (Pipeline.launchToks cfgs cellOf_inj), 1))

/-- What a device's TensorCore is dealt of the pipeline's rounds. -/
abbrev g (d : Dev nD) : sProp 𝕄 := iprop(Pipeline.cellsGhost (Pipeline.pin (pcfgs (F := F)) adm0) EP 0 d ∗ Pipeline.toksInit (Pipeline.pin (pcfgs (F := F)) adm0) EP 0 d)

theorem bigSep_emp' {I : Type} (s : Finset I) : (bigSep s fun _ => iprop(emp)) = (iprop(emp) : sProp 𝕄) := bigSep_emp_const s

theorem deal : (iprop((bigSep Finset.univ fun c : Dev nD => bigSep Finset.univ fun p => Pipeline.cellsGhost cfgs EP p c)
      ∗ (bigSep Finset.univ fun c : Dev nD => bigSep Finset.univ fun p => Pipeline.toksInit cfgs EP p c)) : sProp 𝕄)
    = bigSep Finset.univ fun d : Dev nD => (g d : sProp 𝕄) := by
  rw [← bigSep_sep']
  refine bigSep_congr fun d _ => ?_
  rw [bigSep_univ_of_subsingleton (0 : Fin 1), bigSep_univ_of_subsingleton (0 : Fin 1)]

theorem hu₀ (A : Tabs F) : (ownU (u₀ F) : sProp 𝕄)
    ⊢ |={Set.univ}=> iprop(BI.own (EH (initOf (K (F := F)).hsCells (K (F := F)).hsToks)) ∗ (bigSep Finset.univ fun d : Dev nD => (g d : sProp 𝕄))
        ∗ bigSep Finset.univ fun thr : Thread nD τ => bigSep Finset.univ fun q : Fin 1 => (P A).x q thr) := by
  unfold u₀
  iintro Hu
  ihave H := (ownU_pair (initOf (K (F := F)).hsCells (K (F := F)).hsToks) (initOf (Pipeline.cells cfgs cellOf_inj) (Pipeline.launchToks cfgs cellOf_inj), (1 : Counters))) $$ Hu
  icases H with ⟨HH, HR⟩
  ihave H := (own_pair_emb embR (initOf (Pipeline.cells cfgs cellOf_inj) (Pipeline.launchToks cfgs cellOf_inj)) (1 : Counters)) $$ HR
  icases H with ⟨HP, -⟩
  imod (Pipeline.fund_ghost cfgs EP cellOf_inj) $$ HP with ⟨Hg, Ht⟩
  imodintro
  isplitl [HH]; · iexact HH
  isplitl [Hg Ht]
  · iapply (Entails.of_eq deal)
    isplitl [Hg]; · iexact Hg
    iexact Ht
  rw [show (bigSep Finset.univ fun thr : Thread nD τ => bigSep Finset.univ fun q : Fin 1 => (P A).x q thr) = bigSep Finset.univ fun _ => iprop(emp) from
    bigSep_congr fun _ _ => bigSep_univ_of_subsingleton (0 : Fin 1), bigSep_emp']
  iempintro

/-! ## @main on the TensorCore -/

/-- The host's arrays, one by one. -/
theorem unscopedBufs_eq (d : Dev nD) (W : (b : Ref sig .tc) → Buf (Elt F) ((d.tc : Thread nD τ).loc b)) :
    (unscopedBufs d W : sProp 𝕄) = iprop((tLoc d main_arg0 ↦{fullShare} W main_arg0) ∗ (tLoc d main_arg1 ↦{fullShare} W main_arg1) ∗ (tLoc d main_arg2 ↦{fullShare} W main_arg2)
      ∗ (tLoc d main_arg3 ↦{fullShare} W main_arg3) ∗ (tLoc d main_arg4 ↦{fullShare} W main_arg4) ∗ (tLoc d main_v0 ↦{fullShare} W main_v0) ∗ (tLoc d main_v1 ↦{fullShare} W main_v1)
      ∗ (tLoc d main_v2_0 ↦{fullShare} W main_v2_0) ∗ (tLoc d main_v2_1 ↦{fullShare} W main_v2_1) ∗ (tLoc d main_v3 ↦{fullShare} W main_v3) ∗ (tLoc d main_v4 ↦{fullShare} W main_v4)
      ∗ tLoc d main_v5 ↦{fullShare} W main_v5) := by
  unfold unscopedBufs
  rw [show (Finset.univ.filter fun b : Ref sig .tc => ¬ b.isScoped) = {main_arg0, main_arg1, main_arg2, main_arg3, main_arg4, main_v0, main_v1, main_v2_0, main_v2_1, main_v3, main_v4, main_v5} by decide]
  repeat rw [SparseCore.bigSep_insert' (by decide)]
  rw [bigSep_singleton]

/-- The arrays held at a valuation are the launch's unscoped buffers at it. -/
theorem held_eq (d : Dev nD) (W : Valuation τ sig (Elt F)) :
    (held (SparseCore.T d : Thread nD τ) (Pipeline.ucRefs τ sig) W : sProp 𝕄) = unscopedBufs d (fun b => W (r' b)) :=
  (Pipeline.unscopedBufs_held d W).symm

theorem sub_of {b : Ref sig .tc} (h : b.isScoped = false) : r' b ∈ Pipeline.ucRefs τ sig :=
  Finset.mem_filter.mpr ⟨Finset.mem_map.mpr ⟨b, Finset.mem_univ _, rfl⟩, by
    show ¬ (r' b).isScoped = true
    rw [show (r' b).isScoped = b.isScoped from rfl, h]; decide⟩

theorem bufs_T0 : (opT0 (F := F)).bufs ⊆ Pipeline.ucRefs τ sig := by
  intro b hb
  rcases Finset.mem_insert.mp hb with rfl | hb
  · exact sub_of rfl
  · rw [Finset.mem_singleton.mp hb]; exact sub_of rfl
theorem bufs_T1 : (opT1 (F := F)).bufs ⊆ Pipeline.ucRefs τ sig := by
  intro b hb
  rcases Finset.mem_insert.mp hb with rfl | hb
  · exact sub_of rfl
  · rw [Finset.mem_singleton.mp hb]; exact sub_of rfl
theorem bufs_R0 : (opR0 (F := F)).bufs ⊆ Pipeline.ucRefs τ sig := by
  intro b hb
  rcases Finset.mem_insert.mp hb with rfl | hb
  · exact sub_of rfl
  · rw [Finset.mem_singleton.mp hb]; exact sub_of rfl
theorem bufs_R1 : (opR1 (F := F)).bufs ⊆ Pipeline.ucRefs τ sig := by
  intro b hb
  rcases Finset.mem_insert.mp hb with rfl | hb
  · exact sub_of rfl
  · rw [Finset.mem_singleton.mp hb]; exact sub_of rfl

/-- What @main leaves the claim: the arguments at their launch contents, the result at what the tables give. -/
def FIN (d : Dev nD) : sProp 𝕄 :=
  iprop((tLoc d main_arg0 ↦{fullShare} m (tLoc d main_arg0)) ∗ (tLoc d main_arg1 ↦{fullShare} m (tLoc d main_arg1)) ∗ (tLoc d main_arg2 ↦{fullShare} m (tLoc d main_arg2))
    ∗ (tLoc d main_arg3 ↦{fullShare} m (tLoc d main_arg3)) ∗ (tLoc d main_arg4 ↦{fullShare} m (tLoc d main_arg4)) ∗ tLoc d main_v5 ↦{fullShare} outOf (tabs m d))

/-- The TensorCore kernel's region as a step of @main: from the arrays at `V1` to the arrays at `V2`. -/
def theReg : Pipeline.RegionSeg (pcfgs (F := F)) adm0 (pdats (ent m)) none defs₀ 𝒱₀ (K (F := F)).L (K (F := F)).lev 0 :=
  reg (ent m) (fun d b => V2 m d (r' b))
    (fun c => by
      show V2 m c (r' main_v2_0) = _
      unfold V2
      rw [Function.update_of_ne (by decide), Function.update_self])
    (fun c => by
      show V2 m c (r' main_v2_1) = _
      unfold V2
      rw [Function.update_self])
    (fun c b h0 h1 => V2_of m c b h0 h1)

variable (A : Tabs F)

/-- The region as a step under the whole program's body table. -/
theorem region_step (d : Dev nD) (Q : PUnit → sProp 𝕄) :
    iprop((iprop(boundary (d.tc : Thread nD τ) ∗ unscopedBufs d (fun b => V2 m d (r' b)) ∗ calmOwes d) -∗ Q ⟨⟩)
        ∗ boundary (d.tc : Thread nD τ) ∗ (unscopedBufs d (ent m d) ∗ calmOwes d) ∗ levAts (K (F := F)).L (K (F := F)).lev ∗ g d)
      ⊢ wp frame (wpE ((K (F := F)).defs (D (F := F))) 𝒱 (SparseCore.T d) none) Set.univ (Prog.lift (.customCall (SparseCore.inner (Pipeline.entry 0)) ())) Q := by
  rw [show (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) fun x => .ret x) from rfl]
  refine BI.Entails.trans ?_ ((K (F := F)).wp_liftProg (D (F := F)) 𝒱 (SparseCore.T d) Set.univ none (.op (.customCall (Pipeline.entry 0) ()) fun x => .ret x) Q)
  refine BI.Entails.trans ?_ (Pipeline.RegionSeg.wp (pcfgs (F := F)) adm0 (pdats (ent m)) none cellOf_inj EP defs₀ 𝒱₀ (K (F := F)).L (K (F := F)).lev (theReg m) d none
    (fun u hu => nomatch hu) (fun x => .ret x) Q)
  show (_ : sProp 𝕄) ⊢ _
  iintro ⟨HQ, Hb, Hpre, Hlev, Hg, Ht⟩
  isplitl [HQ]
  · iintro H
    rw [wp_ret]; imodintro
    iapply HQ
    icases H with ⟨Hb, Hpost⟩
    isplitl [Hb]; · iexact Hb
    iapply (Entails.of_eq (show (theReg m).post d = iprop(unscopedBufs d (fun b => V2 m d (r' b)) ∗ calmOwes d) from rfl)); iexact Hpost
  isplitl [Hb]; · iexact Hb
  isplitl [Hpre]
  · iapply (Entails.of_eq (show iprop(unscopedBufs d (ent m d) ∗ calmOwes d) = (theReg m).pre d from rfl)); iexact Hpre
  isplitl [Hlev]; · iexact Hlev
  isplitl [Hg]; · iexact Hg
  iexact Ht

/-- The TensorCore's state before the call holds the core's debts at no wait of the call, and takes them back. -/
theorem tcSt_calm (d : Dev nD) : ((K (F := F)).tcSt EH d 0 : sProp 𝕄) ⊢ iprop(calmOwes d ∗ (calmOwes d -∗ (K (F := F)).tcSt EH d 0)) := by
  unfold SparseCore.Cfg.tcSt calmOwes
  iintro ⟨⟨%Wt, %hW, HO⟩, Hrest⟩
  isplitl [HO]
  · iexists Wt
    isplitr
    · ipureintro
      intro p hp
      match hp2 : p.2 with
      | none => rfl
      | some q =>
        have h : (K (F := F)).lev ((SparseCore.T d : Thread nD τ), p.1) p.2 ≤ 0 := hW p hp
        rw [hp2] at h
        have := (K (F := F)).lev_some_pos ((SparseCore.T d : Thread nD τ), p.1) q
        omega
    iexact HO
  iintro ⟨%Wt', %hW', HO⟩
  isplitl [HO]
  · iexists Wt'
    isplitr
    · ipureintro
      intro p hp
      rw [hW' p hp, SparseCore.Cfg.lev_none]
      exact Nat.zero_le _
    iexact HO
  iexact Hrest

variable (ρ : Dev nD → PrngReg)

/-- @main on device `d`'s TensorCore. -/
theorem hmain (κ : GSem nD τ sig → ℕ) (d : Dev nD) :
    iprop((K (F := F)).ctx EH (P (tabs m d)) κ ∗ (K (F := F)).tcSt EH d 0 ∗ (K (F := F)).tcRes m ρ d ∗ g d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d : Thread nD τ) (Pipeline.ucRefs τ sig) (V0 m d) from (held_eq d (V0 m d)).symm]
  simp only [main, wp_bind, wp_pure]
  iintro ⟨#Hctx, Hst, ⟨Hb, Hheld, Hts, -⟩, Hg⟩
  iapply (wp_hlo_within 𝒱 (SparseCore.T d) none Set.univ (op := opT0) (S := Pipeline.ucRefs τ sig) bufs_T0 (V := V0 m d)) $$ [Hb Hheld]
  · isplitl [Hb] <;> iassumption
  iintro ⟨Hb, Hheld⟩
  rw [wp_ret]; imodintro
  iapply (wp_hlo_within 𝒱 (SparseCore.T d) none Set.univ (op := opT1) (S := Pipeline.ucRefs τ sig) bufs_T1 (V := opT0.result (V0 m d))) $$ [Hb Hheld]
  · isplitl [Hb] <;> iassumption
  iintro ⟨Hb, Hheld⟩
  rw [wp_ret]; imodintro
  ihave Hub := (Entails.of_eq (show (held (SparseCore.T d : Thread nD τ) (Pipeline.ucRefs τ sig) (opT1.result (opT0.result (V0 m d))) : sProp 𝕄) = unscopedBufs d (ent m d)
    from held_eq d (V1 m d))) $$ Hheld
  ihave H := (tcSt_calm d) $$ Hst
  icases H with ⟨HO, Hback⟩
  ihave Hlev := ((K (F := F)).ctx_levAts κ) $$ Hctx
  iapply (region_step m d)
  isplitr [Hb Hub HO Hlev Hg]
  swap
  · isplitl [Hb]; · iexact Hb
    isplitl [Hub HO]; · isplitl [Hub] <;> iassumption
    isplitl [Hlev]; · iexact Hlev
    iexact Hg
  iintro ⟨Hb, Hub, HO⟩
  ihave Hst := Hback $$ HO
  ihave Hheld := (Entails.of_eq (held_eq d (V2 m d)).symm) $$ Hub
  iapply (wp_hlo_within 𝒱 (SparseCore.T d) none Set.univ (op := opR0) (S := Pipeline.ucRefs τ sig) bufs_R0 (V := V2 m d)) $$ [Hb Hheld]
  · isplitl [Hb] <;> iassumption
  iintro ⟨Hb, Hheld⟩
  rw [wp_ret]; imodintro
  iapply (wp_hlo_within 𝒱 (SparseCore.T d) none Set.univ (op := opR1) (S := Pipeline.ucRefs τ sig) bufs_R1 (V := opR0.result (V2 m d))) $$ [Hb Hheld]
  · isplitl [Hb] <;> iassumption
  iintro ⟨Hb, Hheld⟩
  rw [wp_ret]; imodintro
  ihave Hub := (Entails.of_eq (show (held (SparseCore.T d : Thread nD τ) (Pipeline.ucRefs τ sig) (opR1.result (opR0.result (V2 m d))) : sProp 𝕄) = _
    from (held_eq d (V3 m d)).trans (unscopedBufs_eq d _))) $$ Hheld
  icases Hub with ⟨H0, H1, H2, H3, H4, Hx, -, -, Hu, Hi, Hw, Ho⟩
  iapply ((K (F := F)).wp_run (D (F := F)) 𝒱 (EH := EH) (P := P (tabs m d)) κ d 0) $$ [Hst H0 H1 H2 H3 H4 Hx Hu Hi Hw Ho Hb Hts]
  isplitr; · iexact Hctx
  isplitl [Hst]; · iexact Hst
  isplitl [H4 Hx Hu Hi Hw Ho]
  · rw [st_eq]
    isplitr [Ho]
    · isplitl [Hi]; · iexact Hi
      isplitl [Hx]; · iexact Hx
      isplitl [Hu]; · iexact Hu
      isplitl [Hw]; · iexact Hw
      iexact H4
    iexact Ho
  iintro ⟨Hst, Hdn⟩
  ihave Hdn' := (Entails.of_eq (dn_eq (tabs m d) d)) $$ Hdn
  icases Hdn' with ⟨⟨-, -, -, -, H4⟩, Ho⟩
  imodintro
  isplitl [Hst]; · iexact Hst
  isplitr [Hb Hts]
  · unfold FIN
    rw [← V3_arg m d main_arg0 (by decide), ← V3_arg m d main_arg1 (by decide), ← V3_arg m d main_arg2 (by decide), ← V3_arg m d main_arg3 (by decide), ← V3_arg m d main_arg4 (by decide)]
    isplitl [H0]; · iexact H0
    isplitl [H1]; · iexact H1
    isplitl [H2]; · iexact H2
    isplitl [H3]; · iexact H3
    isplitl [H4]; · iexact H4
    iexact Ho
  isplitl [Hb] <;> iassumption

/-- What the claims read of the final state. -/
def fq (d : Dev nD) (s' : Phys nD τ sig (Elt F)) : Prop :=
  (s'.mem.mem (tLoc d main_arg0) = m (tLoc d main_arg0) ∧ s'.mem.mem (tLoc d main_arg1) = m (tLoc d main_arg1) ∧ s'.mem.mem (tLoc d main_arg2) = m (tLoc d main_arg2)
    ∧ s'.mem.mem (tLoc d main_arg3) = m (tLoc d main_arg3) ∧ s'.mem.mem (tLoc d main_arg4) = m (tLoc d main_arg4))
  ∧ s'.mem.mem (tLoc d main_v5) = outOf (tabs m d)

/-- A whole buffer held at the end is what the final memory holds there. -/
theorem agree (ℓ : Loc nD τ sig) (f : Buf (Elt F) ℓ) (s' : Phys nD τ sig (Elt F)) :
    (iprop((ℓ ↦{fullShare} f) ∗ SI s') : sProp 𝕄) ⊢ iprop(⌜s'.mem.mem ℓ = f⌝ ∗ SI s') := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  unfold FIN
  iintro ⟨⟨H0, H1, H2, H3, H4, Ho⟩, HSI⟩
  ihave H := (agree (tLoc d main_arg0) _ s') $$ [H0 HSI]; · isplitl [H0] <;> iassumption
  icases H with ⟨%h0, HSI⟩
  ihave H := (agree (tLoc d main_arg1) _ s') $$ [H1 HSI]; · isplitl [H1] <;> iassumption
  icases H with ⟨%h1, HSI⟩
  ihave H := (agree (tLoc d main_arg2) _ s') $$ [H2 HSI]; · isplitl [H2] <;> iassumption
  icases H with ⟨%h2, HSI⟩
  ihave H := (agree (tLoc d main_arg3) _ s') $$ [H3 HSI]; · isplitl [H3] <;> iassumption
  icases H with ⟨%h3, HSI⟩
  ihave H := (agree (tLoc d main_arg4) _ s') $$ [H4 HSI]; · isplitl [H4] <;> iassumption
  icases H with ⟨%h4, HSI⟩
  ihave H := (agree (tLoc d main_v5) _ s') $$ [Ho HSI]; · isplitl [Ho] <;> iassumption
  icases H with ⟨%h5, -⟩
  ipureintro
  exact ⟨⟨h0, h1, h2, h3, h4⟩, h5⟩

/-! ## The program's run -/

/-- There is one device. -/
theorem dev_eq (d : Dev nD) : d = 0 := Subsingleton.elim _ _

/-- A final state of the whole program: the arguments as launched, the result at what the tables give, no semaphore up. -/
def QC : PUnit × MemSt nD τ sig (Elt F) → Prop := fun r =>
  (∀ d : Dev nD, (r.2.mem (tLoc d main_arg0) = m (tLoc d main_arg0) ∧ r.2.mem (tLoc d main_arg1) = m (tLoc d main_arg1) ∧ r.2.mem (tLoc d main_arg2) = m (tLoc d main_arg2)
    ∧ r.2.mem (tLoc d main_arg3) = m (tLoc d main_arg3) ∧ r.2.mem (tLoc d main_arg4) = m (tLoc d main_arg4))
    ∧ r.2.mem (tLoc d main_v5) = outOf (tabs m d)) ∧ r.2.sem = fun _ => 0

theorem run_main [∀ e, Nonempty (Elt F e)] (hA : ∀ j, ((tabs m 0).iv j : BitVec 32).toNat < 4096) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tabs m 0)) (A := ∅) facts v₀
    (fun q hq => match q with | 0 => nomatch hq)
    (fun q _ => match q with | 0 => tileObl (tabs m 0) hA facts)
    (fun q _ => match q with | 0 => SparseCore.Cfg.VecSplit.of_plain (vecSplit (tabs m 0)))
    m ρ main (fun d => g d) (FIN m) (u₀ F) (sep_elim_left.trans (hu₀ (tabs m 0)))
    (fun κ d => by have e : d = 0 := dev_eq d; subst e; exact hmain m ρ κ 0) (fq m) (hfin m) (QC m) (fun _ h hz => ⟨h, hz⟩)

end Cert.Proof

end
-- ==== Proof.Nearest.lean ====
/-
  The eight columns a row of the TensorCore kernel's result names, as eight rounds of one step: the least distance, the lowest
  column that attains it, and that column struck out.
-/
module

public import proofs.«01_k».proof.Proof.TcBody
public import Idealize.ShloMosaic.PureOps.Reduce

@[expose] public section

noncomputable section

namespace Cert.Proof

open Cert.KernelIdeal Cert.KernelIdeal.Gen

open Idealize.ShloMosaic

variable {F : FTy → Type} [FloatOps F] [Named F]

/-! ## The rounds -/

/-- The index of row `r` and column `c` of a block of distances. -/
def e2 (r : Fin 512) (c : Fin 4096) : S512x4096.Idx := fun | 0 => r | 1 => c
def e1 (r : Fin 512) : S512.Idx := fun | 0 => r
def eu (r : Fin 512) : S512x1.Idx := fun | 0 => r | 1 => (0 : Fin 1)

/-- The least entry of every row. -/
def rowMin (d : FVec F S512x4096 .f32) : FVec F S512 .f32 :=
  multiReduction .minimumf [1] S512 d 0x7F800000#32 reduces_S512x4096_S512 (.inl rfl) rfl

/-- One number to a row, under every column. -/
def spread (v : FVec F S512x1 .f32) : FVec F S512x4096 .f32 := broadcastTo S512x4096 v broadcasts_S512x1_S512x4096
def upright (v : FVec F S512 .f32) : FVec F S512x1 .f32 := shapeCast S512x1 v shapeCasts_S512_S512x1

/-- The columns that may be picked: a column's number where its entry is least, the greatest number elsewhere. -/
def cands (d : FVec F S512x4096 .f32) : FVec F S512x4096 .f32 :=
  select (cmpf .ole d (spread (upright (rowMin d)))) (k0_pay3 (F := F)) (broadcast S512x4096 (Scalar.ofBits .f32 0x457FF000#32))

/-- The column a round picks in every row. -/
def pick (d : FVec F S512x4096 .f32) : FVec F S512x1 .f32 := upright (rowMin (cands d))

/-- The distances with the picked columns struck out. -/
def strike (d : FVec F S512x4096 .f32) : FVec F S512x4096 .f32 :=
  select (cmpf .oeq (k0_pay3 (F := F)) (spread (pick d))) (k0_pay7 (F := F)) d

/-- The distances before round `k`. -/
def dk (d : FVec F S512x4096 .f32) : Nat → FVec F S512x4096 .f32
  | 0 => d
  | k + 1 => strike (dk d k)

section payloads

variable (i : grid0.Coords) (x0 : Vec F S512x2 .f32) (x1 : Vec F S2x4096 .f32)

theorem near0_eq : near0 i x0 x1 = pick (dk (dist0 i x0 x1) 0) := rfl
theorem pay8_eq : k0_pay8 (dist0 i x0 x1) (mask0 i x0 x1) (k0_pay7 (F := F)) = dk (dist0 i x0 x1) 1 := rfl
theorem pay9_eq : k0_pay9 (k0_pay3 (F := F)) (dist0 i x0 x1) (mask0 i x0 x1) k0_pay7 = pick (dk (dist0 i x0 x1) 1) := rfl
theorem pay10_eq : k0_pay10 (k0_pay3 (F := F)) (dist0 i x0 x1) (mask0 i x0 x1) k0_pay7 = dk (dist0 i x0 x1) 2 := rfl
theorem pay11_eq : k0_pay11 (k0_pay3 (F := F)) (dist0 i x0 x1) (mask0 i x0 x1) k0_pay7 = pick (dk (dist0 i x0 x1) 2) := rfl
theorem pay12_eq : k0_pay12 (k0_pay3 (F := F)) (dist0 i x0 x1) (mask0 i x0 x1) k0_pay7 = dk (dist0 i x0 x1) 3 := rfl
theorem pay13_eq : k0_pay13 (k0_pay3 (F := F)) (dist0 i x0 x1) (mask0 i x0 x1) k0_pay7 = pick (dk (dist0 i x0 x1) 3) := rfl
theorem pay14_eq : k0_pay14 (k0_pay3 (F := F)) (dist0 i x0 x1) (mask0 i x0 x1) k0_pay7 = dk (dist0 i x0 x1) 4 := rfl
theorem pay15_eq : k0_pay15 (k0_pay3 (F := F)) (dist0 i x0 x1) (mask0 i x0 x1) k0_pay7 = pick (dk (dist0 i x0 x1) 4) := rfl

/-- The last three rounds and the eight picks side by side. -/
theorem pay1_eq (d : FVec F S512x4096 .f32) (p0 p1 p2 p3 : FVec F S512x1 .f32) :
    k0_pay1 (k0_pay3 (F := F)) p0 p1 p2 p3 d (pick d)
      = fptosi 32 (concatenate S512x8 1 [⟨S512x1, p0⟩, ⟨S512x1, p1⟩, ⟨S512x1, p2⟩, ⟨S512x1, p3⟩, ⟨S512x1, pick d⟩, ⟨S512x1, pick (strike d)⟩,
          ⟨S512x1, pick (strike (strike d))⟩, ⟨S512x1, pick (strike (strike (strike d)))⟩]
          concatenates_S512x1_S512x1_S512x1_S512x1_S512x1_S512x1_S512x1_S512x1_S512x8_d1) := rfl

/-- A family of columns, each with its shape. -/
def cols8 (f : Fin 8 → FVec F S512x1 .f32) : List ((s : Shape) × (s.Idx → F .f32)) := List.ofFn fun n => ⟨S512x1, f n⟩

theorem fits8 (f : Fin 8 → FVec F S512x1 .f32) : Shape.Concatenates ((cols8 f).map (·.1)) S512x8 1 :=
  concatenates_S512x1_S512x1_S512x1_S512x1_S512x1_S512x1_S512x1_S512x1_S512x8_d1

/-- Eight columns side by side, as one family. -/
theorem cat8 (f : Fin 8 → FVec F S512x1 .f32) (p0 p1 p2 p3 p4 p5 p6 p7 : FVec F S512x1 .f32) (h0 : p0 = f 0) (h1 : p1 = f 1) (h2 : p2 = f 2)
    (h3 : p3 = f 3) (h4 : p4 = f 4) (h5 : p5 = f 5) (h6 : p6 = f 6) (h7 : p7 = f 7) :
    concatenate S512x8 1 [⟨S512x1, p0⟩, ⟨S512x1, p1⟩, ⟨S512x1, p2⟩, ⟨S512x1, p3⟩, ⟨S512x1, p4⟩, ⟨S512x1, p5⟩, ⟨S512x1, p6⟩, ⟨S512x1, p7⟩]
        concatenates_S512x1_S512x1_S512x1_S512x1_S512x1_S512x1_S512x1_S512x1_S512x8_d1
      = concatenate S512x8 1 (cols8 f) (fits8 f) := by
  subst h0 h1 h2 h3 h4 h5 h6 h7
  rfl

/-- The eight picks side by side, as one family. -/
theorem nearBlk_eq : nearBlk i x0 x1
    = fptosi 32 (concatenate S512x8 1 (cols8 fun n => pick (dk (dist0 i x0 x1) n.val)) (fits8 _)) := by
  unfold nearBlk
  rw [near0_eq, pay9_eq, pay11_eq, pay13_eq, pay14_eq, pay15_eq, pay1_eq]
  generalize dist0 i x0 x1 = d
  exact congrArg (fptosi 32) (cat8 (fun n => pick (dk d n.val)) _ _ _ _ _ _ _ _ rfl rfl rfl rfl rfl rfl rfl rfl)

theorem cols8_apply (f : Fin 8 → FVec F S512x1 .f32) (y : S512x8.Idx) :
    concatenate S512x8 1 (cols8 f) (fits8 f) y = f (y 1) (eu (y 0)) :=
  concatenate_ofFn_unit_apply (t := S512x8) (s₁ := S512x1) 1 f (fits8 f) rfl rfl y (y 1) rfl (eu (y 0)) fun b hb => by
    match b with
    | 0 => rfl
    | 1 => exact absurd rfl hb

/-- At an index: the pick of the column's round. -/
theorem nearBlk_apply (y : S512x8.Idx) :
    nearBlk i x0 x1 y = FloatOps.fptosi 32 (pick (dk (dist0 i x0 x1) (y 1).val) (eu (y 0))) := by
  rw [nearBlk_eq]
  exact congrArg (FloatOps.fptosi 32) (cols8_apply (fun n => pick (dk (dist0 i x0 x1) n.val)) y)

end payloads

/-! ## Pointwise -/

theorem spread_apply (v : FVec F S512x1 .f32) (r : Fin 512) (c : Fin 4096) : spread v (e2 r c) = v (eu r) :=
  broadcastTo_apply (s := S512x1) (t := S512x4096) v _ (e2 r c) (eu r) fun a => by
    match a with | 0 => rfl | 1 => rfl

theorem upright_apply (v : FVec F S512 .f32) (r : Fin 512) : upright v (eu r) = v (e1 r) :=
  shapeCast_apply v _ (eu r) (e1 r) (by
    rw [Shape.rowMajor_val_one, Shape.rowMajor_val_two]
    exact (Nat.mul_one r.val).symm)

theorem col_apply (r : Fin 512) (c : Fin 4096) : k0_pay3 (F := F) (e2 r c) = FloatOps.sitofp .f32 (BitVec.ofNat 32 c.val) := by
  unfold k0_pay3
  show FloatOps.sitofp .f32 _ = _
  rw [iota_single_apply]
  rfl

variable [Std.Commutative (FloatOps.minimumf (F := F) (φ := .f32))] [Std.Associative (FloatOps.minimumf (F := F) (φ := .f32))]

theorem rowMin_apply (d : FVec F S512x4096 .f32) (r : Fin 512) :
    rowMin d (e1 r) = (Finset.univ : Finset (Fin 4096)).fold FloatOps.minimumf (FloatOps.ofBits .f32 0x7F800000#32) (fun c => d (e2 r c)) := by
  unfold rowMin
  refine (multiReduction_minimumf_eq_fold (F := F) (φ := .f32) d _ reduces_S512x4096_S512 _ _ (e1 r)).trans ?_
  refine (Shape.Reduces.fold_filter_drop_single reduces_S512x4096_S512 _ _ d (e1 r)).trans ?_
  refine congrArg (Finset.fold _ _ · _) (funext fun c => congrArg d (funext fun b => Fin.ext ?_))
  rw [Shape.Reduces.lift_val]
  fin_cases b <;> rfl

theorem pick_apply (d : FVec F S512x4096 .f32) (r : Fin 512) :
    pick d (eu r) = (Finset.univ : Finset (Fin 4096)).fold FloatOps.minimumf (FloatOps.ofBits .f32 0x7F800000#32) (fun c => cands d (e2 r c)) := by
  unfold pick
  rw [upright_apply, rowMin_apply]

omit [Std.Commutative (FloatOps.minimumf (F := F) (φ := .f32))] [Std.Associative (FloatOps.minimumf (F := F) (φ := .f32))] in
theorem cands_apply (d : FVec F S512x4096 .f32) (r : Fin 512) (c : Fin 4096) :
    cands d (e2 r c) = Scalar.select (FloatOps.cmpf .ole (d (e2 r c)) (rowMin d (e1 r))) (FloatOps.sitofp .f32 (BitVec.ofNat 32 c.val))
      (FloatOps.ofBits .f32 0x457FF000#32) := by
  unfold cands
  show Scalar.select (FloatOps.cmpf .ole (d (e2 r c)) (spread (upright (rowMin d)) (e2 r c))) (k0_pay3 (F := F) (e2 r c)) _ = _
  rw [spread_apply, upright_apply, col_apply]
  rfl

omit [Std.Commutative (FloatOps.minimumf (F := F) (φ := .f32))] [Std.Associative (FloatOps.minimumf (F := F) (φ := .f32))] in
theorem strike_apply (d : FVec F S512x4096 .f32) (r : Fin 512) (c : Fin 4096) :
    strike d (e2 r c) = Scalar.select (FloatOps.cmpf .oeq (FloatOps.sitofp .f32 (BitVec.ofNat 32 c.val)) (pick d (eu r)))
      (Named.named κ "taken" 0x71C9F2CA#32) (d (e2 r c)) := by
  unfold strike
  show Scalar.select (FloatOps.cmpf .oeq (k0_pay3 (F := F) (e2 r c)) (spread (pick d) (e2 r c))) _ _ = _
  rw [spread_apply, col_apply]
  rfl

/-! ## Every pick is a column -/

/-- What the column numbers need of the arithmetic: the numbers 0 … 4095 are held exactly, and the least of a row of them is one
    of them. -/
structure ColumnsExact (F : FTy → Type) [FloatOps F] : Prop where
  last : (FloatOps.ofBits .f32 0x457FF000#32 : F .f32) = FloatOps.sitofp .f32 (BitVec.ofNat 32 4095)
  back : ∀ n, n < 4096 → FloatOps.fptosi (F := F) (φ := .f32) 32 (FloatOps.sitofp .f32 (BitVec.ofNat 32 n)) = BitVec.ofNat 32 n
  comm : Std.Commutative (FloatOps.minimumf (F := F) (φ := .f32))
  assoc : Std.Associative (FloatOps.minimumf (F := F) (φ := .f32))
  least : ∀ f : Fin 4096 → F .f32, (∀ c, ∃ n, n < 4096 ∧ f c = FloatOps.sitofp .f32 (BitVec.ofNat 32 n)) →
    ∃ c, (Finset.univ : Finset (Fin 4096)).fold FloatOps.minimumf (FloatOps.ofBits .f32 0x7F800000#32) f = f c

omit [Std.Commutative (FloatOps.minimumf (F := F) (φ := .f32))] [Std.Associative (FloatOps.minimumf (F := F) (φ := .f32))] in
theorem pick_col (hX : ColumnsExact F) (d : FVec F S512x4096 .f32) (r : Fin 512) :
    ∃ n, n < 4096 ∧ pick d (eu r) = FloatOps.sitofp .f32 (BitVec.ofNat 32 n) := by
  have := hX.comm
  have := hX.assoc
  have h : ∀ c : Fin 4096, ∃ n, n < 4096 ∧ cands d (e2 r c) = FloatOps.sitofp .f32 (BitVec.ofNat 32 n) := fun c => by
    rw [cands_apply]
    unfold Scalar.select
    split
    · exact ⟨c.val, c.isLt, rfl⟩
    · exact ⟨4095, by omega, hX.last⟩
  obtain ⟨c, hc⟩ := hX.least _ h
  rw [pick_apply, hc]
  exact h c

omit [Std.Commutative (FloatOps.minimumf (F := F) (φ := .f32))] [Std.Associative (FloatOps.minimumf (F := F) (φ := .f32))] in
/-- Every entry of the TensorCore kernel's result is a column's number. -/
theorem nearBlk_lt (hX : ColumnsExact F) (i : grid0.Coords) (x0 : Vec F S512x2 .f32) (x1 : Vec F S2x4096 .f32) (y : S512x8.Idx) :
    (nearBlk i x0 x1 y).toNat < 4096 := by
  obtain ⟨n, hn, e⟩ := pick_col hX (dk (dist0 i x0 x1) (y 1).val) (y 0)
  rw [nearBlk_apply, e, hX.back n hn, BitVec.toNat_ofNat]
  omega

end Cert.Proof

end
-- ==== Proof.RangeBits.lean ====
/-
  Every pick is a column on the machine's own floats too: the column numbers are exact there, and the least of a row of them is
  one of them, whatever the distances are.
-/
module

public import proofs.«01_k».proof.Proof.Nearest
public import Idealize.ShloMosaic.Lib.F32MinMember
public import Idealize.ShloMosaic.Lib.NatWords

@[expose] public section

noncomputable section

namespace Cert.Proof

open Idealize.ShloMosaic Idealize.ShloMosaic.Bits

/-- A column's number as a float word. -/
theorem sitofp_nat (n : Nat) (h : n < 4096) : (FloatOps.sitofp .f32 (BitVec.ofNat 32 n) : Bits .f32) = f32OfNat n := by
  show sitofp32 (BitVec.ofNat 32 n) = _
  have e : (BitVec.ofNat 32 n).toNat = n := by rw [BitVec.toNat_ofNat]; omega
  rw [sitofp32_eq_f32OfNat _ (le_refl 32) (by rw [e]; omega), e]

theorem word4095 : (FloatOps.ofBits .f32 0x457FF000#32 : Bits .f32) = f32OfNat 4095 := by
  rw [f32OfNat_eq 4095 (by decide)]
  decide

theorem columnsExact_bits : ColumnsExact Bits where
  last := word4095.trans (sitofp_nat 4095 (by decide)).symm
  back n h := by
    rw [sitofp_nat n h]
    exact fptosi32_nat n (by omega)
  comm := inferInstance
  assoc := inferInstance
  least f hf := by
    obtain ⟨c, -, e⟩ := fold_minimumf_positiveInfinity_mem (Finset.univ : Finset (Fin 4096)) ⟨0, Finset.mem_univ _⟩ f fun c _ => by
      obtain ⟨n, hn, e⟩ := hf c
      refine Or.inl ⟨n, by simpa using (by omega : n < 2 ^ 24), ?_⟩
      rw [e, sitofp_nat n hn, f32OfNat_eq n (by omega)]
    exact ⟨c, e⟩

end Cert.Proof

end
-- ==== Proof.Order.lean ====
/-
  Picking the least entry of a row again and again, the lowest position first, and striking out what was picked, gives the row's
  stable sort: the mathematics of the two programs' common part, on extended reals.
-/
module

public import Idealize.ShloMosaic.Lib.SortPrefix
public import Idealize.ShloMosaic.Lib.SortFacts
public import Idealize.ShloMosaic.PureOps.Ideal

@[expose] public section

noncomputable section

namespace Cert.Proof

open Idealize.ShloMosaic

/-- `c` is the lowest of the positions where `g` is least. -/
def Lowest {n : Nat} (g : Fin n → EReal) (c : Fin n) : Prop := (∀ p, g c ≤ g p) ∧ ∀ p, g p ≤ g c → c ≤ p

/-- The order of a row's positions: the lesser entry first, of equal entries the lower position. -/
def lexBefore {n : Nat} (g : Fin n → EReal) (a b : Fin n) : Bool := decide (g a < g b) || (decide (g a = g b) && decide (a < b))

theorem lexBefore_total {n : Nat} (g : Fin n → EReal) : StrictTotalBefore (lexBefore g) :=
  StrictTotalBefore.of_key_then_position (fun x y : EReal => decide (x < y)) g (fun a => by simp)
    (fun a b c hab hbc => by simp only [decide_eq_true_eq] at *; exact lt_trans hab hbc)
    (fun a b => by simp only [decide_eq_true_eq]; exact lt_trichotomy a b)

theorem insertBefore_lex {n : Nat} (g : Fin n → EReal) (a : Fin n) (l : List (Fin n)) (h : ∀ b ∈ l, a < b) :
    insertBefore (fun a b => decide (g a < g b)) a l = insertBefore (lexBefore g) a l := by
  refine insertBefore_congr _ _ a l fun b hb => ?_
  have hab : ¬ b < a := not_lt.mpr (le_of_lt (h b hb))
  simp [lexBefore, hab]

theorem stableSort_lex {n : Nat} (g : Fin n → EReal) (l : List (Fin n)) (h : l.Pairwise (· < ·)) :
    stableSort (fun a b => decide (g a < g b)) l = stableSort (lexBefore g) l := by
  induction l with
  | nil => rfl
  | cons a l ih =>
    rw [List.pairwise_cons] at h
    unfold stableSort
    rw [ih h.2]
    exact insertBefore_lex g a _ fun b hb => h.1 b ((perm_stableSort _ l).mem_iff.mp hb)

/-- The stable sort by the entries alone is the sort by entry and position. -/
theorem sortedFrom_lex {n : Nat} (g : Fin n → EReal) (k : Fin n) :
    sortedFrom (fun a b => decide (g a < g b)) k = sortedFrom (lexBefore g) k := by
  have e : sortPositions n (fun a b => decide (g a < g b)) = sortPositions n (lexBefore g) :=
    stableSort_lex g _ (List.pairwise_lt_finRange n)
  unfold sortedFrom
  exact List.get_of_eq e _

section rounds

variable {n : Nat} (g : Fin n → EReal) (G : Nat → Fin n → EReal) (σ : Nat → Fin n) (hg : ∀ c, g c < ⊤) (h0 : ∀ c, G 0 c = g c)
  (hl : ∀ k, Lowest (G k) (σ k)) (hs : ∀ k c, G (k + 1) c = if c = σ k then ⊤ else G k c)
include h0 hs

theorem rounds_unpicked (k : Nat) (c : Fin n) (h : ∀ j, j < k → σ j ≠ c) : G k c = g c := by
  induction k with
  | zero => exact h0 c
  | succ k ih =>
    rw [hs, if_neg fun e => h k (Nat.lt_succ_self k) e.symm]
    exact ih fun j hj => h j (Nat.lt_succ_of_lt hj)

theorem rounds_picked (k : Nat) (j : Nat) (h : j < k) : G k (σ j) = ⊤ := by
  induction k with
  | zero => exact absurd h (Nat.not_lt_zero j)
  | succ k ih =>
    rw [hs]
    split
    · rfl
    · rename_i hne
      refine ih (lt_of_le_of_ne (Nat.le_of_lt_succ h) fun e => hne (e ▸ rfl))

include hg hl

theorem rounds_new (k : Nat) (hk : k < n) (j : Nat) (hj : j < k) : σ j ≠ σ k := by
  obtain ⟨c, hc⟩ : ∃ c : Fin n, ∀ j, j < k → σ j ≠ c := by
    by_contra hno
    push Not at hno
    have hsub : (Finset.univ : Finset (Fin n)) ⊆ (Finset.range k).image σ := fun c _ => by
      obtain ⟨j, hj, e⟩ := hno c
      exact Finset.mem_image.mpr ⟨j, Finset.mem_range.mpr hj, e⟩
    have h1 := (Finset.card_le_card hsub).trans Finset.card_image_le
    rw [Finset.card_univ, Fintype.card_fin, Finset.card_range] at h1
    omega
  intro e
  have h1 := (hl k).1 c
  rw [rounds_unpicked g G σ h0 hs k c hc, ← e, rounds_picked g G σ h0 hs k j hj] at h1
  exact absurd (hg c) (not_lt.mpr h1)

/-- What was not picked before round `i` does not come before what round `i` picks. -/
theorem rounds_before (i : Nat) (hi : i < n) (p : Fin n) (hp : ∀ j, j < i → σ j ≠ p) : lexBefore g p (σ i) = false := by
  have e1 := rounds_unpicked g G σ h0 hs i p hp
  have e2 := rounds_unpicked g G σ h0 hs i (σ i) fun j hj => rounds_new g G σ hg h0 hl hs i hi j hj
  obtain ⟨hmin, hlow⟩ := hl i
  have h1 := hmin p
  rw [e1, e2] at h1
  have h2 := hlow p
  rw [e1, e2] at h2
  unfold lexBefore
  rw [Bool.or_eq_false_iff, Bool.and_eq_false_iff, decide_eq_false_iff_not, decide_eq_false_iff_not, decide_eq_false_iff_not]
  refine ⟨not_lt.mpr h1, ?_⟩
  by_cases e : g p = g (σ i)
  · exact Or.inr (not_lt.mpr (h2 (le_of_eq e)))
  · exact Or.inl e

/-- Round `i` picks what the stable sort puts at place `i`. -/
theorem sortedFrom_rounds (i : Fin n) : sortedFrom (fun a b => decide (g a < g b)) i = σ i.val := by
  rw [sortedFrom_lex]
  have inj : Function.Injective fun i : Fin n => σ i.val := fun a b e => by
    rcases lt_trichotomy a.val b.val with h | h | h
    · exact absurd e (rounds_new g G σ hg h0 hl hs b.val b.isLt a.val h)
    · exact Fin.ext h
    · exact absurd e.symm (rounds_new g G σ hg h0 hl hs a.val a.isLt b.val h)
  exact (lexBefore_total g).sortedFrom_eq_of_prefix (le_refl n) (fun i : Fin n => σ i.val) inj
    (fun i j hij => rounds_before g G σ hg h0 hl hs i.val i.isLt (σ j.val) fun q hq =>
      rounds_new g G σ hg h0 hl hs j.val j.isLt q (hq.trans hij))
    (fun i p hp => rounds_before g G σ hg h0 hl hs i.val i.isLt p fun q hq => hp ⟨q, hq.trans i.isLt⟩) i

end rounds

end Cert.Proof

end
-- ==== Proof.RefRun.lean ====
/-
  The reference's frame, and its result as a composition of a few named parts: how far apart two points are, which
  eight points are nearest, the rows taken at them, and the layer over what was taken.
-/
module

public import proofs.«01_k».proof.Defs
public import proofs.«01_k».proof.Proof.Gen.ReferenceIdeal.Run
public import Idealize.ShloMosaic.Adequacy
public import Idealize.ShloMosaic.Lib.Quiescent

@[expose] public section

noncomputable section

namespace Cert.Proof.Ref

open Cert.ReferenceIdeal Cert.ReferenceIdeal.Gen
open Idealize.ShloMosaic Idealize.ShloMosaic.TcCoe Idealize.SL.Sem

/-! ## The parts -/

/-- Every point's offset from every other: at `(i, j)`, point `j` less point `i`. -/
def rel (x : FVec Ideal S4096x2 .f32) : FVec Ideal S4096x4096x2 .f32 :=
  subf (broadcastInDim S4096x4096x2 ![0, 1, 2] bcast_S1x4096x2_S4096x4096x2_0_1_2 (broadcastInDim S1x4096x2 ![1, 2] bcast_S4096x2_S1x4096x2_1_2 x))
    (broadcastInDim S4096x4096x2 ![0, 1, 2] bcast_S4096x1x2_S4096x4096x2_0_1_2 (broadcastInDim S4096x1x2 ![0, 2] bcast_S4096x2_S4096x1x2_0_2 x))

/-- One coordinate of the offsets. -/
def relX (x : FVec Ideal S4096x2 .f32) : FVec Ideal S4096x4096 .f32 :=
  shapeCast S4096x4096 (extractStridedSlice S4096x4096x1 ![0, 0, 0] (rel x) slices_S4096x4096x2_S4096x4096x1_0_0_0) shapeCasts_S4096x4096x1_S4096x4096
def relY (x : FVec Ideal S4096x2 .f32) : FVec Ideal S4096x4096 .f32 :=
  shapeCast S4096x4096 (extractStridedSlice S4096x4096x1 ![0, 0, 1] (rel x) slices_S4096x4096x2_S4096x4096x1_0_0_1) shapeCasts_S4096x4096x1_S4096x4096

/-- The distances, a point's own set far. -/
def gap (x : FVec Ideal S4096x2 .f32) : FVec Ideal S4096x4096 .f32 :=
  select (cmpi .eq (addi (iotaInDim S4096x4096 32 0) (broadcastInDim S4096x4096 ![] bcast_S_S4096x4096 (constantI S_ 32 0#32))) (iotaInDim S4096x4096 32 1))
    (broadcastInDim S4096x4096 ![] bcast_S_S4096x4096 (constant S_ .f32 0x7149F2CA#32))
    (Host.sqrt (addf (addf (mulf (relX x) (relX x)) (mulf (relY x) (relY x))) (broadcastInDim S4096x4096 ![] bcast_S_S4096x4096 (constant S_ .f32 0x3F800000#32))))

/-- The eight nearest, by `top_k` of the distances negated. -/
def nearest (x : FVec Ideal S4096x2 .f32) : IVec S4096x8 32 :=
  (Host.topK S4096x8 1 (FloatOps.cmpfTotal .gt) (Host.negf (gap x)) sliceFits_S4096x4096_S4096x8).2

/-- A row's indices as the gather takes them: one below zero counts from the end. -/
def starts (ix : IVec S4096x8 32) : IVec S4096x8x1 32 :=
  select (cmpi .slt (broadcastInDim S4096x8x1 ![0, 1] bcast_S4096x8_S4096x8x1_0_1 ix) (broadcastInDim S4096x8x1 ![] bcast_S_S4096x8x1 (constantI S_ 32 0#32)))
    (addi (broadcastInDim S4096x8x1 ![0, 1] bcast_S4096x8_S4096x8x1_0_1 ix) (broadcastInDim S4096x8x1 ![] bcast_S_S4096x8x1 (constantI S_ 32 4096#32)))
    (broadcastInDim S4096x8x1 ![0, 1] bcast_S4096x8_S4096x8x1_0_1 ix)

/-- Which of a row's indices name a column. -/
def within (ix : IVec S4096x8 32) : IVec S4096x8 1 :=
  Host.reduce IntOp.andi (andi (cmpi .sge (starts ix) (broadcastInDim S4096x8x1 ![] bcast_S_S4096x8x1 (constantI S_ 32 0#32)))
    (cmpi .sle (starts ix) (broadcastInDim S4096x8x1 ![0, 1, 2] bcast_S1x1x1_S4096x8x1_0_1_2 (broadcastInDim S1x1x1 ![2] bcast_S1_S1x1x1_2 (constantI S1 32 4095#32)))))
    (constantI S_ 1 1#1) reducesTo_S4096x8x1_S4096x8_d2 h_S_

/-- The rows of `v` at the indices. -/
def taken (v : FVec Ideal S4096x4096x2 .f32) (ix : IVec S4096x8 32) : FVec Ideal S4096x8x2 .f32 :=
  select (broadcastInDim S4096x8x2 ![0, 1] bcast_S4096x8_S4096x8x2_0_1 (within ix))
    (Host.gather gather_S4096x4096x2_S4096x8x1_S4096x8x2_2_1_0_0_1_2_112 v (starts ix))
    (broadcastInDim S4096x8x2 ![] bcast_S_S4096x8x2 (constant S_ .f32 0x7FC00000#32))

/-- The tag, a column of ones. -/
def tag : FVec Ideal S4096x8x1 .f32 := broadcastInDim S4096x8x1 ![] bcast_S_S4096x8x1 (constant S_ .f32 0x3F800000#32)

/-- A neighbour's six features. -/
def feat (p v : FVec Ideal S4096x8x2 .f32) : FVec Ideal S4096x8x6 .f32 := Value.fn_main_v33 (F := Ideal) p tag v tag

/-- The layer over them. -/
def layer (f : FVec Ideal S4096x8x6 .f32) (w : FVec Ideal S6x8 .f32) (b : FVec Ideal S8 .f32) : FVec Ideal S4096x8x8 .f32 :=
  maximumf (addf (Host.dotGeneral dot_S4096x8x6_S6x8_S4096x8x8_2_0_01_1_n_n none f w)
      (broadcastInDim S4096x8x8 ![0, 1, 2] bcast_S1x1x8_S4096x8x8_0_1_2 (broadcastInDim S1x1x8 ![2] bcast_S8_S1x1x8_2 b)))
    (broadcastInDim S4096x8x8 ![] bcast_S_S4096x8x8 (constant S_ .f32 0x00000000#32))

/-- The reference's result. -/
def result (x1 x2 : FVec Ideal S4096x2 .f32) (w : FVec Ideal S6x8 .f32) (b : FVec Ideal S8 .f32) : FVec Ideal S4096x64 .f32 :=
  shapeCast S4096x64 (layer (feat (taken (rel x2) (nearest x2)) (taken (rel (subf x2 x1)) (nearest x2))) w b) shapeCasts_S4096x8x8_S4096x64

theorem res_eq (m : (ℓ : Loc nD τ sig) → Buf (Elt Ideal) ℓ) (c : Dev nD) :
    Value.res_main_v39 m c = result (m ((c.tc : Thread nD τ).loc main_arg1)) (m ((c.tc : Thread nD τ).loc main_arg2))
      (m ((c.tc : Thread nD τ).loc main_arg3)) (m ((c.tc : Thread nD τ).loc main_arg4)) := by
  unfold Value.res_main_v39
  rfl

/-! ## The frame -/

theorem frame : Cert.quiescent_ReferenceIdeal := fun m ρ _ =>
  (θ_run (Cert.ReferenceIdeal.defs (F := Ideal)) _ _).mono
    (fun r h => ⟨fun c => (h c).2, sem_eq_zero_of_no_sems (by decide) r.2⟩) (Value.run (F := Ideal) m ρ)

end Cert.Proof.Ref

end
-- ==== Proof.RefValue.lean ====
/-
  The reference's parts read at an index.
-/
module

public import proofs.«01_k».proof.Proof.RefRun
public import Idealize.ShloMosaic.Lib.Pipeline.Value
public import Idealize.ShloMosaic.Lib.ReduceAll
public import Idealize.ShloMosaic.Lib.ValueIdxCore
public import Idealize.ShloMosaic.PureOps.Ideal.Laws

@[expose] public section

noncomputable section

namespace Cert.Proof.Ref

open Cert.ReferenceIdeal Cert.ReferenceIdeal.Gen
open Idealize.ShloMosaic

/-! ## Indices -/

def a2 (r : Fin 4096) (c : Fin 2) : S4096x2.Idx := fun | 0 => r | 1 => c
def a3 (r c : Fin 4096) (k : Fin 2) : S4096x4096x2.Idx := fun | 0 => r | 1 => c | 2 => k
def r3 (c : Fin 4096) (k : Fin 2) : S1x4096x2.Idx := fun | 0 => (0 : Fin 1) | 1 => c | 2 => k
def c3 (r : Fin 4096) (k : Fin 2) : S4096x1x2.Idx := fun | 0 => r | 1 => (0 : Fin 1) | 2 => k
def sq1 (r c : Fin 4096) : S4096x4096x1.Idx := fun | 0 => r | 1 => c | 2 => (0 : Fin 1)
def sq (r c : Fin 4096) : S4096x4096.Idx := fun | 0 => r | 1 => c
def o2 (r : Fin 4096) (k : Fin 8) : S4096x8.Idx := fun | 0 => r | 1 => k
def u3 (r : Fin 4096) (k : Fin 8) : S4096x8x1.Idx := fun | 0 => r | 1 => k | 2 => (0 : Fin 1)
def o3 (r : Fin 4096) (k : Fin 8) (c : Fin 2) : S4096x8x2.Idx := fun | 0 => r | 1 => k | 2 => c
def f3 (r : Fin 4096) (k : Fin 8) (c : Fin 6) : S4096x8x6.Idx := fun | 0 => r | 1 => k | 2 => c
def e3 (r : Fin 4096) (k : Fin 8) (e : Fin 8) : S4096x8x8.Idx := fun | 0 => r | 1 => k | 2 => e
def w2 (c : Fin 6) (e : Fin 8) : S6x8.Idx := fun | 0 => c | 1 => e
def b1 (e : Fin 8) : S8.Idx := fun | 0 => e

/-! ## The offsets and the distances -/

theorem rel_apply (x : FVec Ideal S4096x2 .f32) (r c : Fin 4096) (k : Fin 2) : rel x (a3 r c k) = x (a2 c k) - x (a2 r k) := by
  have h1 : broadcastInDim S4096x4096x2 ![0, 1, 2] bcast_S1x4096x2_S4096x4096x2_0_1_2 (broadcastInDim S1x4096x2 ![1, 2] bcast_S4096x2_S1x4096x2_1_2 x)
      (a3 r c k) = x (a2 c k) :=
    (broadcastInDim_apply _ _ _ (a3 r c k) (r3 c k) (fun a => match a with | 0 => rfl | 1 => rfl | 2 => rfl)).trans
      (broadcastInDim_apply _ _ _ _ (a2 c k) (fun a => match a with | 0 => rfl | 1 => rfl))
  have h2 : broadcastInDim S4096x4096x2 ![0, 1, 2] bcast_S4096x1x2_S4096x4096x2_0_1_2 (broadcastInDim S4096x1x2 ![0, 2] bcast_S4096x2_S4096x1x2_0_2 x)
      (a3 r c k) = x (a2 r k) :=
    (broadcastInDim_apply _ _ _ (a3 r c k) (c3 r k) (fun a => match a with | 0 => rfl | 1 => rfl | 2 => rfl)).trans
      (broadcastInDim_apply _ _ _ _ (a2 r k) (fun a => match a with | 0 => rfl | 1 => rfl))
  exact congrArg₂ (fun a b : Ideal .f32 => a - b) h1 h2

theorem relX_apply (x : FVec Ideal S4096x2 .f32) (r c : Fin 4096) : relX x (sq r c) = x (a2 c 0) - x (a2 r 0) := by
  refine (shapeCast_apply _ _ (sq r c) (sq1 r c) ?_).trans
    ((extractStridedSlice_apply _ _ _ _ (a3 r c 0) fun a => match a with | 0 => (Nat.zero_add _).symm | 1 => (Nat.zero_add _).symm | 2 => rfl).trans (rel_apply x r c 0))
  rw [Shape.rowMajor_val_three, Shape.rowMajor_val_two]
  show (r.val * 4096 + c.val) * 1 + 0 = r.val * 4096 + c.val
  omega

theorem relY_apply (x : FVec Ideal S4096x2 .f32) (r c : Fin 4096) : relY x (sq r c) = x (a2 c 1) - x (a2 r 1) := by
  refine (shapeCast_apply _ _ (sq r c) (sq1 r c) ?_).trans
    ((extractStridedSlice_apply _ _ _ _ (a3 r c 1) fun a => match a with | 0 => (Nat.zero_add _).symm | 1 => (Nat.zero_add _).symm | 2 => rfl).trans (rel_apply x r c 1))
  rw [Shape.rowMajor_val_three, Shape.rowMajor_val_two]
  show (r.val * 4096 + c.val) * 1 + 0 = r.val * 4096 + c.val
  omega

/-- How far point `c` is from point `r`; a point is far from itself. -/
def far (x : FVec Ideal S4096x2 .f32) (r c : Fin 4096) : EReal :=
  if r = c then (FloatOps.ofBits .f32 0x7149F2CA#32 : Ideal .f32)
  else Ideal.sqrt ((x (a2 c 0) - x (a2 r 0)) * (x (a2 c 0) - x (a2 r 0)) + (x (a2 c 1) - x (a2 r 1)) * (x (a2 c 1) - x (a2 r 1))
    + (FloatOps.ofBits .f32 0x3F800000#32 : Ideal .f32))

/-- The words of two coordinates are the same exactly when the coordinates are. -/
theorem eqWord (a b : Fin 4096) : IntOp.cmpi .eq (BitVec.ofNat 32 a.val + 0#32) (BitVec.ofNat 32 b.val) = 1 ↔ a = b := by
  have h : (BitVec.ofNat 32 a.val + 0#32 = BitVec.ofNat 32 b.val) ↔ a = b := by
    constructor
    · intro h
      have := congrArg BitVec.toNat h
      simp only [BitVec.toNat_add, BitVec.toNat_ofNat] at this
      exact Fin.ext (by omega)
    · rintro rfl; simp
  rw [← h]
  unfold IntOp.cmpi
  show BitVec.ofBool (BitVec.ofNat 32 a.val + 0#32 == BitVec.ofNat 32 b.val) = 1 ↔ _
  cases hb : (BitVec.ofNat 32 a.val + 0#32 == BitVec.ofNat 32 b.val)
  · exact ⟨fun h => absurd h (by decide), fun h => absurd (beq_iff_eq.2 h) (by rw [hb]; decide)⟩
  · exact ⟨fun _ => beq_iff_eq.1 hb, fun _ => rfl⟩

theorem gap_apply (x : FVec Ideal S4096x2 .f32) (r c : Fin 4096) : gap x (sq r c) = far x r c := by
  have h : gap x (sq r c) = Scalar.select (IntOp.cmpi .eq (BitVec.ofNat 32 r.val + 0#32) (BitVec.ofNat 32 c.val))
      (FloatOps.ofBits .f32 0x7149F2CA#32 : Ideal .f32)
      (Ideal.sqrt (relX x (sq r c) * relX x (sq r c) + relY x (sq r c) * relY x (sq r c) + (FloatOps.ofBits .f32 0x3F800000#32 : Ideal .f32))) := rfl
  rw [h, relX_apply, relY_apply]
  unfold Scalar.select far
  rw [if_congr (eqWord r c) rfl rfl]

/-! ## The nearest -/

/-- A `top_k`'s indices: the stable order of the axis by the comparison, its first places. -/
theorem topK_places {s t : Shape} {α : Type} (d : Nat) (hd : d < s.rank) (e : Fin s.rank) (he : e = ⟨d, hd⟩) (gt : α → α → BitVec 1) (x : s.Idx → α) (h : s.Slices (fun _ => 0) t)
    (j : t.Idx) (J : s.Idx) (hJ : ∀ a : Fin s.rank, (J a).val = (j (a.cast h.1.symm)).val) :
    (Host.topK t d gt x h).2 j
      = BitVec.ofNat 32 (sortedFrom (fun a b => gt (x (J.along e a)) (x (J.along e b)) == 1#1) (J e)).val := by
  subst he
  unfold Host.topK
  refine (extractStridedSlice_apply _ _ h j J fun a => (hJ a).trans (Nat.zero_add _).symm).trans ?_
  unfold Host.sort2
  simp only [dif_pos hd, iotaInDim, Shape.Idx.along, Function.update_self]

theorem along_sq (r c a : Fin 4096) : Shape.Idx.along (s := S4096x4096) (sq r c) 1 a = sq r a := by
  funext i
  match i with
  | 0 => rfl
  | 1 => rfl

theorem gt_neg (u v : EReal) : ((FloatOps.cmpfTotal (F := Ideal) (φ := .f32) .gt (-u) (-v)) == 1#1) = decide (u < v) := by
  show (BitVec.ofBool (decide (-v < -u)) == 1#1) = _
  rw [decide_eq_decide.2 (EReal.neg_lt_neg_iff (a := v) (b := u))]
  cases decide (u < v) <;> rfl

theorem before_apply (x : FVec Ideal S4096x2 .f32) (r c a b : Fin 4096) :
    ((FloatOps.cmpfTotal (F := Ideal) (φ := .f32) .gt (Host.negf (gap x) (Shape.Idx.along (s := S4096x4096) (sq r c) 1 a))
      (Host.negf (gap x) (Shape.Idx.along (s := S4096x4096) (sq r c) 1 b))) == 1#1) = decide (far x r a < far x r b) := by
  rw [along_sq, along_sq]
  show ((FloatOps.cmpfTotal (F := Ideal) (φ := .f32) .gt (-gap x (sq r a)) (-gap x (sq r b))) == 1#1) = _
  rw [gap_apply, gap_apply, gt_neg]

theorem nearest_apply (x : FVec Ideal S4096x2 .f32) (r : Fin 4096) (k : Fin 8) :
    nearest x (o2 r k) = BitVec.ofNat 32 (sortedFrom (fun a b => decide (far x r a < far x r b)) (k.castLE (by decide))).val := by
  refine (topK_places 1 (by decide) 1 rfl _ _ _ (o2 r k) (sq r (k.castLE (by decide))) fun a => match a with | 0 => rfl | 1 => rfl).trans ?_
  refine congrArg (fun f => BitVec.ofNat 32 (sortedFrom (n := 4096) f (k.castLE (by decide))).val) (funext fun a => funext fun b => before_apply x r (k.castLE (by decide)) a b)

/-! ## What is taken -/

theorem starts_apply (ix : IVec S4096x8 32) (r : Fin 4096) (k : Fin 8) (h : (ix (o2 r k)).toNat < 4096) : starts ix (u3 r k) = ix (o2 r k) := by
  have hb : broadcastInDim S4096x8x1 ![0, 1] bcast_S4096x8_S4096x8x1_0_1 ix (u3 r k) = ix (o2 r k) :=
    broadcastInDim_apply _ _ _ (u3 r k) (o2 r k) fun a => match a with | 0 => rfl | 1 => rfl
  have h0 : starts ix (u3 r k) = Scalar.select (IntOp.cmpi .slt (broadcastInDim S4096x8x1 ![0, 1] bcast_S4096x8_S4096x8x1_0_1 ix (u3 r k)) 0#32)
      (broadcastInDim S4096x8x1 ![0, 1] bcast_S4096x8_S4096x8x1_0_1 ix (u3 r k) + 4096#32)
      (broadcastInDim S4096x8x1 ![0, 1] bcast_S4096x8_S4096x8x1_0_1 ix (u3 r k)) := rfl
  rw [h0, hb]
  unfold Scalar.select
  rw [if_neg]
  intro hs
  have hs' : BitVec.ofBool ((ix (o2 r k)).slt 0#32) = 1#1 := hs
  have hf : (ix (o2 r k)).slt 0#32 = false := by
    unfold BitVec.slt
    rw [BitVec.toInt_eq_toNat_of_lt (by omega)]
    simp
  rw [hf] at hs'
  exact absurd hs' (by decide)

theorem in_range (w : BitVec 32) (h : w.toNat < 4096) : IntOp.andi (IntOp.cmpi .sge w 0#32) (IntOp.cmpi .sle w 4095#32) = 1#1 := by
  have h1 : IntOp.cmpi .sge w 0#32 = 1#1 := by
    show BitVec.ofBool ((0#32).sle w) = 1#1
    have : (0#32).sle w = true := by
      unfold BitVec.sle
      rw [BitVec.toInt_eq_toNat_of_lt (x := w) (by omega)]
      simp
    rw [this]; rfl
  have h2 : IntOp.cmpi .sle w 4095#32 = 1#1 := by
    show BitVec.ofBool (w.sle 4095#32) = 1#1
    have : w.sle 4095#32 = true := by
      unfold BitVec.sle
      rw [BitVec.toInt_eq_toNat_of_lt (x := w) (by omega)]
      have : (4095#32).toInt = 4095 := rfl
      rw [this]
      simp; omega
    rw [this]; rfl
  rw [h1, h2]; rfl

theorem idx_u3 (i : S4096x8x1.Idx) : i = u3 (i 0) (i 1) := by
  funext a
  match a with
  | 0 => rfl
  | 1 => rfl
  | 2 => exact Subsingleton.elim (α := Fin 1) _ _

theorem idx_o2 (i : S4096x8.Idx) : i = o2 (i 0) (i 1) := by
  funext a
  match a with
  | 0 => rfl
  | 1 => rfl

theorem within_apply (ix : IVec S4096x8 32) (h : ∀ j, (ix j).toNat < 4096) (j : S4096x8.Idx) : within ix j = 1#1 := by
  refine Host.reduce_andi_one _ _ _ _ j rfl fun i => ?_
  show IntOp.andi (IntOp.cmpi .sge (starts ix i) 0#32) (IntOp.cmpi .sle (starts ix i) 4095#32) = 1#1
  have e : starts ix i = ix (o2 (i 0) (i 1)) := (congrArg (starts ix) (idx_u3 i)).trans (starts_apply ix (i 0) (i 1) (h _))
  rw [e]
  exact in_range _ (h _)

/-- The gather reads the row's own plane, at the start index. -/
theorem gather_apply (v : FVec Ideal S4096x4096x2 .f32) (st : IVec S4096x8x1 32) (r : Fin 4096) (k : Fin 8) (c : Fin 2) (h : (st (u3 r k)).toNat < 4096) :
    Host.gather gather_S4096x4096x2_S4096x8x1_S4096x8x2_2_1_0_0_1_2_112 v st (o3 r k c) = v (a3 r ⟨(st (u3 r k)).toNat, h⟩ c) := by
  unfold Host.gather
  refine congrArg v (funext fun a => Fin.ext ?_)
  show gather_S4096x4096x2_S4096x8x1_S4096x8x2_2_1_0_0_1_2_112.start (o3 r k c) st a
    + gather_S4096x4096x2_S4096x8x1_S4096x8x2_2_1_0_0_1_2_112.batchCoord (o3 r k c) a
    + gather_S4096x4096x2_S4096x8x1_S4096x8x2_2_1_0_0_1_2_112.offCoord (o3 r k c) a = _
  match a with
  | 0 =>
    rw [GatherDims.start_batching _ _ _ _ (List.mem_singleton.mpr rfl),
      GatherDims.offCoord_eq_zero _ _ _ (fun h => ((GatherDims.mem_sKept _ _).mp h).2 (List.mem_singleton.mpr rfl))]
    rw [Nat.zero_add, Nat.add_zero]
    rfl
  | 1 =>
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    show gather_S4096x4096x2_S4096x8x1_S4096x8x2_2_1_0_0_1_2_112.start (o3 r k c) st 1 = _
    unfold GatherDims.start
    refine (dif_pos (List.mem_singleton.mpr rfl)).trans ?_
    have hs : ∀ q, gather_S4096x4096x2_S4096x8x1_S4096x8x2_2_1_0_0_1_2_112.siIdx (o3 r k c) q = u3 r k := by
      intro q
      funext b
      match b with
      | 0 => rfl
      | 1 => rfl
      | 2 => exact Subsingleton.elim (α := Fin 1) _ _
    rw [hs, BitVec.toInt_eq_toNat_of_lt (by omega), Int.toNat_natCast]
    show min _ 4095 = (st (u3 r k)).toNat
    omega
  | 2 =>
    rw [GatherDims.batchCoord_eq_zero _ _ _ (fun h => absurd (List.mem_singleton.mp h) (by decide))]
    have hs : gather_S4096x4096x2_S4096x8x1_S4096x8x2_2_1_0_0_1_2_112.start (o3 r k c) st 2 = 0 := by
      unfold GatherDims.start
      exact dif_neg (fun h => absurd (List.mem_singleton.mp h) (by decide))
    rw [hs]
    show 0 + 0 + c.val = c.val
    omega

theorem taken_apply (v : FVec Ideal S4096x4096x2 .f32) (ix : IVec S4096x8 32) (h : ∀ j, (ix j).toNat < 4096) (r : Fin 4096) (k : Fin 8) (c : Fin 2) :
    taken v ix (o3 r k c) = v (a3 r ⟨(ix (o2 r k)).toNat, h _⟩ c) := by
  have hb : broadcastInDim S4096x8x2 ![0, 1] bcast_S4096x8_S4096x8x2_0_1 (within ix) (o3 r k c) = within ix (o2 r k) :=
    broadcastInDim_apply _ _ _ (o3 r k c) (o2 r k) fun a => match a with | 0 => rfl | 1 => rfl
  have h0 : taken v ix (o3 r k c) = Scalar.select (broadcastInDim S4096x8x2 ![0, 1] bcast_S4096x8_S4096x8x2_0_1 (within ix) (o3 r k c))
      (Host.gather gather_S4096x4096x2_S4096x8x1_S4096x8x2_2_1_0_0_1_2_112 v (starts ix) (o3 r k c))
      (broadcastInDim S4096x8x2 ![] bcast_S_S4096x8x2 (constant S_ .f32 0x7FC00000#32) (o3 r k c)) := rfl
  rw [h0, hb, within_apply ix h]
  refine (if_pos rfl).trans ?_
  rw [gather_apply v (starts ix) r k c (by rw [starts_apply ix r k (h _)]; exact h _)]
  exact congrArg (fun q => v (a3 r q c)) (Fin.ext (congrArg BitVec.toNat (starts_apply ix r k (h _))))

/-! ## The layer -/

theorem one_word : (FloatOps.ofBits .f32 0x3F800000#32 : Ideal .f32) = 1 := by
  rw [Ideal.ofBits_def]
  simp [Ideal.ofBits, Ideal.ieee, -EReal.coe_mul]
  norm_num

theorem tag_apply (r : Fin 4096) (k : Fin 8) : tag (u3 r k) = 1 := one_word

/-- The pieces a neighbour's features are laid of. -/
def pieces (p v : FVec Ideal S4096x8x2 .f32) : List ((s : Shape) × (s.Idx → Ideal .f32)) :=
  [⟨S4096x8x2, p⟩, ⟨S4096x8x1, tag⟩, ⟨S4096x8x2, v⟩, ⟨S4096x8x1, tag⟩]

/-- A neighbour's features, one by one. -/
theorem feat_apply (p v : FVec Ideal S4096x8x2 .f32) (r : Fin 4096) (k : Fin 8) :
    feat p v (f3 r k 0) = p (o3 r k 0) ∧ feat p v (f3 r k 1) = p (o3 r k 1) ∧ feat p v (f3 r k 2) = 1
      ∧ feat p v (f3 r k 3) = v (o3 r k 0) ∧ feat p v (f3 r k 4) = v (o3 r k 1) ∧ feat p v (f3 r k 5) = 1 := by
  have off : ∀ (i : Fin 2) (j : Fin 6) (b : Fin 3), b ≠ 2 → (o3 r k i b).val = (f3 r k j b).val := fun i j b hb =>
    match b, hb with | 0, _ => rfl | 1, _ => rfl | 2, hb => absurd rfl hb
  have offu : ∀ (j : Fin 6) (b : Fin 3), b ≠ 2 → (u3 r k b).val = (f3 r k j b).val := fun j b hb =>
    match b, hb with | 0, _ => rfl | 1, _ => rfl | 2, hb => absurd rfl hb
  unfold feat Value.fn_main_v33
  refine ⟨?_, ?_, ?_, ?_, ?_, ?_⟩
  · exact concatenate_apply_piece 2 (pieces p v) concatenates_S4096x8x2_S4096x8x1_S4096x8x2_S4096x8x1_S4096x8x6_d2 (f3 r k 0) 0 (show 0 < 4 by decide) S4096x8x2 p rfl rfl 0 rfl (o3 r k 0) (off 0 0) rfl
  · exact concatenate_apply_piece 2 (pieces p v) concatenates_S4096x8x2_S4096x8x1_S4096x8x2_S4096x8x1_S4096x8x6_d2 (f3 r k 1) 0 (show 0 < 4 by decide) S4096x8x2 p rfl rfl 0 rfl (o3 r k 1) (off 1 1) rfl
  · exact (concatenate_apply_piece 2 (pieces p v) concatenates_S4096x8x2_S4096x8x1_S4096x8x2_S4096x8x1_S4096x8x6_d2 (f3 r k 2) 1 (show 1 < 4 by decide) S4096x8x1 tag rfl rfl 2 rfl (u3 r k) (offu 2) rfl).trans (tag_apply r k)
  · exact concatenate_apply_piece 2 (pieces p v) concatenates_S4096x8x2_S4096x8x1_S4096x8x2_S4096x8x1_S4096x8x6_d2 (f3 r k 3) 2 (show 2 < 4 by decide) S4096x8x2 v rfl rfl 3 rfl (o3 r k 0) (off 0 3) rfl
  · exact concatenate_apply_piece 2 (pieces p v) concatenates_S4096x8x2_S4096x8x1_S4096x8x2_S4096x8x1_S4096x8x6_d2 (f3 r k 4) 2 (show 2 < 4 by decide) S4096x8x2 v rfl rfl 3 rfl (o3 r k 1) (off 1 4) rfl
  · exact (concatenate_apply_piece 2 (pieces p v) concatenates_S4096x8x2_S4096x8x1_S4096x8x2_S4096x8x1_S4096x8x6_d2 (f3 r k 5) 3 (show 3 < 4 by decide) S4096x8x1 tag rfl rfl 5 rfl (u3 r k) (offu 5) rfl).trans (tag_apply r k)

abbrev D6 : DotDims S4096x8x6 S6x8 S4096x8x8 := dot_S4096x8x6_S6x8_S4096x8x8_2_0_01_1_n_n

theorem dot_apply (f : FVec Ideal S4096x8x6 .f32) (w : FVec Ideal S6x8 .f32) (r : Fin 4096) (k e : Fin 8) :
    Host.dotGeneral D6 none f w (e3 r k e) = ∑ i : Fin 6, f (f3 r k i) * w (w2 i e) := by
  have hr : D6.contr.rank = 1 := rfl
  have hs : D6.contr.size ⟨0, by omega⟩ = 6 := rfl
  simp only [Host.dotGeneral]
  refine (Ideal.dotGeneral_apply D6 none _ f w (e3 r k e)).trans ?_
  rw [← Equiv.sum_comp (ValueIdx.contrEquiv1 D6 6 hr hs).symm]
  refine Finset.sum_congr rfl fun i _ => ?_
  have hl : D6.lhsIdx (e3 r k e) ((ValueIdx.contrEquiv1 D6 6 hr hs).symm i) = f3 r k i := by
    funext a
    match a with
    | 0 => rfl
    | 1 => rfl
    | 2 => rfl
  have hw : D6.rhsIdx (e3 r k e) ((ValueIdx.contrEquiv1 D6 6 hr hs).symm i) = w2 i e := by
    funext a
    match a with
    | 0 => rfl
    | 1 => rfl
  rw [hl, hw]

theorem layer_apply (f : FVec Ideal S4096x8x6 .f32) (w : FVec Ideal S6x8 .f32) (b : FVec Ideal S8 .f32) (r : Fin 4096) (k e : Fin 8) :
    layer f w b (e3 r k e) = max ((∑ i : Fin 6, f (f3 r k i) * w (w2 i e)) + b (b1 e)) (FloatOps.ofBits .f32 0x00000000#32 : Ideal .f32) := by
  have hb : broadcastInDim S4096x8x8 ![0, 1, 2] bcast_S1x1x8_S4096x8x8_0_1_2 (broadcastInDim S1x1x8 ![2] bcast_S8_S1x1x8_2 b) (e3 r k e) = b (b1 e) :=
    (broadcastInDim_apply _ _ _ (e3 r k e) (show S1x1x8.Idx from fun | 0 => (0 : Fin 1) | 1 => (0 : Fin 1) | 2 => e)
      (fun a => match a with | 0 => rfl | 1 => rfl | 2 => rfl)).trans
      (broadcastInDim_apply _ _ _ _ (b1 e) (fun a => match a with | 0 => rfl))
  have h0 : layer f w b (e3 r k e) = max (Host.dotGeneral D6 none f w (e3 r k e)
      + broadcastInDim S4096x8x8 ![0, 1, 2] bcast_S1x1x8_S4096x8x8_0_1_2 (broadcastInDim S1x1x8 ![2] bcast_S8_S1x1x8_2 b) (e3 r k e))
      (FloatOps.ofBits .f32 0x00000000#32 : Ideal .f32) := rfl
  rw [h0, hb, dot_apply]

/-! ## The result -/

def z2 (r : Fin 4096) (q : Fin 64) : S4096x64.Idx := fun | 0 => r | 1 => q

/-- Neighbour `k` of point `r`. -/
def near (x : FVec Ideal S4096x2 .f32) (r : Fin 4096) (k : Fin 8) : Fin 4096 :=
  sortedFrom (fun a b => decide (far x r a < far x r b)) (k.castLE (by decide))

theorem nearest_toNat (x : FVec Ideal S4096x2 .f32) (r : Fin 4096) (k : Fin 8) : (nearest x (o2 r k)).toNat = (near x r k).val := by
  rw [nearest_apply, BitVec.toNat_ofNat]
  exact Nat.mod_eq_of_lt (lt_trans (near x r k).isLt (by decide))

theorem nearest_lt (x : FVec Ideal S4096x2 .f32) (j : S4096x8.Idx) : (nearest x j).toNat < 4096 := by
  have e : (nearest x j).toNat = (near x (j 0) (j 1)).val := (congrArg (fun j => (nearest x j).toNat) (idx_o2 j)).trans (nearest_toNat x (j 0) (j 1))
  rw [e]
  exact (near x (j 0) (j 1)).isLt

theorem taken_near (v x : FVec Ideal S4096x2 .f32) (r : Fin 4096) (k : Fin 8) (c : Fin 2) :
    taken (rel v) (nearest x) (o3 r k c) = v (a2 (near x r k) c) - v (a2 r c) := by
  rw [taken_apply _ _ (nearest_lt x), rel_apply]
  exact congrArg (fun q => v (a2 q c) - v (a2 r c)) (Fin.ext (nearest_toNat x r k))

/-- The reference's result at an index: one unit of the layer over one neighbour of one point. -/
theorem result_apply (x1 x2 : FVec Ideal S4096x2 .f32) (w : FVec Ideal S6x8 .f32) (b : FVec Ideal S8 .f32) (r : Fin 4096) (q : Fin 64)
    (k e : Fin 8) (hq : q.val = 8 * k.val + e.val) :
    result x1 x2 w b (z2 r q)
      = max ((x2 (a2 (near x2 r k) 0) - x2 (a2 r 0)) * w (w2 0 e) + (x2 (a2 (near x2 r k) 1) - x2 (a2 r 1)) * w (w2 1 e) + 1 * w (w2 2 e)
          + ((x2 (a2 (near x2 r k) 0) - x1 (a2 (near x2 r k) 0)) - (x2 (a2 r 0) - x1 (a2 r 0))) * w (w2 3 e)
          + ((x2 (a2 (near x2 r k) 1) - x1 (a2 (near x2 r k) 1)) - (x2 (a2 r 1) - x1 (a2 r 1))) * w (w2 4 e) + 1 * w (w2 5 e) + b (b1 e))
        (FloatOps.ofBits .f32 0x00000000#32 : Ideal .f32) := by
  unfold result
  refine (shapeCast_apply _ _ (z2 r q) (e3 r k e) ?_).trans ?_
  · rw [Shape.rowMajor_val_three, Shape.rowMajor_val_two]
    show (r.val * 8 + k.val) * 8 + e.val = r.val * 64 + q.val
    omega
  refine (layer_apply _ w b r k e).trans ?_
  obtain ⟨h0, h1, h2, h3, h4, h5⟩ := feat_apply (taken (rel x2) (nearest x2)) (taken (rel (subf x2 x1)) (nearest x2)) r k
  rw [Fin.sum_univ_six, h0, h1, h2, h3, h4, h5, taken_near, taken_near, taken_near, taken_near]
  rfl

end Cert.Proof.Ref

end
-- ==== Proof.Finite.lean ====
/-
  The precondition read at an entry, what it gives of the distances, and the sum of seven in two orders.
-/
module

public import proofs.«01_k».proof.Defs
public import proofs.«01_k».proof.Pre_finite
public import proofs.«01_k».proof.Proof.RefValue

@[expose] public section

noncomputable section

namespace Cert.Proof

open Cert.ReferenceIdeal Cert.ReferenceIdeal.Gen

open Idealize.ShloMosaic

theorem top_word : (FloatOps.ofBits .f32 0x7F800000#32 : Ideal .f32) = ⊤ := by
  rw [Ideal.ofBits_def]
  simp [Ideal.ofBits, Ideal.ieee]

/-! ## The distances are real -/

theorem real_sub (a b : EReal) (ha : a ≠ ⊤ ∧ a ≠ ⊥) (hb : b ≠ ⊤ ∧ b ≠ ⊥) : ∃ p : ℝ, a - b = (p : EReal) := by
  lift a to ℝ using ha
  lift b to ℝ using hb
  exact ⟨a - b, (EReal.coe_sub a b).symm⟩

/-- Every coordinate is a real number. -/
def AllReal (x : FVec Ideal S4096x2 .f32) : Prop := ∀ j, (x j : EReal) ≠ ⊤ ∧ (x j : EReal) ≠ ⊥

theorem far_lt (x : FVec Ideal S4096x2 .f32) (hx : AllReal x) (r c : Fin 4096) : Ref.far x r c < ⊤ := by
  unfold Ref.far
  split
  · rw [Ideal.ofBits_def]
    simp only [Ideal.ofBits, Ideal.ieee]
    exact EReal.coe_lt_top _
  · obtain ⟨p, hp⟩ := real_sub _ _ (hx (Ref.a2 c 0)) (hx (Ref.a2 r 0))
    obtain ⟨q, hq⟩ := real_sub _ _ (hx (Ref.a2 c 1)) (hx (Ref.a2 r 1))
    have e : Ideal.sqrt ((x (Ref.a2 c 0) - x (Ref.a2 r 0)) * (x (Ref.a2 c 0) - x (Ref.a2 r 0)) + (x (Ref.a2 c 1) - x (Ref.a2 r 1)) * (x (Ref.a2 c 1) - x (Ref.a2 r 1))
        + (FloatOps.ofBits .f32 0x3F800000#32 : Ideal .f32)) = Ideal.sqrt ((p * p + q * q + 1 : ℝ) : EReal) := by
      rw [Ref.one_word]
      refine congrArg Ideal.sqrt ?_
      refine (congrArg₂ (fun a b : EReal => a * a + b * b + 1) hp hq).trans ?_
      push_cast
      rfl
    rw [e]
    show (if p * p + q * q + 1 < 0 then (⊥ : EReal) else (Real.sqrt (p * p + q * q + 1) : EReal)) < ⊤
    split
    · exact bot_lt_top
    · exact EReal.coe_lt_top _

/-! ## The sum -/

/-- The reference's sum of seven in the kernel's order: the two constant features' weights join the bias. -/
theorem regroup (a b u v w2 w5 c : EReal) : a + b + u + v + (w2 + w5 + c) = a + b + 1 * w2 + u + v + 1 * w5 + c := by
  rw [one_mul, one_mul]
  ac_rfl

/-! ## The precondition -/

theorem olt_iff (x y : Ideal .f32) : FloatOps.cmpf .olt x y = 1 ↔ x < y := by
  show BitVec.ofBool (decide (x < y)) = 1#1 ↔ _
  by_cases h : x < y <;> simp [h]

/-- The side conditions the precondition's operations take. -/
instance pre_facts : Cert.Pre_finite.Facts where
  bcast_S_S4096x2 := by decide
  reducesTo_S4096x2_S_d0_1 := by decide
  h_S_ := by decide

instance : Subsingleton Cert.Pre_finite.S_.Idx := ⟨fun a b => funext fun i => i.elim0⟩

theorem finite_apply (a0 : FVec Ideal Cert.Pre_finite.S1 .f32) (a1 a2 : FVec Ideal Cert.Pre_finite.S4096x2 .f32) (a3 : FVec Ideal Cert.Pre_finite.S6x8 .f32)
    (a4 : FVec Ideal Cert.Pre_finite.S8 .f32) (h : Cert.Pre_finite.fn a0 a1 a2 a3 a4 = fun _ => 1#1) (j : Cert.Pre_finite.S4096x2.Idx) :
    (a2 j : EReal) ≠ ⊤ ∧ (a2 j : EReal) ≠ ⊥ := by
  have h1 := Host.reduce_andi_all _ _ _ _ (fun i => i.elim0) (congrFun h _) j
  have h2 : max (a2 j : EReal) (-(a2 j : EReal)) < (FloatOps.ofBits .f32 0x7F800000#32 : Ideal .f32) := (olt_iff _ _).1 h1
  rw [top_word, max_lt_iff] at h2
  refine ⟨h2.1.ne, fun e => ?_⟩
  rw [e, EReal.neg_bot] at h2
  exact absurd h2.2 (lt_irrefl _)

end Cert.Proof

end
-- ==== Proof.PickIdeal.lean ====
/-
  The picks on extended reals: each round takes the lowest column whose distance is least, and strikes it out.
-/
module

public import proofs.«01_k».proof.Proof.Nearest
public import proofs.«01_k».proof.Proof.Order
public import proofs.«01_k».proof.Proof.Finite
public import Idealize.ShloMosaic.PureOps.Ideal.Laws

@[expose] public section

noncomputable section

namespace Cert.Proof

open Cert.KernelIdeal Cert.KernelIdeal.Gen

open Idealize.ShloMosaic

/-! ## The constants -/

/-- A column's number on the extended reals. -/
theorem colNum (n : Nat) (h : n < 4096) : (FloatOps.sitofp .f32 (BitVec.ofNat 32 n) : Ideal .f32) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  rfl

/-- The candidate that stands for no column is no less than any column's number. -/
theorem sentinel_ge : ((4095 : ℝ) : EReal) ≤ (FloatOps.ofBits .f32 0x457FF000#32 : Ideal .f32) := by
  rw [Ideal.ofBits_def]
  simp [Ideal.ofBits, Ideal.ieee, -EReal.coe_mul]
  norm_num

theorem taken_top : (Named.named κ "taken" 0x71C9F2CA#32 : Ideal .f32) = ⊤ :=
  IdealRules.named_const.ideal_named_scalar κ "taken" _ ⊤ rfl

/-- A column's number, back as a word. -/
theorem colWord (n : Nat) (h : n < 4096) : FloatOps.fptosi (F := Ideal) (φ := .f32) 32 (((n : ℝ) : EReal)) = BitVec.ofNat 32 n := by
  show Ideal.fptosi 32 (((n : ℝ) : EReal)) = _
  rw [Ideal.fptosi, Ideal.toIntClamped_coe, if_pos (Nat.cast_nonneg n), Int.floor_natCast]
  have h1 : min (((2 ^ (32 - 1) : Nat) : Int) - 1) (n : Int) = n := min_eq_right (by norm_num; omega)
  rw [h1, max_eq_right (by norm_num)]
  exact BitVec.ofInt_natCast 32 n

/-! ## A round -/

theorem ole_iff (x y : Ideal .f32) : FloatOps.cmpf .ole x y = 1 ↔ x ≤ y := by
  show BitVec.ofBool (decide (x ≤ y)) = 1#1 ↔ _
  by_cases h : x ≤ y <;> simp [h]

theorem oeq_iff (x y : Ideal .f32) : FloatOps.cmpf .oeq x y = 1 ↔ x = y := by
  show BitVec.ofBool (decide (x = y)) = 1#1 ↔ _
  by_cases h : x = y <;> simp [h]

/-- The distances of a row. -/
def rowOf (d : FVec Ideal S512x4096 .f32) (r : Fin 512) : Fin 4096 → EReal := fun c => d (e2 r c)

theorem rowMin_le (d : FVec Ideal S512x4096 .f32) (r : Fin 512) (c : Fin 4096) : rowMin d (e1 r) ≤ d (e2 r c) := by
  rw [rowMin_apply]
  exact (Finset.fold_min_le (d (e2 r c))).mpr (Or.inr ⟨c, Finset.mem_univ c, le_refl _⟩)

theorem exists_lowest (g : Fin 4096 → EReal) : ∃ c, Lowest g c := by
  obtain ⟨m, -, hm⟩ := Finset.exists_min_image (Finset.univ : Finset (Fin 4096)) g ⟨0, Finset.mem_univ _⟩
  obtain ⟨c, hc, hmin⟩ := Finset.exists_min_image (Finset.univ.filter fun c => g c ≤ g m) (fun c => c) ⟨m, by simp⟩
  rw [Finset.mem_filter] at hc
  refine ⟨c, fun p => hc.2.trans (hm p (Finset.mem_univ p)), fun p hp => hmin p ?_⟩
  rw [Finset.mem_filter]
  exact ⟨Finset.mem_univ p, hp.trans hc.2⟩

theorem rowMin_eq (d : FVec Ideal S512x4096 .f32) (r : Fin 512) (c : Fin 4096) (h : Lowest (rowOf d r) c) : rowMin d (e1 r) = d (e2 r c) := by
  refine le_antisymm (rowMin_le d r c) ?_
  rw [rowMin_apply]
  refine (Finset.le_fold_min (d (e2 r c))).mpr ⟨?_, fun p _ => h.1 p⟩
  rw [top_word]
  exact le_top

/-- A candidate is its column's number where the distance is least. -/
theorem cands_ideal (d : FVec Ideal S512x4096 .f32) (r : Fin 512) (c : Fin 4096) (h : Lowest (rowOf d r) c) (p : Fin 4096) :
    cands d (e2 r p) = if rowOf d r p ≤ rowOf d r c then ((p.val : ℝ) : EReal) else (FloatOps.ofBits .f32 0x457FF000#32 : Ideal .f32) := by
  rw [cands_apply, rowMin_eq d r c h, colNum p.val p.isLt]
  unfold Scalar.select
  rw [if_congr (ole_iff _ _) rfl rfl]
  rfl

/-- A round picks the lowest of the columns whose distance is least. -/
theorem pick_lowest (d : FVec Ideal S512x4096 .f32) (r : Fin 512) (c : Fin 4096) (h : Lowest (rowOf d r) c) :
    pick d (eu r) = ((c.val : ℝ) : EReal) := by
  rw [pick_apply]
  refine le_antisymm ((Finset.fold_min_le _).mpr (Or.inr ⟨c, Finset.mem_univ c, ?_⟩)) ((Finset.le_fold_min _).mpr ⟨?_, fun p _ => ?_⟩)
  · rw [cands_ideal d r c h, if_pos (le_refl _)]
  · rw [top_word]; exact le_top
  · rw [cands_ideal d r c h]
    split
    · rename_i hp
      have := h.2 p hp
      exact EReal.coe_le_coe_iff.mpr (Nat.cast_le.mpr this)
    · refine le_trans (EReal.coe_le_coe_iff.mpr ?_) sentinel_ge
      have h1 : c.val ≤ 4095 := by omega
      exact_mod_cast h1

/-- The column that a round picks. -/
def pickCol (d : FVec Ideal S512x4096 .f32) (r : Fin 512) : Fin 4096 := Classical.choose (exists_lowest (rowOf d r))
theorem pickCol_lowest (d : FVec Ideal S512x4096 .f32) (r : Fin 512) : Lowest (rowOf d r) (pickCol d r) :=
  Classical.choose_spec (exists_lowest (rowOf d r))
theorem pick_ideal (d : FVec Ideal S512x4096 .f32) (r : Fin 512) : pick d (eu r) = (((pickCol d r).val : ℝ) : EReal) :=
  pick_lowest d r _ (pickCol_lowest d r)

/-- Striking out the picked column sets its distance to +∞. -/
theorem strike_ideal (d : FVec Ideal S512x4096 .f32) (r : Fin 512) (c : Fin 4096) :
    rowOf (strike d) r c = if c = pickCol d r then ⊤ else rowOf d r c := by
  unfold rowOf
  rw [strike_apply, pick_ideal, colNum c.val c.isLt, taken_top]
  unfold Scalar.select
  rw [if_congr (oeq_iff _ _) rfl rfl]
  have e : (((c.val : ℝ) : EReal) = (((pickCol d r).val : ℝ) : EReal)) ↔ c = pickCol d r := by
    rw [EReal.coe_eq_coe_iff, Nat.cast_inj, Fin.ext_iff]
  by_cases hc : c = pickCol d r
  · rw [if_pos (e.mpr hc), if_pos hc]
  · rw [if_neg fun h => hc (e.mp h), if_neg hc]

/-! ## The eight columns -/

/-- The words of the result: the columns that the rounds pick. -/
theorem nearBlk_ideal (i : grid0.Coords) (x0 : Vec Ideal S512x2 .f32) (x1 : Vec Ideal S2x4096 .f32) (y : S512x8.Idx) :
    nearBlk i x0 x1 y = BitVec.ofNat 32 (pickCol (dk (dist0 i x0 x1) (y 1).val) (y 0)).val := by
  refine (nearBlk_apply i x0 x1 y).trans ?_
  refine (congrArg (FloatOps.fptosi 32) (pick_ideal _ (y 0))).trans ?_
  exact colWord _ (Fin.isLt _)

theorem nearBlk_ideal_lt (i : grid0.Coords) (x0 : Vec Ideal S512x2 .f32) (x1 : Vec Ideal S2x4096 .f32) (y : S512x8.Idx) :
    (nearBlk i x0 x1 y).toNat < 4096 := by
  rw [nearBlk_ideal, BitVec.toNat_ofNat]
  have := (pickCol (dk (dist0 i x0 x1) (y 1).val) (y 0)).isLt
  omega

/-- They are the first places of the row's stable sort. -/
theorem pickCol_sorted (d : FVec Ideal S512x4096 .f32) (r : Fin 512) (hd : ∀ c, rowOf d r c < ⊤) (k : Fin 4096) :
    pickCol (dk d k.val) r = sortedFrom (fun a b => decide (rowOf d r a < rowOf d r b)) k :=
  (sortedFrom_rounds (rowOf d r) (fun k => rowOf (dk d k) r) (fun k => pickCol (dk d k) r) hd (fun _ => rfl)
    (fun k => pickCol_lowest (dk d k) r) (fun k c => strike_ideal (dk d k) r c) k).symm

end Cert.Proof

end
-- ==== Proof.Frames.lean ====
/-
  The frames: the one run of the kernel's program, at the machine's floats and on extended reals, and the run of the reference.
-/
module

public import proofs.«01_k».proof.Defs
public import proofs.«01_k».proof.Proof.Gen.Kernel
public import proofs.«01_k».proof.Proof.Launch
public import proofs.«01_k».proof.Proof.RangeBits
public import proofs.«01_k».proof.Proof.PickIdeal

@[expose] public section

noncomputable section

namespace Cert.Proof

open Cert.KernelIdeal Cert.KernelIdeal.Gen

open Idealize.ShloMosaic Idealize.SL.Sem

/-! ## Every index is a column -/

theorem index_lt {F : FTy → Type} [FloatOps F] [Named F] (m : (ℓ : Loc nD τ sig) → Buf (Elt F) ℓ)
    (h : ∀ (i : grid0.Coords) (x0 : Vec F S512x2 .f32) (x1 : Vec F S2x4096 .f32) (y : S512x8.Idx), (nearBlk i x0 x1 y).toNat < 4096) :
    ∀ j, ((tabs m 0).iv j : BitVec 32).toNat < 4096 := by
  intro j
  rw [tabs_iv]
  exact h _ _ _ _

theorem index_lt_bits (m : (ℓ : Loc nD τ sig) → Buf (Elt Bits) ℓ) : ∀ j, ((tabs m 0).iv j : BitVec 32).toNat < 4096 :=
  index_lt m (nearBlk_lt columnsExact_bits)

theorem index_lt_ideal (m : (ℓ : Loc nD τ sig) → Buf (Elt Ideal) ℓ) : ∀ j, ((tabs m 0).iv j : BitVec 32).toNat < 4096 :=
  index_lt m nearBlk_ideal_lt

/-! ## The frames -/

/-- What a frame says of a run, at any floats. -/
def Kept {F : FTy → Type} (m : (ℓ : Loc nD τ sig) → Buf (Elt F) ℓ) : PUnit × MemSt nD τ sig (Elt F) → Prop := fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0

theorem run_bits (m : (ℓ : Loc nD τ sig) → Buf (Elt Bits) ℓ) (ρ : Dev nD → PrngReg) :
    θ_run (Cert.KernelIdeal.defs (F := Bits)) (Cert.KernelIdeal.threads (F := Bits)) ⟨m, fun _ => 0, ρ⟩ (Kept m) :=
  (θ_run (Cert.KernelIdeal.defs (F := Bits)) _ _).mono (fun _ h => ⟨fun c => (h.1 c).1, h.2⟩) (run_main (F := Bits) m ρ (index_lt_bits m))

/-- The kernels' bodies as printed are the one text read at the machine's floats, where the named constant is its own word. -/
theorem defs₀_eq : Cert.Kernel.defs₀ (F := Bits) = Cert.KernelIdeal.defs₀ (F := Bits) := by
  funext x ℓ a
  match x, ℓ, a with
  | .tc, 0, (t, s) => rfl
  | .tc, 1, _ => rfl
  | .scScalar _, 0, _ => rfl
  | .scScalar _, 1, _ => rfl
  | .scVector _ _, 0, _ => rfl
  | .scVector c s, 1, _ => rfl

theorem defs_eq : Cert.Kernel.defs (F := Bits) = Cert.KernelIdeal.defs (F := Bits) :=
  congrArg (fun d => Cert.KernelIdeal.sc.defs (Pipeline.defs (Cert.KernelIdeal.pcfgs (F := Bits)) d)) defs₀_eq

theorem frame_kernel : Cert.quiescent_Kernel := by
  intro m ρ _
  rw [defs_eq]
  exact run_bits m ρ

theorem frame_ideal : Cert.quiescent_KernelIdeal := fun m ρ _ =>
  (θ_run (Cert.KernelIdeal.defs (F := Ideal)) _ _).mono (fun _ h => ⟨fun c => (h.1 c).1, h.2⟩) (run_main (F := Ideal) m ρ (index_lt_ideal m))

/-! ## The named constant -/

theorem preserves : Cert.preserves_Kernel_KernelIdeal :=
  ⟨rfl, fun _ => IdealRules.named_const.ideal_named _ _ _ _ rfl, IdealRules.named_const.ideal_named_scalar _ _ _ _ rfl⟩

end Cert.Proof

end
-- ==== Proof.Algebraic.lean ====
/-
  The kernel's result is the reference's: the columns it picks are the reference's nearest, and each entry is the same sum
  in another order.
-/
module

public import proofs.«01_k».proof.Defs
public import proofs.«01_k».proof.Proof.Gen.ReferenceIdeal.Run
public import proofs.«01_k».proof.Proof.Frames
public import proofs.«01_k».proof.Proof.Finite
public import Idealize.ShloMosaic.Lib.Pipeline.ValueKit.Tiles

@[expose] public section

noncomputable section

namespace Cert.Proof

open Cert.KernelIdeal Cert.KernelIdeal.Gen

open Idealize.ShloMosaic Idealize.SL.Sem

/-! ## The distances of a block -/

def t2 (k : Fin 2) (c : Fin 4096) : S2x4096.Idx := fun | 0 => k | 1 => c
def s2 (r : Fin 512) (k : Fin 2) : S512x2.Idx := fun | 0 => r | 1 => k
def l2 (c : Fin 4096) : S1x4096.Idx := fun | 0 => (0 : Fin 1) | 1 => c

theorem tr_apply (x : Vec Ideal S4096x2 .f32) (k : Fin 2) (c : Fin 4096) : tr x (t2 k c) = x (Ref.a2 c k) :=
  transpose_apply _ _ _ (t2 k c) (Ref.a2 c k) fun b => match b with | 0 => rfl | 1 => rfl

theorem line_apply (x1 : Vec Ideal S2x4096 .f32) (k : Fin 2) (v : Vec Ideal S1x4096 .f32)
    (hv : ∀ c, v (l2 c) = x1 (t2 k c)) (r : Fin 512) (c : Fin 4096) :
    broadcastTo S512x4096 (shapeCast S1x4096 v shapeCasts_S1x4096_S1x4096) broadcasts_S1x4096_S512x4096 (e2 r c) = x1 (t2 k c) := by
  rw [shapeCast_self]
  exact (broadcastTo_apply (s := S1x4096) (t := S512x4096) v _ (e2 r c) (l2 c) fun a => match a with | 0 => rfl | 1 => rfl).trans (hv c)

theorem stack_apply (x0 : Vec Ideal S512x2 .f32) (k : Fin 2) (v : Vec Ideal S512x1 .f32) (hv : ∀ r, v (eu r) = x0 (s2 r k)) (r : Fin 512) (c : Fin 4096) :
    broadcastTo S512x4096 v broadcasts_S512x1_S512x4096 (e2 r c) = x0 (s2 r k) :=
  (spread_apply (F := Ideal) v r c).trans (hv r)

theorem dist0_apply (i : grid0.Coords) (x0 : Vec Ideal S512x2 .f32) (x1 : Vec Ideal S2x4096 .f32) (r : Fin 512) (c : Fin 4096) :
    dist0 i x0 x1 (e2 r c)
      = Scalar.select (IntOp.cmpi .eq (BitVec.ofNat 32 c.val) (BitVec.ofNat 32 r.val + BitVec.ofNat 32 (i 0).val * 512#32))
          (FloatOps.ofBits .f32 0x7149F2CA#32 : Ideal .f32)
          (Ideal.sqrt ((x1 (t2 0 c) - x0 (s2 r 0)) * (x1 (t2 0 c) - x0 (s2 r 0)) + (x1 (t2 1 c) - x0 (s2 r 1)) * (x1 (t2 1 c) - x0 (s2 r 1))
            + (FloatOps.ofBits .f32 0x3F800000#32 : Ideal .f32))) := by
  have h0 : broadcastTo S512x4096 (shapeCast S1x4096 (View.ld x1 rRow0) shapeCasts_S1x4096_S1x4096) broadcasts_S1x4096_S512x4096 (e2 r c) = x1 (t2 0 c) :=
    line_apply x1 0 _ (fun c => View.ld_unit_apply_of x1 _ _ _ (l2 c) (t2 0 c) fun a => match a with | 0 => rfl | 1 => (Nat.zero_add _).symm) r c
  have h1 : broadcastTo S512x4096 (shapeCast S1x4096 (View.ld x1 rRow1) shapeCasts_S1x4096_S1x4096) broadcasts_S1x4096_S512x4096 (e2 r c) = x1 (t2 1 c) :=
    line_apply x1 1 _ (fun c => View.ld_unit_apply_of x1 _ _ _ (l2 c) (t2 1 c) fun a => match a with | 0 => rfl | 1 => (Nat.zero_add _).symm) r c
  have h2 : broadcastTo S512x4096 (View.ld x0 rCol0) broadcasts_S512x1_S512x4096 (e2 r c) = x0 (s2 r 0) :=
    stack_apply x0 0 _ (fun r => View.ld_unit_apply_of x0 _ _ _ (eu r) (s2 r 0) fun a => match a with | 0 => (Nat.zero_add _).symm | 1 => rfl) r c
  have h3 : broadcastTo S512x4096 (View.ld x0 rCol1) broadcasts_S512x1_S512x4096 (e2 r c) = x0 (s2 r 1) :=
    stack_apply x0 1 _ (fun r => View.ld_unit_apply_of x0 _ _ _ (eu r) (s2 r 1) fun a => match a with | 0 => (Nat.zero_add _).symm | 1 => rfl) r c
  have i1 : iota .tc S512x4096 32 [1] iota_S512x4096_d1_w32 (e2 r c) = BitVec.ofNat 32 c.val := iota_single_apply _ _ _ _ _ _
  have i0 : iota .tc S512x4096 32 [0] iota_S512x4096_d0_w32 (e2 r c) = BitVec.ofNat 32 r.val := iota_single_apply _ _ _ _ _ _
  rw [← h0, ← h1, ← h2, ← h3, ← i0, ← i1]
  rfl

/-- A block's row at a column: the reference's distance of the row's own point. -/
theorem rowOf_far (i : grid0.Coords) (x : Vec Ideal S4096x2 .f32) (x0 : Vec Ideal S512x2 .f32) (r : Fin 512) (R : Fin 4096)
    (hR : R.val = 512 * (i 0).val + r.val) (h0 : ∀ k, x0 (s2 r k) = x (Ref.a2 R k)) : rowOf (dist0 i x0 (tr x)) r = Ref.far x R := by
  funext c
  show dist0 i x0 (tr x) (e2 r c) = _
  rw [dist0_apply, h0, h0, tr_apply, tr_apply]
  unfold Scalar.select Ref.far
  refine if_congr ?_ rfl rfl
  have hw : BitVec.ofNat 32 r.val + BitVec.ofNat 32 (i 0).val * 512#32 = BitVec.ofNat 32 R.val := by
    apply BitVec.eq_of_toNat_eq
    have hi : (i 0).val < 8 := (i 0).isLt
    have hr := r.isLt
    simp only [BitVec.toNat_add, BitVec.toNat_mul, BitVec.toNat_ofNat]
    omega
  rw [hw]
  have h := Ref.eqWord c R
  rw [BitVec.add_zero] at h
  exact h.trans eq_comm

/-- A row of a point's block is its row of the array. -/
theorem rows_apply (W : (d : Dev nD) → (b : Ref sig .tc) → Buf (Elt Ideal) ((d.tc : Thread nD τ).loc b)) (d : Dev nD) (t : Fin cfg0.N) (r : Fin 512) (k : Fin 2) (R : Fin 4096)
    (hR : R.val = 512 * t.val + r.val) : rows W d t (s2 r k) = (W d main_arg2 : Vec Ideal S4096x2 .f32) (Ref.a2 R k) := by
  have hx : win0_0.index t 0 = t.val ∧ win0_0.index t 1 = 0 := by
    have : ∀ t : Fin grid0.N, win0_0.index t 0 = t.val ∧ win0_0.index t 1 = 0 := by decide
    exact this t
  have he : (win0_0.rect t).emb (s2 r k) = Ref.a2 R k := by
    funext a
    match a with
    | 0 =>
      refine Fin.ext ((Pipeline.Window.rect_emb_val win0_0 t (s2 r k) 0).trans ?_)
      rw [hx.1]
      show t.val * 512 + r.val = R.val
      omega
    | 1 =>
      refine Fin.ext ((Pipeline.Window.rect_emb_val win0_0 t (s2 r k) 1).trans ?_)
      rw [hx.2]
      show 0 * 2 + k.val = k.val
      omega
  show (W d main_arg2 : Vec Ideal S4096x2 .f32) ((win0_0.rect t).emb (s2 r k)) = _
  rw [he]

/-! ## The picks -/

variable (m : (ℓ : Loc nD τ sig) → Buf (Elt Ideal) ℓ) (d : Dev nD)

def n2 (r : Fin 4096) (k : Fin 8) : S4096x8.Idx := fun | 0 => r | 1 => k

theorem nearArr_apply (hx : AllReal (m (tLoc d main_arg2)))
    (r : Fin 4096) (k : Fin 8) : nearArr (ent m) d (n2 r k) = BitVec.ofNat 32 (Ref.near (m (tLoc d main_arg2)) r k).val := by
  unfold nearArr
  refine (nearBlk_ideal _ _ _ _).trans (congrArg (fun n : Fin 4096 => BitVec.ofNat 32 n.val) ?_)
  have hr : r.val < 4096 := r.isLt
  have hv : ent m d main_v0 = tr (m (tLoc d main_arg2)) := V1_v0 m d
  have hW : (ent m d main_arg2 : Vec Ideal S4096x2 .f32) = m (tLoc d main_arg2) := V1_of m d main_arg2 (by decide) (by decide)
  have ht : (ptOf (n2 r k)).val = r.val / 512 := rfl
  have hrow := rowOf_far (grid0.coords (ptOf (n2 r k))) (m (tLoc d main_arg2)) (rows (ent m) d (ptOf (n2 r k))) (inBlk (n2 r k) 0) r
    (by rw [coord_t, ht]; show r.val = 512 * (r.val / 512) + r.val % 512; omega)
    (fun q => (rows_apply (ent m) d (ptOf (n2 r k)) (inBlk (n2 r k) 0) q r (by rw [ht]; show r.val = 512 * (r.val / 512) + r.val % 512; omega)).trans
      (congrFun hW _))
  rw [hv]
  refine (pickCol_sorted _ (inBlk (n2 r k) 0) (fun c => ?_) (k.castLE (by decide))).trans ?_
  · rw [hrow]; exact far_lt _ hx r c
  · rw [hrow]; rfl

theorem iv_apply (hx : AllReal (m (tLoc d main_arg2)))
    (r : Fin 4096) (k : Fin 8) : ((tabs m d).iv (i32768 (8 * r.val + k.val)) : BitVec 32).toNat = (Ref.near (m (tLoc d main_arg2)) r k).val := by
  have h : (tabs m d).iv (i32768 (8 * r.val + k.val)) = nearArr (ent m) d (n2 r k) := by
    rw [tabs_iv]
    refine shapeCast_apply _ _ (i32768 (8 * r.val + k.val)) (n2 r k) ?_
    rw [Shape.rowMajor_val_two, Shape.rowMajor_val_one]
    show r.val * 8 + k.val = (8 * r.val + k.val) % 32768
    omega
  rw [h, nearArr_apply m d hx, BitVec.toNat_ofNat, Nat.mod_eq_of_lt (by have := (Ref.near (m (tLoc d main_arg2)) r k).isLt; omega)]

/-! ## An entry -/

theorem i2_eq (k : Fin 2) (c : Fin 4096) : i2 k.val c.val = t2 k c := by
  funext a
  match a with
  | 0 => exact Fin.ext (Nat.mod_eq_of_lt k.isLt)
  | 1 => exact Fin.ext (Nat.mod_eq_of_lt c.isLt)

theorem ww_apply (w : Vec Ideal S6x8 .f32) (n : Nat) (c : Fin 6) (e : Fin 8) (hn : n = 8 * c.val + e.val) :
    (shapeCast S48 w shapeCasts_S6x8_S48 : Vec Ideal S48 .f32) (i48 n) = w (Ref.w2 c e) := by
  refine shapeCast_apply _ _ (i48 n) (Ref.w2 c e) ?_
  rw [Shape.rowMajor_val_two, Shape.rowMajor_val_one]
  show c.val * 8 + e.val = n % 48
  omega

/-- What the tables give at a row and a column, when the index table holds the row's nearest. -/
theorem outAt_eq (iv : Vec Ideal S32768 .i32) (x1 x2 : FVec Ideal S4096x2 .f32) (w : FVec Ideal S6x8 .f32) (b : FVec Ideal S8 .f32)
    (hiv : ∀ (r : Fin 4096) (k : Fin 8), (iv (i32768 (8 * r.val + k.val)) : BitVec 32).toNat = (Ref.near x2 r k).val) (r : Fin 4096) (q : Fin 64) :
    outAt (F := Ideal) iv (tr x2) (velBlk (F := Ideal) (tr x2) (tr x1)) (shapeCast S48 w shapeCasts_S6x8_S48 : Vec Ideal S48 .f32) b r.val q.val = Ref.result x1 x2 w b (Ref.z2 r q) := by
  have hq := q.isLt
  obtain ⟨k, hk⟩ : ∃ k : Fin 8, q.val / 8 = k.val := ⟨⟨q.val / 8, by omega⟩, rfl⟩
  obtain ⟨e, he⟩ : ∃ e : Fin 8, q.val % 8 = e.val := ⟨⟨q.val % 8, by omega⟩, rfl⟩
  rw [Ref.result_apply x1 x2 w b r q k e (by omega)]
  unfold outAt
  rw [hk, he, hiv r k]
  generalize Ref.near x2 r k = j
  have t0 : ∀ (x : FVec Ideal S4096x2 .f32) (c : Fin 4096), tr (F := Ideal) x (i2 0 c.val) = x (Ref.a2 c 0) := fun x c =>
    (congrArg (tr (F := Ideal) x) (show i2 0 c.val = t2 0 c from i2_eq 0 c)).trans (tr_apply x 0 c)
  have t1 : ∀ (x : FVec Ideal S4096x2 .f32) (c : Fin 4096), tr (F := Ideal) x (i2 1 c.val) = x (Ref.a2 c 1) := fun x c =>
    (congrArg (tr (F := Ideal) x) (show i2 1 c.val = t2 1 c from i2_eq 1 c)).trans (tr_apply x 1 c)
  have u0 : ∀ c : Fin 4096, velBlk (F := Ideal) (tr x2) (tr x1) (i2 0 c.val) = x2 (Ref.a2 c 0) - x1 (Ref.a2 c 0) := fun c =>
    congrArg₂ (fun a b : Ideal .f32 => a - b) (t0 x2 c) (t0 x1 c)
  have u1 : ∀ c : Fin 4096, velBlk (F := Ideal) (tr x2) (tr x1) (i2 1 c.val) = x2 (Ref.a2 c 1) - x1 (Ref.a2 c 1) := fun c =>
    congrArg₂ (fun a b : Ideal .f32 => a - b) (t1 x2 c) (t1 x1 c)
  have b0 : b (i8 e.val) = b (Ref.b1 e) :=
    congrArg b (funext fun a => match a with | 0 => Fin.ext (Nat.mod_eq_of_lt e.isLt))
  dsimp only
  rw [t0, t0, t1, t1, u0, u0, u1, u1, b0,
    ww_apply w e.val 0 e (Nat.zero_add _).symm, ww_apply w (8 + e.val) 1 e rfl, ww_apply w (24 + e.val) 3 e rfl, ww_apply w (32 + e.val) 4 e rfl,
    ww_apply w (16 + e.val) 2 e rfl, ww_apply w (40 + e.val) 5 e rfl]
  unfold entry
  exact congrArg (fun a : EReal => max a (FloatOps.ofBits .f32 0x00000000#32 : Ideal .f32)) (regroup _ _ _ _ _ _ _)

theorem out_eq (hx : AllReal (m (tLoc d main_arg2))) :
    outOf (tabs m d) = Ref.result (m (tLoc d main_arg1)) (m (tLoc d main_arg2)) (m (tLoc d main_arg3)) (m (tLoc d main_arg4)) := by
  funext z
  obtain ⟨r, q, rfl⟩ : ∃ (r : Fin 4096) (q : Fin 64), z = Ref.z2 r q := ⟨z 0, z 1, by funext a; match a with | 0 => rfl | 1 => rfl⟩
  show outAt (tabs m d).iv (tabs m d).x (tabs m d).u (tabs m d).ww (tabs m d).bb r.val q.val = _
  have h := outAt_eq (tabs m d).iv (m (tLoc d main_arg1)) (m (tLoc d main_arg2)) (m (tLoc d main_arg3)) (m (tLoc d main_arg4)) (iv_apply m d hx) r q
  rw [tabs_x, tabs_u, tabs_ww, tabs_bb]
  exact h

/-! ## The claims -/

theorem frame_ideal_pre : Cert.quiescent_KernelIdeal_pre_finite := fun m ρ _ => frame_ideal m ρ trivial

theorem Ref.frame_pre : Cert.quiescent_ReferenceIdeal_pre_finite := fun m ρ _ => Ref.frame m ρ trivial

theorem algebraic : Cert.algebraic_KernelIdeal_ReferenceIdeal_pre_finite := by
  intro m g m' g' hpre hargs
  refine ⟨fun d => outOf (tabs m d), ?_, ?_⟩
  · exact (θ_run (Cert.KernelIdeal.defs (F := Ideal)) _ _).mono (fun _ h c => ⟨(h.1 c).2, (h.1 c).1⟩) (run_main (F := Ideal) m g (index_lt_ideal m))
  · refine (θ_run (Cert.ReferenceIdeal.defs (F := Ideal)) _ _).mono (fun _ h c => ?_) (Cert.ReferenceIdeal.Value.run m' g')
    obtain ⟨e, k⟩ := h c
    refine ⟨e.trans ?_, k⟩
    obtain ⟨e0, e1, e2, e3, e4⟩ := hargs c
    refine (Ref.res_eq m' c).trans ?_
    rw [e1, e2, e3, e4]
    exact (out_eq m c (finite_apply _ _ _ _ _ (hpre c))).symm

end Cert.Proof

end
-- ==== Proof.Verbatim.Setup.lean ====
/-
  The program as its launch theorem sees it, and the ghost state of the proof.

  The kernel's @main transposes two operands, runs one TensorCore pallas_call (the nearest neighbours and the
  velocities), and then one SparseCore kernel on the 2 × 16 tiles (gathering and embedding). Its ghost state is the
  handshakes' rounds, the pipeline's rounds and the counters of the tiles' local copies.

  The counterpart of Proof/Setup for the program with the version's own candidate for "no column".
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.VerbatimIdeal
public import proofs.«01_k».proof.Proof.Gen.VerbatimIdeal.Skeleton
public import proofs.«01_k».proof.Proof.Gen.VerbatimIdeal.Launch
public import proofs.«01_k».proof.Proof.Gen.VerbatimIdeal.Points

@[expose] public section

noncomputable section

namespace Cert.Proof.Verbatim

open Cert.VerbatimIdeal Cert.VerbatimIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds, the pipeline's rounds, the counters of the local copies. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

instance EP_landsIn : (EP : Emb UP 𝕄).LandsIn (upEmb : UEmb _ 𝕄) := by unfold EP embR; infer_instance

/-! ## The buffers -/

abbrev tLoc (d : Dev nD) (b : Ref sig .tc) : Loc nD τ sig := (SparseCore.T d).loc b

/-- A tile's subcore, from its coordinates. -/
abbrev cV (L : grid1.Coords) : Fin τ.nSC := (L 0).castLE hcore1
abbrev jV (L : grid1.Coords) : Fin τ.nSub := (L 1).castLE hsub1
abbrev VT (d : Dev nD) (L : grid1.Coords) : Thread nD τ := V d (cV L) (jV L)
theorem bound0 : grid1.bound 0 = 2 := rfl
theorem bound1 : grid1.bound 1 = 16 := rfl
theorem L0_lt (L : grid1.Coords) : (L 0).val < 2 := (L 0).isLt
theorem L1_lt (L : grid1.Coords) : (L 1).val < 16 := (L 1).isLt

/-- The tile's number: `2 s + c`. -/
def tileN (L : grid1.Coords) : Nat := 2 * (L 1).val + (L 0).val
theorem tileN_lt (L : grid1.Coords) : tileN L < 32 := by
  have := L0_lt L; have := L1_lt L; unfold tileN; omega

end Cert.Proof.Verbatim

end
-- ==== Proof.Verbatim.Scatter.lean ====
/-
  An unmasked indexed store, read at one element: the lane that names the element, when one does and no other; the
  old contents, when none does.

  The counterpart of Proof/Scatter for the program with the version's own candidate for "no column".
-/
module

public import Idealize.ShloMosaic.PureOps

@[expose] public section

noncomputable section

namespace Cert.Proof.Verbatim

open Idealize.ShloMosaic

variable {F : FTy → Type} [FloatOps F] {s : Shape} {e : EltTy} {d : Fin 1 → Nat}

/-- Lanes from `l` that do not name `j` leave it. -/
theorem storeFold_miss (idxs : Fin s.rank → IVec ⟨1, d⟩ 32) (v : Vec F ⟨1, d⟩ e) (h : ∀ a x, (idxs a x).toNat < s.size a)
    (j : s.Idx) (l : List (Fin (d 0))) (f : Vec F s e)
    (hm : ∀ k ∈ l, ¬ ∀ a, (j a).val = (idxAt idxs h (Shape.ofLane k) a).val) :
    (l.foldl (fun (g : Vec F s e) k => fun j => if (∀ a, (j a).val = (idxAt idxs h (Shape.ofLane k) a).val) then v (Shape.ofLane k) else g j) f) j = f j := by
  induction l generalizing f with
  | nil => rfl
  | cons k l ih =>
    rw [List.foldl_cons, ih _ fun k' hk' => hm k' (List.mem_cons_of_mem _ hk')]
    exact if_neg (hm k List.mem_cons_self)

/-- The unmasked, non-adding store as its fold. -/
theorem storeIdx_fold (f : Vec F s e) (idxs : Fin s.rank → IVec ⟨1, d⟩ 32) (v : Vec F ⟨1, d⟩ e) (h : ∀ a x, (idxs a x).toNat < s.size a) :
    storeIdx f idxs v (fun _ => 1#1) false h
      = (List.finRange (d 0)).foldl (fun (g : Vec F s e) k => fun j => if (∀ a, (j a).val = (idxAt idxs h (Shape.ofLane k) a).val) then v (Shape.ofLane k) else g j) f := by
  unfold storeIdx
  congr 1

/-- No lane names `j`: the store leaves it. -/
theorem storeIdx_miss (f : Vec F s e) (idxs : Fin s.rank → IVec ⟨1, d⟩ 32) (v : Vec F ⟨1, d⟩ e) (h : ∀ a x, (idxs a x).toNat < s.size a)
    (j : s.Idx) (hm : ∀ k : Fin (d 0), ¬ ∀ a, (j a).val = (idxs a (Shape.ofLane k)).toNat) :
    storeIdx f idxs v (fun _ => 1#1) false h j = f j := by
  rw [storeIdx_fold]; exact storeFold_miss idxs v h j _ f fun k _ => hm k

/-- Lane `k₀` names `j` and no other lane does: the store leaves `k₀`'s value there. -/
theorem storeIdx_hit (f : Vec F s e) (idxs : Fin s.rank → IVec ⟨1, d⟩ 32) (v : Vec F ⟨1, d⟩ e) (h : ∀ a x, (idxs a x).toNat < s.size a)
    (j : s.Idx) (k₀ : Fin (d 0)) (h₀ : ∀ a, (j a).val = (idxs a (Shape.ofLane k₀)).toNat)
    (hu : ∀ k : Fin (d 0), (∀ a, (j a).val = (idxs a (Shape.ofLane k)).toNat) → k = k₀) :
    storeIdx f idxs v (fun _ => 1#1) false h j = v (Shape.ofLane k₀) := by
  rw [storeIdx_fold]
  obtain ⟨l₁, l₂, hl⟩ := List.append_of_mem (List.mem_finRange k₀)
  have hnd := List.nodup_finRange (d 0)
  rw [hl] at hnd ⊢
  rw [List.foldl_append, List.foldl_cons, storeFold_miss idxs v h j l₂]
  · exact if_pos h₀
  · intro k hk hj
    have := hu k hj
    subst this
    exact (List.nodup_cons.mp (List.nodup_append.mp hnd).2.1).1 hk

end Cert.Proof.Verbatim

end
-- ==== Proof.Verbatim.TileValue.lean ====
/-
  What one tile computes, as a function of the buffers it holds: the words it addresses its buffers by, and the block
  of the result that one trip of its loop fills.

  A tile's result block has 128 rows of 64 columns. Row `n` is agent `base + n`; column `q = 8 i + e` is entry `e` of
  its `i`-th neighbour's embedding. Trip `t` fills rows `2 t` and `2 t + 1`, eight indexed stores of 16 lanes, one for
  each entry `e`.

  The counterpart of Proof/TileValue for the program with the version's own candidate for "no column".
-/
module

public import proofs.«01_k».proof.Proof.Verbatim.Setup
public import proofs.«01_k».proof.Proof.Verbatim.Scatter

@[expose] public section

noncomputable section

namespace Cert.Proof.Verbatim

open Cert.VerbatimIdeal Cert.VerbatimIdeal.Gen
open Idealize.ShloMosaic

variable {F : FTy → Type} [FloatOps F]

/-! ## Places in the buffers, by number -/

def i16 (k : Nat) : S16.Idx := fun | 0 => ⟨k % 16, Nat.mod_lt _ (by decide)⟩
def i48 (k : Nat) : S48.Idx := fun | 0 => ⟨k % 48, Nat.mod_lt _ (by decide)⟩
def i8 (k : Nat) : S8.Idx := fun | 0 => ⟨k % 8, Nat.mod_lt _ (by decide)⟩
def i1024 (k : Nat) : S1024.Idx := fun | 0 => ⟨k % 1024, Nat.mod_lt _ (by decide)⟩
def i4096 (k : Nat) : S4096.Idx := fun | 0 => ⟨k % 4096, Nat.mod_lt _ (by decide)⟩

theorem ext16 {x y : S16.Idx} (h : (x 0).val = (y 0).val) : x = y := by funext a; fin_cases a; exact Fin.ext h
theorem ext4096 {x y : S4096.Idx} (h : (x 0).val = (y 0).val) : x = y := by funext a; fin_cases a; exact Fin.ext h
theorem ext1024 {x y : S1024.Idx} (h : (x 0).val = (y 0).val) : x = y := by funext a; fin_cases a; exact Fin.ext h
theorem lane_eq (k : Fin 16) : (Shape.ofLane k : S16.Idx) = i16 k.val := ext16 (Nat.mod_eq_of_lt k.isLt).symm

/-! ## One entry of an embedding -/

/-- The affine form of the four differences with its bias, cut off below at zero. -/
def entry (dx dy du dv w0 w1 w2 w3 b : F .f32) : F .f32 :=
  FloatOps.maximumf
    (FloatOps.addf
      (FloatOps.addf (FloatOps.addf (FloatOps.addf (FloatOps.mulf dx w0) (FloatOps.mulf dy w1)) (FloatOps.mulf du w2)) (FloatOps.mulf dv w3))
      b)
    (Scalar.ofBits .f32 0x00000000#32)

/-- The bias of entry `e`: the weights of the two constant features, and the layer's own. -/
def biasE (w5 w6 w7 : Vec F S16 .f32) (e : Nat) : F .f32 :=
  Scalar.addf (Scalar.addf (w5 (i16 e)) (w6 (i16 (8 + e)))) (w7 (i16 e))

/-- Row `n`, column `q` of the block of the tile whose first agent is `base`. -/
def tileAt (base : Nat) (w4 w5 w6 w7 : Vec F S16 .f32) (ix : Vec F S1024 .i32) (a b c d : Vec F S4096 .f32) (n q : Nat) : F .f32 :=
  let j := (ix (i1024 (8 * n + q / 8)) : BitVec 32).toNat
  entry (FloatOps.subf (a (i4096 j)) (a (i4096 (base + n)))) (FloatOps.subf (b (i4096 j)) (b (i4096 (base + n))))
    (FloatOps.subf (c (i4096 j)) (c (i4096 (base + n)))) (FloatOps.subf (d (i4096 j)) (d (i4096 (base + n))))
    (w4 (i16 (q % 8))) (w4 (i16 (8 + q % 8))) (w5 (i16 (8 + q % 8))) (w6 (i16 (q % 8))) (biasE w5 w6 w7 (q % 8))

/-! ## The words a trip addresses by -/

theorem trips_lt (t : Fin k1_t1_loop.trips) : t.val < 64 := lt_of_lt_of_le t.isLt k1_t1_abs.2.1

/-- The tile's first item and its first agent, as the body computes them. -/
def w2 (L : grid1.Coords) : BitVec 32 := Scalar.muli (Scalar.addi (Scalar.muli (BitVec.ofNat 32 (L 1).val) 2#32) (BitVec.ofNat 32 (L 0).val)) 128#32
def w3 (L : grid1.Coords) : BitVec 32 := Scalar.muli (Scalar.addi (Scalar.muli (BitVec.ofNat 32 (L 1).val) 2#32) (BitVec.ofNat 32 (L 0).val)) 1024#32
abbrev lanes : IVec S16 32 := iota .scVector S16 32 [0] iota_S16_d0_w32_scVector

theorem w2_toNat (L : grid1.Coords) : (w2 L).toNat = 128 * tileN L := by
  have h0 := L0_lt L; have h1 := L1_lt L
  simp only [w2, Scalar.muli, Scalar.addi, IntOp.muli, IntOp.addi, BitVec.toNat_mul, BitVec.toNat_add, BitVec.toNat_ofNat, tileN]
  omega
theorem w3_toNat (L : grid1.Coords) : (w3 L).toNat = 1024 * tileN L := by
  have h0 := L0_lt L; have h1 := L1_lt L
  simp only [w3, Scalar.muli, Scalar.addi, IntOp.muli, IntOp.addi, BitVec.toNat_mul, BitVec.toNat_add, BitVec.toNat_ofNat, tileN]
  omega
theorem lanes_toNat (k : Fin 16) : (lanes (Shape.ofLane k : S16.Idx)).toNat = k.val := by
  revert k; decide

/-- The number of lane `k`'s item. -/
theorem item_toNat (L : grid1.Coords) (t : Fin k1_t1_loop.trips) (k : Fin 16) :
    (k1_pay1 (w3 L) lanes 0#32 1#32 t (Shape.ofLane k : S16.Idx)).toNat = 1024 * tileN L + 16 * t.val + k.val := by
  have ht := trips_lt t; have hn := tileN_lt L; have hk := k.isLt
  simp only [k1_pay1, addi, broadcast, IntOp.addi, Scalar.muli, Scalar.addi, IntOp.muli, Scf.iv, BitVec.toNat_mul, BitVec.toNat_add, BitVec.toNat_ofNat,
    w3_toNat, lanes_toNat]
  omega

/-- The agent of lane `k`'s item. -/
theorem self_toNat (L : grid1.Coords) (t : Fin k1_t1_loop.trips) (k : Fin 16) :
    (k1_pay2 (w3 L) lanes 0#32 1#32 t (Shape.ofLane k : S16.Idx)).toNat = 128 * tileN L + (2 * t.val + k.val / 8) := by
  have ht := trips_lt t; have hn := tileN_lt L; have hk := k.isLt
  have e := item_toNat L t k
  simp only [k1_pay2, shrui, broadcast, IntOp.shrui, BitVec.toNat_ofNat]
  rw [if_pos (by decide), BitVec.ushiftRight_eq', BitVec.toNat_ushiftRight, e, Nat.shiftRight_eq_div_pow]
  rw [show (2 ^ (3#32).toNat : Nat) = 8 by decide]
  omega

/-- Its row in the tile's block. -/
theorem row_toNat (L : grid1.Coords) (t : Fin k1_t1_loop.trips) (k : Fin 16) :
    (k1_pay7 (w2 L) (k1_pay2 (w3 L) lanes 0#32 1#32 t) (Shape.ofLane k : S16.Idx)).toNat = 2 * t.val + k.val / 8 := by
  have ht := trips_lt t; have hn := tileN_lt L; have hk := k.isLt
  have e := self_toNat L t k
  simp only [k1_pay7, subi, broadcast, IntOp.subi, BitVec.toNat_sub, e, w2_toNat]
  omega

/-- The first column of its neighbour. -/
theorem col_toNat (L : grid1.Coords) (t : Fin k1_t1_loop.trips) (k : Fin 16) :
    (k1_pay8 (w3 L) lanes 0#32 1#32 t (Shape.ofLane k : S16.Idx)).toNat = 8 * (k.val % 8) := by
  have ht := trips_lt t; have hn := tileN_lt L; have hk := k.isLt
  have e := item_toNat L t k
  simp only [k1_pay8, muli, andi, broadcast, IntOp.muli, IntOp.andi, BitVec.toNat_mul, BitVec.toNat_and, BitVec.toNat_ofNat, e]
  rw [show (7 % 2 ^ 32 : Nat) = 2 ^ 3 - 1 by decide, Nat.and_two_pow_sub_one_eq_mod]
  omega

/-- Column `e` past it. -/
theorem colAdd_toNat (L : grid1.Coords) (t : Fin k1_t1_loop.trips) (e : Nat) (he : e < 8) (k : Fin 16) :
    (addi (k1_pay8 (w3 L) lanes 0#32 1#32 t) (broadcast S16 (BitVec.ofNat 32 e)) (Shape.ofLane k : S16.Idx)).toNat = 8 * (k.val % 8) + e := by
  have hk := k.isLt
  have c := col_toNat L t k
  simp only [addi, broadcast, IntOp.addi, BitVec.toNat_add, BitVec.toNat_ofNat, c]
  omega

theorem allLanes {P : S16.Idx → Prop} (h : ∀ k : Fin 16, P (Shape.ofLane k : S16.Idx)) : ∀ x, P x := fun x => by
  have : x = (Shape.ofLane (x 0) : S16.Idx) := by funext a; fin_cases a; rfl
  rw [this]; exact h _

/-! ## One indexed store of a trip -/

theorem rows_inb (rows cols : IVec S16 32) (t e : Nat) (ht : t < 64) (he : e < 8)
    (hr : ∀ k : Fin 16, (rows (Shape.ofLane k : S16.Idx)).toNat = 2 * t + k.val / 8)
    (hc : ∀ k : Fin 16, (cols (Shape.ofLane k : S16.Idx)).toNat = 8 * (k.val % 8) + e) :
    ∀ a x, ((![rows, cols] : Fin 2 → IVec S16 32) a x).toNat < S128x64.size a := fun a => allLanes fun k => by
  have := k.isLt; have := hr k; have := hc k
  match a with
  | 0 => show (rows _).toNat < 128; omega
  | 1 => show (cols _).toNat < 64; omega

/-- It writes entry `e` of every neighbour in rows `2 t` and `2 t + 1`, and nothing else. -/
theorem store_apply (g : Vec F S128x64 .f32) (rows cols : IVec S16 32) (w : Vec F S16 .f32) (t e : Nat) (he : e < 8)
    (hr : ∀ k : Fin 16, (rows (Shape.ofLane k : S16.Idx)).toNat = 2 * t + k.val / 8)
    (hc : ∀ k : Fin 16, (cols (Shape.ofLane k : S16.Idx)).toNat = 8 * (k.val % 8) + e)
    (h : ∀ a x, ((![rows, cols] : Fin 2 → IVec S16 32) a x).toNat < S128x64.size a) (j : S128x64.Idx) :
    storeIdx g ![rows, cols] w (fun _ => 1#1) false h j
      = if (j 0).val / 2 = t ∧ (j 1).val % 8 = e then w (i16 (8 * ((j 0).val % 2) + (j 1).val / 8)) else g j := by
  have h0 : (j 0).val < 128 := (j 0).isLt
  have h1 : (j 1).val < 64 := (j 1).isLt
  split
  · rename_i hj
    have hk : 8 * ((j 0).val % 2) + (j 1).val / 8 < 16 := by omega
    rw [storeIdx_hit (d := ![16]) g ![rows, cols] w h j ⟨8 * ((j 0).val % 2) + (j 1).val / 8, hk⟩]
    · exact congrArg w (lane_eq ⟨_, hk⟩)
    · intro a
      match a with
      | 0 => refine Eq.trans ?_ (hr ⟨_, hk⟩).symm; show _ = 2 * t + (8 * ((j 0).val % 2) + (j 1).val / 8) / 8; omega
      | 1 => refine Eq.trans ?_ (hc ⟨_, hk⟩).symm; show _ = 8 * ((8 * ((j 0).val % 2) + (j 1).val / 8) % 8) + e; omega
    · intro k hk'
      have a0 : (j 0).val = (rows (Shape.ofLane k : S16.Idx)).toNat := hk' 0
      have a1 : (j 1).val = (cols (Shape.ofLane k : S16.Idx)).toNat := hk' 1
      have b0 := a0.trans (hr k); have b1 := a1.trans (hc k)
      apply Fin.ext; show k.val = 8 * ((j 0).val % 2) + (j 1).val / 8
      have : k.val < 16 := k.isLt
      omega
  · rename_i hj
    refine storeIdx_miss (d := ![16]) g ![rows, cols] w h j fun k hk' => hj ?_
    have a0 : (j 0).val = (rows (Shape.ofLane k : S16.Idx)).toNat := hk' 0
    have a1 : (j 1).val = (cols (Shape.ofLane k : S16.Idx)).toNat := hk' 1
    have b0 := a0.trans (hr k); have b1 := a1.trans (hc k)
    have : k.val < 16 := k.isLt
    omega

/-- Eight of them, one for each entry, fill the two rows. -/
theorem sweep (g : Vec F S128x64 .f32) (rows : IVec S16 32) (C : Nat → IVec S16 32) (W0 W1 W2 W3 W4 W5 W6 W7 : Vec F S16 .f32) (V : Nat → Nat → F .f32) (t : Nat)
    (hr : ∀ k : Fin 16, (rows (Shape.ofLane k : S16.Idx)).toNat = 2 * t + k.val / 8)
    (hc : ∀ e, e < 8 → ∀ k : Fin 16, (C e (Shape.ofLane k : S16.Idx)).toNat = 8 * (k.val % 8) + e)
    (w0 : ∀ k : Fin 16, W0 (Shape.ofLane k : S16.Idx) = V (2 * t + k.val / 8) (8 * (k.val % 8) + 0))
    (w1 : ∀ k : Fin 16, W1 (Shape.ofLane k : S16.Idx) = V (2 * t + k.val / 8) (8 * (k.val % 8) + 1))
    (w2 : ∀ k : Fin 16, W2 (Shape.ofLane k : S16.Idx) = V (2 * t + k.val / 8) (8 * (k.val % 8) + 2))
    (w3 : ∀ k : Fin 16, W3 (Shape.ofLane k : S16.Idx) = V (2 * t + k.val / 8) (8 * (k.val % 8) + 3))
    (w4 : ∀ k : Fin 16, W4 (Shape.ofLane k : S16.Idx) = V (2 * t + k.val / 8) (8 * (k.val % 8) + 4))
    (w5 : ∀ k : Fin 16, W5 (Shape.ofLane k : S16.Idx) = V (2 * t + k.val / 8) (8 * (k.val % 8) + 5))
    (w6 : ∀ k : Fin 16, W6 (Shape.ofLane k : S16.Idx) = V (2 * t + k.val / 8) (8 * (k.val % 8) + 6))
    (w7 : ∀ k : Fin 16, W7 (Shape.ofLane k : S16.Idx) = V (2 * t + k.val / 8) (8 * (k.val % 8) + 7))
    (h0 : ∀ a x, ((![rows, C 0] : Fin 2 → IVec S16 32) a x).toNat < S128x64.size a)
    (h1 : ∀ a x, ((![rows, C 1] : Fin 2 → IVec S16 32) a x).toNat < S128x64.size a)
    (h2 : ∀ a x, ((![rows, C 2] : Fin 2 → IVec S16 32) a x).toNat < S128x64.size a)
    (h3 : ∀ a x, ((![rows, C 3] : Fin 2 → IVec S16 32) a x).toNat < S128x64.size a)
    (h4 : ∀ a x, ((![rows, C 4] : Fin 2 → IVec S16 32) a x).toNat < S128x64.size a)
    (h5 : ∀ a x, ((![rows, C 5] : Fin 2 → IVec S16 32) a x).toNat < S128x64.size a)
    (h6 : ∀ a x, ((![rows, C 6] : Fin 2 → IVec S16 32) a x).toNat < S128x64.size a)
    (h7 : ∀ a x, ((![rows, C 7] : Fin 2 → IVec S16 32) a x).toNat < S128x64.size a) (j : S128x64.Idx) :
    storeIdx (storeIdx (storeIdx (storeIdx (storeIdx (storeIdx (storeIdx (storeIdx g ![rows, C 0] W0 (fun _ => 1#1) false h0)
        ![rows, C 1] W1 (fun _ => 1#1) false h1) ![rows, C 2] W2 (fun _ => 1#1) false h2) ![rows, C 3] W3 (fun _ => 1#1) false h3)
        ![rows, C 4] W4 (fun _ => 1#1) false h4) ![rows, C 5] W5 (fun _ => 1#1) false h5) ![rows, C 6] W6 (fun _ => 1#1) false h6)
        ![rows, C 7] W7 (fun _ => 1#1) false h7 j
      = if (j 0).val / 2 = t then V (j 0).val (j 1).val else g j := by
  have hj0 : (j 0).val < 128 := (j 0).isLt
  have hj1 : (j 1).val < 64 := (j 1).isLt
  have hV (e : Nat) (W : Vec F S16 .f32) (hW : ∀ k : Fin 16, W (Shape.ofLane k : S16.Idx) = V (2 * t + k.val / 8) (8 * (k.val % 8) + e))
      (ht : (j 0).val / 2 = t) (hq : (j 1).val % 8 = e) :
      W (i16 (8 * ((j 0).val % 2) + (j 1).val / 8)) = V (j 0).val (j 1).val := by
    have hk : 8 * ((j 0).val % 2) + (j 1).val / 8 < 16 := by omega
    have := hW ⟨_, hk⟩
    rw [lane_eq] at this
    refine this.trans (congrArg₂ V ?_ ?_)
    · show 2 * t + (8 * ((j 0).val % 2) + (j 1).val / 8) / 8 = _; omega
    · show 8 * ((8 * ((j 0).val % 2) + (j 1).val / 8) % 8) + e = _; omega
  rw [store_apply _ rows (C 7) W7 t 7 (by decide) hr (hc 7 (by decide)), store_apply _ rows (C 6) W6 t 6 (by decide) hr (hc 6 (by decide)), store_apply _ rows (C 5) W5 t 5 (by decide) hr (hc 5 (by decide)), store_apply _ rows (C 4) W4 t 4 (by decide) hr (hc 4 (by decide)), store_apply _ rows (C 3) W3 t 3 (by decide) hr (hc 3 (by decide)), store_apply _ rows (C 2) W2 t 2 (by decide) hr (hc 2 (by decide)), store_apply _ rows (C 1) W1 t 1 (by decide) hr (hc 1 (by decide)), store_apply _ rows (C 0) W0 t 0 (by decide) hr (hc 0 (by decide))]
  by_cases ht : (j 0).val / 2 = t
  · simp only [ht, true_and, if_true]
    have : (j 1).val % 8 < 8 := Nat.mod_lt _ (by decide)
    split_ifs with c7 c6 c5 c4 c3 c2 c1 c0
    · exact hV 7 W7 w7 ht c7
    · exact hV 6 W6 w6 ht c6
    · exact hV 5 W5 w5 ht c5
    · exact hV 4 W4 w4 ht c4
    · exact hV 3 W3 w3 ht c3
    · exact hV 2 W2 w2 ht c2
    · exact hV 1 W1 w1 ht c1
    · exact hV 0 W0 w0 ht c0
    · omega
  · simp only [ht, false_and, if_false]

/-! ## What the lanes hold -/

theorem gather_lane (f : Vec F S4096 .f32) (v : IVec S16 32) (h : ∀ a x, ((![v] : Fin 1 → IVec S16 32) a x).toNat < S4096.size a) (k : Fin 16) :
    loadIdx f ![v] h (Shape.ofLane k : S16.Idx) = f (i4096 (v (Shape.ofLane k : S16.Idx)).toNat) :=
  congrArg f (ext4096 (Nat.mod_eq_of_lt (h 0 (Shape.ofLane k : S16.Idx))).symm)

theorem slot (w : Vec F S16 .f32) (e : Nat) (he : e < 16) (hs : Shape.Slices S16 ![e] S1) (hp : ∀ a, (![0] : Fin 1 → Nat) a < S1.size a) :
    extractAt ![0] (extractStridedSlice S1 ![e] w hs) hp = w (i16 e) :=
  congrArg w (ext16 (by show e + 0 = e % 16; omega))

theorem tile_lane (base : Nat) (w4 w5 w6 w7 : Vec F S16 .f32) (ix : Vec F S1024 .i32) (a b c d : Vec F S4096 .f32) (t e k : Nat) (hk : k < 16) (he : e < 8) :
    tileAt base w4 w5 w6 w7 ix a b c d (2 * t + k / 8) (8 * (k % 8) + e)
      = entry (FloatOps.subf (a (i4096 (ix (i1024 (16 * t + k)) : BitVec 32).toNat)) (a (i4096 (base + (2 * t + k / 8)))))
          (FloatOps.subf (b (i4096 (ix (i1024 (16 * t + k)) : BitVec 32).toNat)) (b (i4096 (base + (2 * t + k / 8)))))
          (FloatOps.subf (c (i4096 (ix (i1024 (16 * t + k)) : BitVec 32).toNat)) (c (i4096 (base + (2 * t + k / 8)))))
          (FloatOps.subf (d (i4096 (ix (i1024 (16 * t + k)) : BitVec 32).toNat)) (d (i4096 (base + (2 * t + k / 8)))))
          (w4 (i16 e)) (w4 (i16 (8 + e))) (w5 (i16 (8 + e))) (w6 (i16 e)) (biasE w5 w6 w7 e) := by
  unfold tileAt
  rw [show 8 * (2 * t + k / 8) + (8 * (k % 8) + e) / 8 = 16 * t + k by omega, show (8 * (k % 8) + e) % 8 = e by omega]

/-! The eight vectors a trip scatters, read at one lane. -/

theorem lane0 (w4 w5 w6 w7 x0 x1 x2 x3 x4 x5 x6 x7 : Vec F S16 .f32) (x : S16.Idx) :
    k1_pay9 (k1_pay27 w4) (k1_pay36 (k1_pay35 w4)) (k1_pay44 w5) (k1_pay52 w6) (k1_pay60 w5 w6 w7) x0 x1 x2 x3 x4 x5 x6 x7 x
      = entry (FloatOps.subf (x0 x) (x2 x)) (FloatOps.subf (x1 x) (x3 x)) (FloatOps.subf (x4 x) (x6 x)) (FloatOps.subf (x5 x) (x7 x))
          (w4 (i16 0)) (w4 (i16 (8 + 0))) (w5 (i16 (8 + 0))) (w6 (i16 0)) (biasE w5 w6 w7 0) := by
  unfold entry biasE
  rw [← slot w4 0 (by decide) slices_S16_o0_S1 inpos_S1_p0, show 8 + 0 = 8 from rfl, ← slot w4 8 (by decide) slices_S16_o8_S1 inpos_S1_p0, ← slot w5 8 (by decide) slices_S16_o8_S1 inpos_S1_p0, ← slot w6 0 (by decide) slices_S16_o0_S1 inpos_S1_p0,
    ← slot w5 0 (by decide) slices_S16_o0_S1 inpos_S1_p0, ← slot w6 8 (by decide) slices_S16_o8_S1 inpos_S1_p0, ← slot w7 0 (by decide) slices_S16_o0_S1 inpos_S1_p0]
  rfl

theorem lane1 (w4 w5 w6 w7 x0 x1 x2 x3 x4 x5 x6 x7 : Vec F S16 .f32) (x : S16.Idx) :
    k1_pay13 (k1_pay53 w6) (k1_pay62 w7 (k1_pay61 w5 w6)) (k1_pay5 x4 x6) (k1_pay6 x5 x7) (k1_pay11 (k1_pay28 w4) (k1_pay37 w4) x0 x1 x2 x3) (k1_pay12 (k1_pay45 w5)) x
      = entry (FloatOps.subf (x0 x) (x2 x)) (FloatOps.subf (x1 x) (x3 x)) (FloatOps.subf (x4 x) (x6 x)) (FloatOps.subf (x5 x) (x7 x))
          (w4 (i16 1)) (w4 (i16 (8 + 1))) (w5 (i16 (8 + 1))) (w6 (i16 1)) (biasE w5 w6 w7 1) := by
  unfold entry biasE
  rw [← slot w4 1 (by decide) slices_S16_o1_S1 inpos_S1_p0, show 8 + 1 = 9 from rfl, ← slot w4 9 (by decide) slices_S16_o9_S1 inpos_S1_p0, ← slot w5 9 (by decide) slices_S16_o9_S1 inpos_S1_p0, ← slot w6 1 (by decide) slices_S16_o1_S1 inpos_S1_p0,
    ← slot w5 1 (by decide) slices_S16_o1_S1 inpos_S1_p0, ← slot w6 9 (by decide) slices_S16_o9_S1 inpos_S1_p0, ← slot w7 1 (by decide) slices_S16_o1_S1 inpos_S1_p0]
  rfl

theorem lane2 (w4 w5 w6 w7 x0 x1 x2 x3 x4 x5 x6 x7 : Vec F S16 .f32) (x : S16.Idx) :
    k1_pay15 (k1_pay29 w4) (k1_pay38 w4) (k1_pay46 w5) (k1_pay54 w6) (k1_pay63 w5 w6 w7) (k1_pay3 x0 x2) (k1_pay4 x1 x3) (k1_pay5 x4 x6) (k1_pay6 x5 x7) x
      = entry (FloatOps.subf (x0 x) (x2 x)) (FloatOps.subf (x1 x) (x3 x)) (FloatOps.subf (x4 x) (x6 x)) (FloatOps.subf (x5 x) (x7 x))
          (w4 (i16 2)) (w4 (i16 (8 + 2))) (w5 (i16 (8 + 2))) (w6 (i16 2)) (biasE w5 w6 w7 2) := by
  unfold entry biasE
  rw [← slot w4 2 (by decide) slices_S16_o2_S1 inpos_S1_p0, show 8 + 2 = 10 from rfl, ← slot w4 10 (by decide) slices_S16_o10_S1 inpos_S1_p0, ← slot w5 10 (by decide) slices_S16_o10_S1 inpos_S1_p0, ← slot w6 2 (by decide) slices_S16_o2_S1 inpos_S1_p0,
    ← slot w5 2 (by decide) slices_S16_o2_S1 inpos_S1_p0, ← slot w6 10 (by decide) slices_S16_o10_S1 inpos_S1_p0, ← slot w7 2 (by decide) slices_S16_o2_S1 inpos_S1_p0]
  rfl

theorem lane3 (w4 w5 w6 w7 x0 x1 x2 x3 x4 x5 x6 x7 : Vec F S16 .f32) (x : S16.Idx) :
    k1_pay17 (k1_pay30 w4) (k1_pay39 w4) (k1_pay47 w5) (k1_pay55 w6) (k1_pay64 w5 w6 w7) (k1_pay3 x0 x2) (k1_pay4 x1 x3) (k1_pay5 x4 x6) (k1_pay6 x5 x7) x
      = entry (FloatOps.subf (x0 x) (x2 x)) (FloatOps.subf (x1 x) (x3 x)) (FloatOps.subf (x4 x) (x6 x)) (FloatOps.subf (x5 x) (x7 x))
          (w4 (i16 3)) (w4 (i16 (8 + 3))) (w5 (i16 (8 + 3))) (w6 (i16 3)) (biasE w5 w6 w7 3) := by
  unfold entry biasE
  rw [← slot w4 3 (by decide) slices_S16_o3_S1 inpos_S1_p0, show 8 + 3 = 11 from rfl, ← slot w4 11 (by decide) slices_S16_o11_S1 inpos_S1_p0, ← slot w5 11 (by decide) slices_S16_o11_S1 inpos_S1_p0, ← slot w6 3 (by decide) slices_S16_o3_S1 inpos_S1_p0,
    ← slot w5 3 (by decide) slices_S16_o3_S1 inpos_S1_p0, ← slot w6 11 (by decide) slices_S16_o11_S1 inpos_S1_p0, ← slot w7 3 (by decide) slices_S16_o3_S1 inpos_S1_p0]
  rfl

theorem lane4 (w4 w5 w6 w7 x0 x1 x2 x3 x4 x5 x6 x7 : Vec F S16 .f32) (x : S16.Idx) :
    k1_pay21 (k1_pay48 w5) (k1_pay56 w6) (k1_pay65 w5 w6 w7) (k1_pay4 x1 x3) (k1_pay5 x4 x6) (k1_pay6 x5 x7) (k1_pay19 (k1_pay31 w4) (k1_pay3 x0 x2)) (k1_pay20 (k1_pay40 w4)) x
      = entry (FloatOps.subf (x0 x) (x2 x)) (FloatOps.subf (x1 x) (x3 x)) (FloatOps.subf (x4 x) (x6 x)) (FloatOps.subf (x5 x) (x7 x))
          (w4 (i16 4)) (w4 (i16 (8 + 4))) (w5 (i16 (8 + 4))) (w6 (i16 4)) (biasE w5 w6 w7 4) := by
  unfold entry biasE
  rw [← slot w4 4 (by decide) slices_S16_o4_S1 inpos_S1_p0, show 8 + 4 = 12 from rfl, ← slot w4 12 (by decide) slices_S16_o12_S1 inpos_S1_p0, ← slot w5 12 (by decide) slices_S16_o12_S1 inpos_S1_p0, ← slot w6 4 (by decide) slices_S16_o4_S1 inpos_S1_p0,
    ← slot w5 4 (by decide) slices_S16_o4_S1 inpos_S1_p0, ← slot w6 12 (by decide) slices_S16_o12_S1 inpos_S1_p0, ← slot w7 4 (by decide) slices_S16_o4_S1 inpos_S1_p0]
  rfl

theorem lane5 (w4 w5 w6 w7 x0 x1 x2 x3 x4 x5 x6 x7 : Vec F S16 .f32) (x : S16.Idx) :
    k1_pay23 (k1_pay32 w4) (k1_pay41 w4) (k1_pay49 w5) (k1_pay57 w6) (k1_pay66 w5 w6 w7) (k1_pay3 x0 x2) (k1_pay4 x1 x3) (k1_pay5 x4 x6) (k1_pay6 x5 x7) x
      = entry (FloatOps.subf (x0 x) (x2 x)) (FloatOps.subf (x1 x) (x3 x)) (FloatOps.subf (x4 x) (x6 x)) (FloatOps.subf (x5 x) (x7 x))
          (w4 (i16 5)) (w4 (i16 (8 + 5))) (w5 (i16 (8 + 5))) (w6 (i16 5)) (biasE w5 w6 w7 5) := by
  unfold entry biasE
  rw [← slot w4 5 (by decide) slices_S16_o5_S1 inpos_S1_p0, show 8 + 5 = 13 from rfl, ← slot w4 13 (by decide) slices_S16_o13_S1 inpos_S1_p0, ← slot w5 13 (by decide) slices_S16_o13_S1 inpos_S1_p0, ← slot w6 5 (by decide) slices_S16_o5_S1 inpos_S1_p0,
    ← slot w5 5 (by decide) slices_S16_o5_S1 inpos_S1_p0, ← slot w6 13 (by decide) slices_S16_o13_S1 inpos_S1_p0, ← slot w7 5 (by decide) slices_S16_o5_S1 inpos_S1_p0]
  rfl

theorem lane6 (w4 w5 w6 w7 x0 x1 x2 x3 x4 x5 x6 x7 : Vec F S16 .f32) (x : S16.Idx) :
    k1_pay25 (k1_pay33 w4) (k1_pay42 w4) (k1_pay50 w5) (k1_pay58 w6) (k1_pay67 w5 w6 w7) (k1_pay3 x0 x2) (k1_pay4 x1 x3) (k1_pay5 x4 x6) (k1_pay6 x5 x7) x
      = entry (FloatOps.subf (x0 x) (x2 x)) (FloatOps.subf (x1 x) (x3 x)) (FloatOps.subf (x4 x) (x6 x)) (FloatOps.subf (x5 x) (x7 x))
          (w4 (i16 6)) (w4 (i16 (8 + 6))) (w5 (i16 (8 + 6))) (w6 (i16 6)) (biasE w5 w6 w7 6) := by
  unfold entry biasE
  rw [← slot w4 6 (by decide) slices_S16_o6_S1 inpos_S1_p0, show 8 + 6 = 14 from rfl, ← slot w4 14 (by decide) slices_S16_o14_S1 inpos_S1_p0, ← slot w5 14 (by decide) slices_S16_o14_S1 inpos_S1_p0, ← slot w6 6 (by decide) slices_S16_o6_S1 inpos_S1_p0,
    ← slot w5 6 (by decide) slices_S16_o6_S1 inpos_S1_p0, ← slot w6 14 (by decide) slices_S16_o14_S1 inpos_S1_p0, ← slot w7 6 (by decide) slices_S16_o6_S1 inpos_S1_p0]
  rfl

theorem lane7 (w4 w5 w6 w7 x0 x1 x2 x3 x4 x5 x6 x7 : Vec F S16 .f32) (x : S16.Idx) :
    k1_pay68 w5 w6 w7 (k1_pay34 w4) (k1_pay43 w4) (k1_pay51 w5) (k1_pay59 w6) (k1_pay3 x0 x2) (k1_pay4 x1 x3) (k1_pay5 x4 x6) (k1_pay6 x5 x7) x
      = entry (FloatOps.subf (x0 x) (x2 x)) (FloatOps.subf (x1 x) (x3 x)) (FloatOps.subf (x4 x) (x6 x)) (FloatOps.subf (x5 x) (x7 x))
          (w4 (i16 7)) (w4 (i16 (8 + 7))) (w5 (i16 (8 + 7))) (w6 (i16 7)) (biasE w5 w6 w7 7) := by
  unfold entry biasE
  rw [← slot w4 7 (by decide) slices_S16_o7_S1 inpos_S1_p0, show 8 + 7 = 15 from rfl, ← slot w4 15 (by decide) slices_S16_o15_S1 inpos_S1_p0, ← slot w5 15 (by decide) slices_S16_o15_S1 inpos_S1_p0, ← slot w6 7 (by decide) slices_S16_o7_S1 inpos_S1_p0,
    ← slot w5 7 (by decide) slices_S16_o7_S1 inpos_S1_p0, ← slot w6 15 (by decide) slices_S16_o15_S1 inpos_S1_p0, ← slot w7 7 (by decide) slices_S16_o7_S1 inpos_S1_p0]
  rfl

end Cert.Proof.Verbatim

end
-- ==== Proof.Verbatim.Trip.lean ====
/-
  One trip of a tile's loop: its loads, its eight gathers, its eight scatters.

  The counterpart of Proof/Trip for the program with the version's own candidate for "no column".
-/
module

public import proofs.«01_k».proof.Proof.Verbatim.TileValue

@[expose] public section

noncomputable section

namespace Cert.Proof.Verbatim

open Cert.VerbatimIdeal Cert.VerbatimIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- A tile's scratch buffer, held whole at contents `f`. -/
abbrev sPts (d : Dev nD) (L : grid1.Coords) (b : Ref sig .scVector) (f : Buf (Elt F) ((VT d L).loc b)) : sProp 𝕄 :=
  (Memref.whole b).view.loc (VT d L) ↦{fullShare} f

/-- A check that holds passes. -/
theorem wp_pass (d : Dev nD) (L : grid1.Coords) {α : Type} {Q : α → sProp 𝕄} {P : Prop} {dec : Decidable P} {k : PLift P → Prog (TpuEff nD τ sig (Elt F) Λ₀ (VT d L).2) α} (h : P) :
    wp frame (wpE (defs₀ (F := F)) 𝒱₀ (VT d L) none) Set.univ (k ⟨h⟩) Q
      ⊢ wp frame (wpE (defs₀ (F := F)) 𝒱₀ (VT d L) none) Set.univ (Prog.lift (TpuEff.assume P dec) >>= k) Q :=
  Entails.of_eq (wp_assume_of (defs := defs₀ (F := F)) (k := k) (Q := Q) 𝒱₀ (VT d L) none Set.univ h).symm

/-- An indexed store over the whole block. -/
theorem wp_scatter (d : Dev nD) (L : grid1.Coords) {α : Type} {Q : α → sProp 𝕄} {g : Vec F S128x64 .f32} {rows cols : IVec S16 32} {w : Vec F S16 .f32}
    {h : ∀ a x, ((![rows, cols] : Fin 2 → IVec S16 32) a x).toNat < S128x64.size a}
    {hs : ((Memref.whole cc1_scratch6 : Memref sig .scVector .vmem S128x64 .f32).access (.whole S128x64)).Stores Finset.univ}
    {k : PUnit → Prog (TpuEff nD τ sig (Elt F) Λ₀ (VT d L).2) α} :
    sPts d L cc1_scratch6 g
      ⊢ iprop((sPts d L cc1_scratch6 (storeIdx g ![rows, cols] w (fun _ => 1#1) false h)
          -∗ wp frame (wpE (defs₀ (F := F)) 𝒱₀ (VT d L) none) Set.univ (k ⟨⟩) Q)
        -∗ wp frame (wpE (defs₀ (F := F)) 𝒱₀ (VT d L) none) Set.univ
            (SparseCore.vectorStoreIdx (Memref.whole cc1_scratch6 : Memref sig .scVector .vmem S128x64 .f32) ![rows, cols] w (fun _ => 1#1) false h hs >>= k) Q) := by
  have := SparseCore.wp_vectorStoreIdx (defs := defs₀ (F := F)) (Q := Q) 𝒱₀ (VT d L) none Set.univ
    (base := (Memref.whole cc1_scratch6 : Memref sig .scVector .vmem S128x64 .f32)) (idxs := ![rows, cols]) (v := w) (mask := fun _ => 1#1) (add := false)
    (h := h) (hs := hs) (k := k) (f := g)
  rw [Memref.set_access_whole] at this
  rw [Memref.write_access_whole_univ, Memref.read_access_whole] at this
  exact this

/-- The index words trip `t` loads. -/
theorem load_lane (t : Fin k1_t1_loop.trips) (ix : Vec F S1024 .i32) (k : Fin 16) :
    (Memref.whole cc1_scratch0 : Memref sig .scVector .vmem S1024 .i32).view.readAt (Elt F)
      (Rect.unit (s := S1024) (k1_off2 t) S16.size (k1_off2_inb t)).toLoadRect ix (Shape.ofLane k : S16.Idx) = ix (i1024 (16 * t.val + k.val)) := by
  have ht := trips_lt t
  have hk := k.isLt
  rw [View.readAt_apply]
  refine congrArg ix (ext1024 ?_)
  show k1_off2 t 0 + 1 * k.val = (16 * t.val + k.val) % 1024
  rw [k1_off2_eq]
  show 16 * t.val + 1 * k.val = _
  omega

theorem trip_wp (d : Dev nD) (L : grid1.Coords) (t : Fin k1_t1_loop.trips) (w4 w5 w6 w7 : Vec F S16 .f32)
    (ix : Vec F S1024 .i32) (a b c e : Vec F S4096 .f32) (g : Vec F S128x64 .f32)
    (hix : ∀ x, (ix x : BitVec 32).toNat < 4096) :
    (iprop(sPts d L cc1_scratch0 ix ∗ sPts d L cc1_scratch1 a ∗ sPts d L cc1_scratch2 b ∗ sPts d L cc1_scratch3 c ∗ sPts d L cc1_scratch4 e
        ∗ sPts d L cc1_scratch6 g) : sProp 𝕄)
      ⊢ wp frame (wpE (defs₀ (F := F)) 𝒱₀ (VT d L) none) Set.univ
          (k1_t1_body L (Memref.whole main_v3_scv) (Memref.isWhole_whole _) (Memref.whole main_v0_scv) (Memref.isWhole_whole _) (Memref.whole main_v2_1_scv) (Memref.isWhole_whole _) (Memref.whole main_v4_scv) (Memref.isWhole_whole _) (Memref.whole main_arg4_scv) (Memref.isWhole_whole _) (Memref.whole main_v5_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _)
            cc1_scoped0 cc1_scoped1 cc1_scoped2 cc1_scoped3 cc1_scoped4 cc1_scoped5 cc1_scoped6 cc1_scoped7 (w2 L) (w3 L) w5 w6 w7 (k1_pay27 w4) (k1_pay28 w4) (k1_pay29 w4) (k1_pay30 w4) (k1_pay31 w4) (k1_pay32 w4) (k1_pay33 w4) (k1_pay34 w4) (k1_pay36 (k1_pay35 w4)) (k1_pay37 w4) (k1_pay38 w4) (k1_pay39 w4) (k1_pay40 w4) (k1_pay41 w4) (k1_pay42 w4) (k1_pay43 w4) (k1_pay44 w5) (k1_pay45 w5) (k1_pay46 w5) (k1_pay47 w5) (k1_pay48 w5) (k1_pay49 w5) (k1_pay50 w5) (k1_pay51 w5) (k1_pay52 w6) (k1_pay53 w6) (k1_pay54 w6) (k1_pay55 w6) (k1_pay56 w6) (k1_pay57 w6) (k1_pay58 w6) (k1_pay59 w6) (k1_pay60 w5 w6 w7) (k1_pay61 w5 w6) lanes t ())
          fun _ => iprop(sPts d L cc1_scratch0 ix ∗ sPts d L cc1_scratch1 a ∗ sPts d L cc1_scratch2 b ∗ sPts d L cc1_scratch3 c ∗ sPts d L cc1_scratch4 e
            ∗ ∃ g' : Vec F S128x64 .f32, ⌜∀ j, g' j = if (j 0).val / 2 = t.val then tileAt (128 * tileN L) w4 w5 w6 w7 ix a b c e (j 0).val (j 1).val else g j⌝
                ∗ sPts d L cc1_scratch6 g') := by
  iintro ⟨H0, H1, H2, H3, H4, H6⟩
  unfold k1_t1_body
  simp only [k1_part1_eq_skeleton, k1_part2_eq_skeleton, k1_part3_eq_skeleton]
  unfold k1_part1_skel k1_part2_skel k1_part3_skel
  simp only [bind_assoc, pure_bind]
  have ht := trips_lt t
  have hn := tileN_lt L
  iapply (wp_load 𝒱₀ (VT d L) none Set.univ (m := (Memref.whole cc1_scratch0 : Memref sig .scVector .vmem S1024 .i32)) (S := Finset.univ) (q := fullShare) (f := ix) (Finset.subset_univ _)) $$ H0
  iintro H0
  generalize hv : (Memref.whole cc1_scratch0 : Memref sig .scVector .vmem S1024 .i32).view.readAt (Elt F)
      (Rect.unit (s := S1024) (k1_off2 t) S16.size (k1_off2_inb t)).toLoadRect ix = v
  have hvl : ∀ k : Fin 16, v (Shape.ofLane k : S16.Idx) = ix (i1024 (16 * t.val + k.val)) := fun k => hv ▸ load_lane t ix k
  have c1 : ∀ a x, ((![v] : Fin 1 → IVec S16 32) a x).toNat < S4096.size a := fun a => allLanes fun k => by
    match a with
    | 0 => show (v (Shape.ofLane k : S16.Idx) : BitVec 32).toNat < 4096; rw [hvl]; exact hix _
  have c2 : ∀ a x, ((![k1_pay2 (w3 L) lanes 0#32 1#32 t] : Fin 1 → IVec S16 32) a x).toNat < S4096.size a := fun a => allLanes fun k => by
    match a with
    | 0 =>
      show (k1_pay2 (w3 L) lanes 0#32 1#32 t (Shape.ofLane k : S16.Idx)).toNat < 4096
      rw [self_toNat]; have := k.isLt; omega
  have hc (e : Nat) (he : e < 8) := rows_inb (k1_pay7 (w2 L) (k1_pay2 (w3 L) lanes 0#32 1#32 t)) (addi (k1_pay8 (w3 L) lanes 0#32 1#32 t) (broadcast S16 (BitVec.ofNat 32 e)))
    t.val e ht he (row_toNat L t) (colAdd_toNat L t e he)
  iapply (wp_pass d L (show k1_chk1 v from ⟨c1, c1, c1, c1⟩))
  iapply (wp_pass d L (show k1_chk2 _ from ⟨c2, c2, c2, c2⟩))
  iapply (SparseCore.wp_vectorLoadIdx 𝒱₀ (VT d L) none Set.univ (base := (Memref.whole cc1_scratch1 : Memref sig .scVector .vmem S4096 .f32)) (S := Finset.univ) (q := fullShare) (f := a) (Finset.subset_univ _)) $$ H1; iintro H1
  iapply (SparseCore.wp_vectorLoadIdx 𝒱₀ (VT d L) none Set.univ (base := (Memref.whole cc1_scratch2 : Memref sig .scVector .vmem S4096 .f32)) (S := Finset.univ) (q := fullShare) (f := b) (Finset.subset_univ _)) $$ H2; iintro H2
  iapply (SparseCore.wp_vectorLoadIdx 𝒱₀ (VT d L) none Set.univ (base := (Memref.whole cc1_scratch1 : Memref sig .scVector .vmem S4096 .f32)) (S := Finset.univ) (q := fullShare) (f := a) (Finset.subset_univ _)) $$ H1; iintro H1
  iapply (SparseCore.wp_vectorLoadIdx 𝒱₀ (VT d L) none Set.univ (base := (Memref.whole cc1_scratch2 : Memref sig .scVector .vmem S4096 .f32)) (S := Finset.univ) (q := fullShare) (f := b) (Finset.subset_univ _)) $$ H2; iintro H2
  iapply (SparseCore.wp_vectorLoadIdx 𝒱₀ (VT d L) none Set.univ (base := (Memref.whole cc1_scratch3 : Memref sig .scVector .vmem S4096 .f32)) (S := Finset.univ) (q := fullShare) (f := c) (Finset.subset_univ _)) $$ H3; iintro H3
  iapply (SparseCore.wp_vectorLoadIdx 𝒱₀ (VT d L) none Set.univ (base := (Memref.whole cc1_scratch4 : Memref sig .scVector .vmem S4096 .f32)) (S := Finset.univ) (q := fullShare) (f := e) (Finset.subset_univ _)) $$ H4; iintro H4
  iapply (SparseCore.wp_vectorLoadIdx 𝒱₀ (VT d L) none Set.univ (base := (Memref.whole cc1_scratch3 : Memref sig .scVector .vmem S4096 .f32)) (S := Finset.univ) (q := fullShare) (f := c) (Finset.subset_univ _)) $$ H3; iintro H3
  iapply (SparseCore.wp_vectorLoadIdx 𝒱₀ (VT d L) none Set.univ (base := (Memref.whole cc1_scratch4 : Memref sig .scVector .vmem S4096 .f32)) (S := Finset.univ) (q := fullShare) (f := e) (Finset.subset_univ _)) $$ H4; iintro H4
  iapply (wp_pass d L (show k1_chk3 _ _ from hc 0 (by decide))); iapply (wp_scatter d L) $$ H6; iintro H6
  iapply (wp_pass d L (show k1_chk4 _ _ from hc 1 (by decide))); iapply (wp_scatter d L) $$ H6; iintro H6
  iapply (wp_pass d L (show k1_chk5 _ _ from hc 2 (by decide))); iapply (wp_scatter d L) $$ H6; iintro H6
  iapply (wp_pass d L (show k1_chk6 _ _ from hc 3 (by decide))); iapply (wp_scatter d L) $$ H6; iintro H6
  iapply (wp_pass d L (show k1_chk7 _ _ from hc 4 (by decide))); iapply (wp_scatter d L) $$ H6; iintro H6
  iapply (wp_pass d L (show k1_chk8 _ _ from hc 5 (by decide))); iapply (wp_scatter d L) $$ H6; iintro H6
  iapply (wp_pass d L (show k1_chk9 _ _ from hc 6 (by decide))); iapply (wp_scatter d L) $$ H6; iintro H6
  iapply (wp_pass d L (show k1_chk10 _ _ from hc 7 (by decide))); iapply (wp_scatter d L) $$ H6; iintro H6
  sl_step
  isplitl [H0]; · iexact H0
  isplitl [H1]; · iexact H1
  isplitl [H2]; · iexact H2
  isplitl [H3]; · iexact H3
  isplitl [H4]; · iexact H4
  iexists _; isplitr [H6]
  rotate_left
  · iexact H6
  ipureintro
  intro j
  simp only [Memref.read_access_whole]
  have hk16 (k : Fin 16) : k.val < 16 := k.isLt
  have g1 (f : Vec F S4096 .f32) (k : Fin 16) : loadIdx f ![v] c1 (Shape.ofLane k : S16.Idx) = f (i4096 (ix (i1024 (16 * t.val + k.val)) : BitVec 32).toNat) :=
    (gather_lane f v c1 k).trans (by rw [hvl])
  have g2 (f : Vec F S4096 .f32) (k : Fin 16) : loadIdx f ![k1_pay2 (w3 L) lanes 0#32 1#32 t] c2 (Shape.ofLane k : S16.Idx) = f (i4096 (128 * tileN L + (2 * t.val + k.val / 8))) :=
    (gather_lane f _ c2 k).trans (by rw [self_toNat])
  refine sweep g _ (fun e => addi (k1_pay8 (w3 L) lanes 0#32 1#32 t) (broadcast S16 (BitVec.ofNat 32 e))) _ _ _ _ _ _ _ _
    (tileAt (128 * tileN L) w4 w5 w6 w7 ix a b c e) t.val (row_toNat L t) (colAdd_toNat L t) ?_ ?_ ?_ ?_ ?_ ?_ ?_ ?_ _ _ _ _ _ _ _ _ j
  · intro k
    refine Eq.trans ?_ (tile_lane (128 * tileN L) w4 w5 w6 w7 ix a b c e t.val 0 k.val (hk16 k) (by decide)).symm
    rw [← g1 a k, ← g1 b k, ← g1 c k, ← g1 e k, ← g2 a k, ← g2 b k, ← g2 c k, ← g2 e k]
    exact lane0 w4 w5 w6 w7 (loadIdx a ![v] c1) (loadIdx b ![v] c1) (loadIdx a _ c2) (loadIdx b _ c2) (loadIdx c ![v] c1) (loadIdx e ![v] c1) (loadIdx c _ c2) (loadIdx e _ c2) (Shape.ofLane k : S16.Idx)
  · intro k
    refine Eq.trans ?_ (tile_lane (128 * tileN L) w4 w5 w6 w7 ix a b c e t.val 1 k.val (hk16 k) (by decide)).symm
    rw [← g1 a k, ← g1 b k, ← g1 c k, ← g1 e k, ← g2 a k, ← g2 b k, ← g2 c k, ← g2 e k]
    exact lane1 w4 w5 w6 w7 (loadIdx a ![v] c1) (loadIdx b ![v] c1) (loadIdx a _ c2) (loadIdx b _ c2) (loadIdx c ![v] c1) (loadIdx e ![v] c1) (loadIdx c _ c2) (loadIdx e _ c2) (Shape.ofLane k : S16.Idx)
  · intro k
    refine Eq.trans ?_ (tile_lane (128 * tileN L) w4 w5 w6 w7 ix a b c e t.val 2 k.val (hk16 k) (by decide)).symm
    rw [← g1 a k, ← g1 b k, ← g1 c k, ← g1 e k, ← g2 a k, ← g2 b k, ← g2 c k, ← g2 e k]
    exact lane2 w4 w5 w6 w7 (loadIdx a ![v] c1) (loadIdx b ![v] c1) (loadIdx a _ c2) (loadIdx b _ c2) (loadIdx c ![v] c1) (loadIdx e ![v] c1) (loadIdx c _ c2) (loadIdx e _ c2) (Shape.ofLane k : S16.Idx)
  · intro k
    refine Eq.trans ?_ (tile_lane (128 * tileN L) w4 w5 w6 w7 ix a b c e t.val 3 k.val (hk16 k) (by decide)).symm
    rw [← g1 a k, ← g1 b k, ← g1 c k, ← g1 e k, ← g2 a k, ← g2 b k, ← g2 c k, ← g2 e k]
    exact lane3 w4 w5 w6 w7 (loadIdx a ![v] c1) (loadIdx b ![v] c1) (loadIdx a _ c2) (loadIdx b _ c2) (loadIdx c ![v] c1) (loadIdx e ![v] c1) (loadIdx c _ c2) (loadIdx e _ c2) (Shape.ofLane k : S16.Idx)
  · intro k
    refine Eq.trans ?_ (tile_lane (128 * tileN L) w4 w5 w6 w7 ix a b c e t.val 4 k.val (hk16 k) (by decide)).symm
    rw [← g1 a k, ← g1 b k, ← g1 c k, ← g1 e k, ← g2 a k, ← g2 b k, ← g2 c k, ← g2 e k]
    exact lane4 w4 w5 w6 w7 (loadIdx a ![v] c1) (loadIdx b ![v] c1) (loadIdx a _ c2) (loadIdx b _ c2) (loadIdx c ![v] c1) (loadIdx e ![v] c1) (loadIdx c _ c2) (loadIdx e _ c2) (Shape.ofLane k : S16.Idx)
  · intro k
    refine Eq.trans ?_ (tile_lane (128 * tileN L) w4 w5 w6 w7 ix a b c e t.val 5 k.val (hk16 k) (by decide)).symm
    rw [← g1 a k, ← g1 b k, ← g1 c k, ← g1 e k, ← g2 a k, ← g2 b k, ← g2 c k, ← g2 e k]
    exact lane5 w4 w5 w6 w7 (loadIdx a ![v] c1) (loadIdx b ![v] c1) (loadIdx a _ c2) (loadIdx b _ c2) (loadIdx c ![v] c1) (loadIdx e ![v] c1) (loadIdx c _ c2) (loadIdx e _ c2) (Shape.ofLane k : S16.Idx)
  · intro k
    refine Eq.trans ?_ (tile_lane (128 * tileN L) w4 w5 w6 w7 ix a b c e t.val 6 k.val (hk16 k) (by decide)).symm
    rw [← g1 a k, ← g1 b k, ← g1 c k, ← g1 e k, ← g2 a k, ← g2 b k, ← g2 c k, ← g2 e k]
    exact lane6 w4 w5 w6 w7 (loadIdx a ![v] c1) (loadIdx b ![v] c1) (loadIdx a _ c2) (loadIdx b _ c2) (loadIdx c ![v] c1) (loadIdx e ![v] c1) (loadIdx c _ c2) (loadIdx e _ c2) (Shape.ofLane k : S16.Idx)
  · intro k
    refine Eq.trans ?_ (tile_lane (128 * tileN L) w4 w5 w6 w7 ix a b c e t.val 7 k.val (hk16 k) (by decide)).symm
    rw [← g1 a k, ← g1 b k, ← g1 c k, ← g1 e k, ← g2 a k, ← g2 b k, ← g2 c k, ← g2 e k]
    exact lane7 w4 w5 w6 w7 (loadIdx a ![v] c1) (loadIdx b ![v] c1) (loadIdx a _ c2) (loadIdx b _ c2) (loadIdx c ![v] c1) (loadIdx e ![v] c1) (loadIdx c _ c2) (loadIdx e _ c2) (Shape.ofLane k : S16.Idx)

end Cert.Proof.Verbatim

end
-- ==== Proof.Verbatim.TileOut.lean ====
/-
  The result a tile leaves, in terms of the tables it reads: what its seven copies put into its scratch buffers, element by
  element, and the rows of the result.

  The counterpart of Proof/TileOut for the program with the version's own candidate for "no column".
-/
module

public import proofs.«01_k».proof.Proof.Verbatim.TileValue

@[expose] public section

noncomputable section

namespace Cert.Proof.Verbatim

open Cert.VerbatimIdeal Cert.VerbatimIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## Places in the tables, by number -/

def i32768 (k : Nat) : S32768.Idx := fun | 0 => ⟨k % 32768, Nat.mod_lt _ (by decide)⟩
def i2 (r k : Nat) : S2x4096.Idx := fun | 0 => ⟨r % 2, Nat.mod_lt _ (by decide)⟩ | 1 => ⟨k % 4096, Nat.mod_lt _ (by decide)⟩

/-- Row `r`, column `q` of the result, from the five tables: neighbour `q / 8` of agent `r`, entry `q % 8`. -/
def outAt (iv : Vec F S32768 .i32) (x u : Vec F S2x4096 .f32) (ww : Vec F S48 .f32) (bb : Vec F S8 .f32) (r q : Nat) : F .f32 :=
  let j := (iv (i32768 (8 * r + q / 8)) : BitVec 32).toNat
  entry (FloatOps.subf (x (i2 0 j)) (x (i2 0 r))) (FloatOps.subf (x (i2 1 j)) (x (i2 1 r)))
    (FloatOps.subf (u (i2 0 j)) (u (i2 0 r))) (FloatOps.subf (u (i2 1 j)) (u (i2 1 r)))
    (ww (i48 (q % 8))) (ww (i48 (8 + q % 8))) (ww (i48 (24 + q % 8))) (ww (i48 (32 + q % 8)))
    (Scalar.addf (Scalar.addf (ww (i48 (16 + q % 8))) (ww (i48 (40 + q % 8)))) (bb (i8 (q % 8))))

/-- The whole result. -/
def outF (iv : Vec F S32768 .i32) (x u : Vec F S2x4096 .f32) (ww : Vec F S48 .f32) (bb : Vec F S8 .f32) : Vec F S4096x64 .f32 :=
  fun j => outAt iv x u ww bb (j 0).val (j 1).val

/-- A tile's block holds the result's rows from the tile's first agent on. -/
theorem tileAt_eq (T : Nat) (hT : T < 32) (iv : Vec F S32768 .i32) (x u : Vec F S2x4096 .f32) (ww : Vec F S48 .f32) (bb : Vec F S8 .f32)
    (w4 w5 w6 w7 : Vec F S16 .f32) (ix : Vec F S1024 .i32) (a b c d : Vec F S4096 .f32)
    (h4 : ∀ k, k < 16 → w4 (i16 k) = ww (i48 k)) (h5 : ∀ k, k < 16 → w5 (i16 k) = ww (i48 (16 + k)))
    (h6 : ∀ k, k < 16 → w6 (i16 k) = ww (i48 (32 + k))) (h7 : ∀ k, k < 8 → w7 (i16 k) = bb (i8 k))
    (hi : ∀ k, k < 1024 → ix (i1024 k) = iv (i32768 (1024 * T + k)))
    (ha : ∀ k, a (i4096 k) = x (i2 0 k)) (hb : ∀ k, b (i4096 k) = x (i2 1 k)) (hc : ∀ k, c (i4096 k) = u (i2 0 k)) (hd : ∀ k, d (i4096 k) = u (i2 1 k))
    (n q : Nat) (hn : n < 128) (hq : q < 64) :
    tileAt (128 * T) w4 w5 w6 w7 ix a b c d n q = outAt iv x u ww bb (128 * T + n) q := by
  have he : q % 8 < 8 := Nat.mod_lt _ (by decide)
  unfold tileAt outAt biasE
  rw [hi _ (by omega), h4 _ (by omega), h4 _ (by omega), h5 _ (by omega), h5 _ (by omega), h6 _ (by omega), h6 _ (by omega), h7 _ he,
    show 1024 * T + (8 * n + q / 8) = 8 * (128 * T + n) + q / 8 by omega, show 16 + (8 + q % 8) = 24 + q % 8 by omega,
    show 32 + (8 + q % 8) = 40 + q % 8 by omega]
  simp only [ha, hb, hc, hd]

/-! ## What the copies land -/

/-- The parameters' buffer after its two copies: lanes 0 to 47 hold the weights, -/
theorem params_lo (d : Dev nD) (L : grid1.Coords) (f : Buf (Elt F) ((Memref.whole cc1_scratch5 : Memref sig .scVector .vmem S64 .f32).view.loc (VT d L)))
    (p8 : Vec F S8 .f32) (p48 : Vec F S48 .f32) (off : Nat) (inb : ∀ a, (![off] : Fin 1 → Nat) a + S16.size a ≤ S64.size a) (k : Nat) (hk : k < 16) (h : off + k < 48) :
    View.readAt (Elt F) (Memref.whole cc1_scratch5 : Memref sig .scVector .vmem S64 .f32).view (Rect.unit (s := S64) ![off] S16.size inb).toLoadRect
      ((Memref.whole cc1_scratch5 : Memref sig .scVector .vmem S64 .f32).view.writes (Elt F) f
        [⟨Rect.unit (s := S64) ![48] S8.size inb_S64_S8_48, p8⟩, ⟨Rect.unit (s := S64) ![0] S48.size inb_S64_S48_0, p48⟩]) (i16 k) = p48 (i48 (off + k)) := by
  rw [View.readAt_apply]
  have hy : (((Rect.unit (s := S64) ![off] S16.size inb).toLoadRect.idx (i16 k)) 0).val = off + k := by
    show off + 1 * (k % 16) = _; omega
  rw [View.read_writes_cons_miss_of_axis _ _ _ _ _ 0 48 8 rfl rfl rfl (Or.inl (by rw [hy]; exact h))]
  refine View.read_writes_cons_hit_of_coords _ _ (Rect.unit (s := S64) ![0] S48.size inb_S64_S48_0) p48 _ (i48 (off + k)) _ fun a => ?_
  match a with
  | 0 => rw [hy]; show off + k = 0 + 1 * ((off + k) % 48); omega

/-- and lanes 48 to 55 the bias. -/
theorem params_hi (d : Dev nD) (L : grid1.Coords) (f : Buf (Elt F) ((Memref.whole cc1_scratch5 : Memref sig .scVector .vmem S64 .f32).view.loc (VT d L)))
    (p8 : Vec F S8 .f32) (L' : List (View.Piece (Elt F) S64 .f32)) (inb : ∀ a, (![48] : Fin 1 → Nat) a + S16.size a ≤ S64.size a) (k : Nat) (hk : k < 8) :
    View.readAt (Elt F) (Memref.whole cc1_scratch5 : Memref sig .scVector .vmem S64 .f32).view (Rect.unit (s := S64) ![48] S16.size inb).toLoadRect
      ((Memref.whole cc1_scratch5 : Memref sig .scVector .vmem S64 .f32).view.writes (Elt F) f
        (⟨Rect.unit (s := S64) ![48] S8.size inb_S64_S8_48, p8⟩ :: L')) (i16 k) = p8 (i8 k) := by
  rw [View.readAt_apply]
  have hy : (((Rect.unit (s := S64) ![48] S16.size inb).toLoadRect.idx (i16 k)) 0).val = 48 + k := by
    show 48 + 1 * (k % 16) = _; omega
  refine View.read_writes_cons_hit_of_coords _ _ (Rect.unit (s := S64) ![48] S8.size inb_S64_S8_48) p8 _ (i8 k) _ fun a => ?_
  match a with
  | 0 => rw [hy]; show 48 + k = 48 + 1 * (k % 8); omega

/-- A row of a two-row table, as a copy reads it. -/
theorem row_x (x : Vec F S2x4096 .f32) (r : Nat) (hr : r < 2) (inb : ∀ a, (![r, 0] : Fin 2 → Nat) a + S1x4096.size a ≤ S2x4096.size a) (hs) (hq) (k : Nat) :
    (ReadAs.same : ReadAs (Elt F) S4096 .f32 S4096 .f32).apply (View.read (Elt F)
      (((Memref.whole main_v0_scv : Memref sig .scVector .hbm S2x4096 .f32).slice (Rect.unit (s := S2x4096) ![r, 0] S1x4096.size inb) hs).squeeze S4096 hq).view x) (i4096 k)
      = x (i2 r k) := by
  refine ((View.read_apply _ _).trans (cast_eq _ _)).trans (congrArg x ?_)
  funext a
  apply Fin.ext
  show ((Rect.unit (s := S2x4096) ![r, 0] S1x4096.size inb).emb (Shape.reshapeEquiv hq.numel_eq (i4096 k)) a).val = _
  have : Shape.reshapeEquiv hq.numel_eq (i4096 k) = (Fin.cons ⟨0, Nat.one_pos⟩ (i4096 k) : S1x4096.Idx) := Shape.reshapeEquiv_cons_one _ _
  rw [this]
  match a with
  | 0 => show r + 1 * 0 = r % 2; omega
  | 1 => show 0 + 1 * (k % 4096) = k % 4096; omega

theorem row_u (x : Vec F S2x4096 .f32) (r : Nat) (hr : r < 2) (inb : ∀ a, (![r, 0] : Fin 2 → Nat) a + S1x4096.size a ≤ S2x4096.size a) (hs) (hq) (k : Nat) :
    (ReadAs.same : ReadAs (Elt F) S4096 .f32 S4096 .f32).apply (View.read (Elt F)
      (((Memref.whole main_v2_1_scv : Memref sig .scVector .hbm S2x4096 .f32).slice (Rect.unit (s := S2x4096) ![r, 0] S1x4096.size inb) hs).squeeze S4096 hq).view x) (i4096 k)
      = x (i2 r k) :=
  row_x x r hr inb hs hq k

/-- The tile's index words, as its copy reads them. -/
theorem words_apply (L : grid1.Coords) (iv : Vec F S32768 .i32) (hs) (k : Nat) (hk : k < 1024) :
    (ReadAs.same : ReadAs (Elt F) S1024 .i32 S1024 .i32).apply (View.read (Elt F)
      ((Memref.whole main_v3_scv : Memref sig .scVector .hbm S32768 .i32).slice (Rect.unit (s := S32768) (k1_off1 L) S1024.size (k1_off1_inb L)) hs).view iv) (i1024 k)
      = iv (i32768 (1024 * tileN L + k)) := by
  have hT := tileN_lt L
  refine ((View.read_apply _ _).trans (cast_eq _ _)).trans (congrArg iv ?_)
  funext a
  apply Fin.ext
  show ((Rect.unit (s := S32768) (k1_off1 L) S1024.size (k1_off1_inb L)).emb (i1024 k) a).val = _
  match a with
  | 0 =>
    show k1_off1 L 0 + 1 * (k % 1024) = (1024 * tileN L + k) % 32768
    rw [k1_off1_eq]
    show 2048 * (L 1).val + 1024 * (L 0).val + 1 * (k % 1024) = _
    unfold tileN at hT ⊢
    omega

end Cert.Proof.Verbatim

end
-- ==== Proof.Verbatim.Tile.lean ====
/-
  A tile's whole run: seven copies in, the loop, one copy out.

  The counterpart of Proof/Tile for the program with the version's own candidate for "no column".
-/
module

public import proofs.«01_k».proof.Proof.Verbatim.Trip
public import proofs.«01_k».proof.Proof.Verbatim.TileOut

@[expose] public section

noncomputable section

namespace Cert.Proof.Verbatim

open Cert.VerbatimIdeal Cert.VerbatimIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- A table in memory at a read share, as a tile names it. -/
abbrev rPts (d : Dev nD) (L : grid1.Coords) (b : Ref sig .scVector) (q : PosShare TreeShare) (f : Buf (Elt F) ((VT d L).loc b)) : sProp 𝕄 :=
  (Memref.whole b).view.loc (VT d L) ↦{q} f

/-- The tile's block of the result, as the body slices it. -/
abbrev oBlk (L : grid1.Coords) : Memref sig .scVector .hbm S128x64 .f32 := (Memref.whole main_v5_scv).slice (Rect.unit (s := S4096x64) (k1_off3 L) S128x64.size (k1_off3_inb L)) (fun _ => rfl)

abbrev csem (k : Nat) (hk : k < 15 := by decide) : DmaSem sig := ⟨k, hk⟩
abbrev cells0 (d : Dev nD) (L : grid1.Coords) : sProp 𝕄 :=
  iprop(semVal (VT d L, SemLoc.dma (csem 7)) 0 ∗ semVal (VT d L, SemLoc.dma (csem 8)) 0 ∗ semVal (VT d L, SemLoc.dma (csem 9)) 0
    ∗ semVal (VT d L, SemLoc.dma (csem 10)) 0 ∗ semVal (VT d L, SemLoc.dma (csem 11)) 0 ∗ semVal (VT d L, SemLoc.dma (csem 12)) 0
    ∗ semVal (VT d L, SemLoc.dma (csem 13)) 0 ∗ semVal (VT d L, SemLoc.dma (csem 14)) 0)

/-- Before trip `t` of the loop: the five read buffers unchanged, the block's rows below `2 t` done. -/
def inv (d : Dev nD) (L : grid1.Coords) (w4 w5 w6 w7 : Vec F S16 .f32) (ix : Vec F S1024 .i32) (a b c e : Vec F S4096 .f32) (t : Nat) (_ : Unit) : sProp 𝕄 :=
  iprop(sPts d L cc1_scratch0 ix ∗ sPts d L cc1_scratch1 a ∗ sPts d L cc1_scratch2 b ∗ sPts d L cc1_scratch3 c ∗ sPts d L cc1_scratch4 e
    ∗ ∃ g : Vec F S128x64 .f32, ⌜∀ j : S128x64.Idx, (j 0).val < 2 * t → g j = tileAt (128 * tileN L) w4 w5 w6 w7 ix a b c e (j 0).val (j 1).val⌝
        ∗ sPts d L cc1_scratch6 g)

/-- The block on its way out lands as the result's rows. -/
theorem out_set (d : Dev nD) (L : grid1.Coords) (iv : Vec F S32768 .i32) (x u : Vec F S2x4096 .f32) (ww : Vec F S48 .f32) (bb : Vec F S8 .f32)
    (o0 : Buf (Elt F) ((oBlk L).view.loc (VT d L))) (w : Vec F S128x64 .f32)
    (hw : ∀ j : S128x64.Idx, w j = outAt iv x u ww bb (128 * tileN L + (j 0).val) (j 1).val) :
    ∀ z ∈ (oBlk L).view.set, (oBlk L).view.writes (Elt F) o0 [⟨Rect.whole S128x64, w⟩] z = (outF iv x u ww bb : Vec F S4096x64 .f32) z := by
  intro z hz
  obtain ⟨y, -, rfl⟩ := Finset.mem_map.1 hz
  rw [← View.write_univ_eq_writes_whole, View.writes_nil, View.write_emb_of_mem _ _ (Finset.mem_univ _), cast_eq]
  refine (hw y).trans ?_
  have e0 : (((oBlk L).view.emb y) 0).val = 128 * tileN L + (y 0).val := by
    show k1_off3 L 0 + 1 * (y 0).val = _
    rw [k1_off3_eq]
    show 256 * (L 1).val + 128 * (L 0).val + 1 * (y 0).val = 128 * (2 * (L 1).val + (L 0).val) + (y 0).val
    omega
  have e1 : (((oBlk L).view.emb y) 1).val = (y 1).val := by
    show k1_off3 L 1 + 1 * (y 1).val = _
    rw [k1_off3_eq]
    show 0 + 1 * (y 1).val = (y 1).val
    omega
  show _ = outAt iv x u ww bb (((oBlk L).view.emb y) 0).val (((oBlk L).view.emb y) 1).val
  rw [e0, e1]

theorem out_land (d : Dev nD) (L : grid1.Coords) (iv : Vec F S32768 .i32) (x u : Vec F S2x4096 .f32) (ww : Vec F S48 .f32) (bb : Vec F S8 .f32)
    (o0 : Buf (Elt F) ((oBlk L).view.loc (VT d L))) (w : Vec F S128x64 .f32)
    (hw : ∀ j : S128x64.Idx, w j = outAt iv x u ww bb (128 * tileN L + (j 0).val) (j 1).val) :
    (((oBlk L).view.loc (VT d L) ↦[(oBlk L).view.set]{fullShare} (oBlk L).view.writes (Elt F) o0 [⟨Rect.whole S128x64, w⟩]) : sProp 𝕄)
      ⊢ ((oBlk L).view.loc (VT d L) ↦[(oBlk L).view.set]{fullShare} outF iv x u ww bb) :=
  by rw [pointsTo_congr (out_set d L iv x u ww bb o0 w hw)]

/-- The loop and the copy out, from what the copies in have put into the scratch buffers. -/
theorem rest_wp (d : Dev nD) (L : grid1.Coords) (O : CellTallies nD τ sig (HIx 1)) (W : Waits sig (HIx 1))
    (iv : Vec F S32768 .i32) (x u : Vec F S2x4096 .f32) (ww : Vec F S48 .f32) (bb : Vec F S8 .f32)
    (hiv : ∀ j, (iv j : BitVec 32).toNat < 4096) (o0 : Buf (Elt F) ((oBlk L).view.loc (VT d L)))
    (w4 w5 w6 w7 : Vec F S16 .f32) (ix : Vec F S1024 .i32) (a b c e : Vec F S4096 .f32) (s6 : Vec F S128x64 .f32)
    (h4 : ∀ k, k < 16 → w4 (i16 k) = ww (i48 k)) (h5 : ∀ k, k < 16 → w5 (i16 k) = ww (i48 (16 + k)))
    (h6 : ∀ k, k < 16 → w6 (i16 k) = ww (i48 (32 + k))) (h7 : ∀ k, k < 8 → w7 (i16 k) = bb (i8 k))
    (hi : ∀ k, k < 1024 → ix (i1024 k) = iv (i32768 (1024 * tileN L + k)))
    (ha : ∀ k, a (i4096 k) = x (i2 0 k)) (hb : ∀ k, b (i4096 k) = x (i2 1 k)) (hc : ∀ k, c (i4096 k) = u (i2 0 k)) (he : ∀ k, e (i4096 k) = u (i2 1 k)) :
    (iprop(Transfers.MayWaits (VT d L) (default : HIx 1) O
        ∗ sPts d L cc1_scratch0 ix ∗ sPts d L cc1_scratch1 a ∗ sPts d L cc1_scratch2 b ∗ sPts d L cc1_scratch3 c ∗ sPts d L cc1_scratch4 e
        ∗ sPts d L cc1_scratch6 s6
        ∗ ((oBlk L).view.loc (VT d L) ↦[(oBlk L).view.set]{fullShare} o0)
        ∗ semVal (VT d L, SemLoc.dma (csem 14)) 0
        ∗ owes (VT d L) O W) : sProp 𝕄)
      ⊢ wp frame (wpE (defs₀ (F := F)) 𝒱₀ (VT d L) none) Set.univ (do
          Scf.Loop.for k1_t1_loop k1_t1_ok ⟨⟩ (k1_t1_body L (Memref.whole main_v3_scv) (Memref.isWhole_whole _) (Memref.whole main_v0_scv) (Memref.isWhole_whole _) (Memref.whole main_v2_1_scv) (Memref.isWhole_whole _) (Memref.whole main_v4_scv) (Memref.isWhole_whole _) (Memref.whole main_arg4_scv) (Memref.isWhole_whole _) (Memref.whole main_v5_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _)
            cc1_scoped0 cc1_scoped1 cc1_scoped2 cc1_scoped3 cc1_scoped4 cc1_scoped5 cc1_scoped6 cc1_scoped7 (w2 L) (w3 L) w5 w6 w7 (k1_pay27 w4) (k1_pay28 w4) (k1_pay29 w4) (k1_pay30 w4) (k1_pay31 w4) (k1_pay32 w4) (k1_pay33 w4) (k1_pay34 w4) (k1_pay36 (k1_pay35 w4)) (k1_pay37 w4) (k1_pay38 w4) (k1_pay39 w4) (k1_pay40 w4) (k1_pay41 w4) (k1_pay42 w4) (k1_pay43 w4) (k1_pay44 w5) (k1_pay45 w5) (k1_pay46 w5) (k1_pay47 w5) (k1_pay48 w5) (k1_pay49 w5) (k1_pay50 w5) (k1_pay51 w5) (k1_pay52 w6) (k1_pay53 w6) (k1_pay54 w6) (k1_pay55 w6) (k1_pay56 w6) (k1_pay57 w6) (k1_pay58 w6) (k1_pay59 w6) (k1_pay60 w5 w6 w7) (k1_pay61 w5 w6) lanes)
          Prog.lift (.enqueueDma (Memref.whole cc1_scratch6) (.here (oBlk L)) (.dma cc1_scoped7.sem) (Memref.isWhole_whole _).wordExact (View.wordExact_bits rfl) ⟨Or.inl rfl, trivial⟩)
          Prog.lift (.waitDma2 cc1_scoped7.sem (Memref.whole cc1_scratch6) (oBlk L) (Memref.isWhole_whole _).wordExact (View.wordExact_bits rfl))
          pure (⟨⟩ : PUnit))
          fun _ => iprop((∃ f, sPts d L cc1_scratch0 f) ∗ (∃ f, sPts d L cc1_scratch1 f) ∗ (∃ f, sPts d L cc1_scratch2 f) ∗ (∃ f, sPts d L cc1_scratch3 f)
            ∗ (∃ f, sPts d L cc1_scratch4 f) ∗ (∃ f, sPts d L cc1_scratch6 f)
            ∗ ((oBlk L).view.loc (VT d L) ↦[(oBlk L).view.set]{fullShare} outF iv x u ww bb)
            ∗ semVal (VT d L, SemLoc.dma (csem 14)) 0
            ∗ ∃ W', owes (VT d L) O W') := by
  iintro ⟨#Hmw, H0, H1, H2, H3, H4, H6, HO0, Hc7, HO⟩
  have hT := tileN_lt L
  have hix : ∀ z, (ix z : BitVec 32).toNat < 4096 := fun z => by
    have hz : (z 0).val < 1024 := (z 0).isLt
    rw [show z = i1024 (z 0).val from ext1024 (Nat.mod_eq_of_lt hz).symm, hi _ hz]; exact hiv _
  sl_for (inv d L w4 w5 w6 w7 ix a b c e) $$ [H0 H1 H2 H3 H4 H6]
  case region =>
    intro t _
    unfold inv
    iintro ⟨H0, H1, H2, H3, H4, %g, %hg, H6⟩
    iapply (wp_wand_r Idealize.ShloMosaic.frame (wpE (defs₀ (F := F)) 𝒱₀ (VT d L) none) Set.univ)
    isplitl [H0 H1 H2 H3 H4 H6]
    · iapply (trip_wp d L t w4 w5 w6 w7 ix a b c e g hix)
      isplitl [H0]; · iexact H0
      isplitl [H1]; · iexact H1
      isplitl [H2]; · iexact H2
      isplitl [H3]; · iexact H3
      isplitl [H4]; · iexact H4
      iexact H6
    iintro %_ ⟨H0, H1, H2, H3, H4, %g', %hg', H6⟩
    isplitl [H0]; · iexact H0
    isplitl [H1]; · iexact H1
    isplitl [H2]; · iexact H2
    isplitl [H3]; · iexact H3
    isplitl [H4]; · iexact H4
    iexists g'; isplitr
    · ipureintro; intro j hj
      rw [hg' j]
      split_ifs with h
      · rfl
      · exact hg j (by omega)
    · iexact H6
  · unfold inv
    isplitl [H0]; · iexact H0
    isplitl [H1]; · iexact H1
    isplitl [H2]; · iexact H2
    isplitl [H3]; · iexact H3
    isplitl [H4]; · iexact H4
    iexists s6; isplitr
    · ipureintro; intro j hj; omega
    · iexact H6
  iintro %_ HI'
  unfold inv
  icases HI' with ⟨H0, H1, H2, H3, H4, %g, %hg, H6⟩
  sl_exec
  sl_step
  have hg2 : ∀ j : S128x64.Idx, (rest_wp.sl.dma0 g : Vec F S128x64 .f32) j = outAt iv x u ww bb (128 * tileN L + (j 0).val) (j 1).val := by
    intro j
    have hj : (j 0).val < 128 := (j 0).isLt
    refine (hg j (by rw [show Scf.trips k1_t1_loop.lb k1_t1_loop.ub k1_t1_loop.st = 64 by decide]; omega)).trans ?_
    exact tileAt_eq (tileN L) hT iv x u ww bb w4 w5 w6 w7 ix a b c e h4 h5 h6 h7 hi ha hb hc he _ _ hj (j 1).isLt
  generalize rest_wp.sl.dma0 g = w at hg2
  isplitl [H0]; · iexists _; iexact H0
  isplitl [H1]; · iexists _; iexact H1
  isplitl [H2]; · iexists _; iexact H2
  isplitl [H3]; · iexists _; iexact H3
  isplitl [H4]; · iexists _; iexact H4
  isplitl [H6]; · iexists _; iexact H6
  isplitl [HO0]; · iapply (out_land d L iv x u ww bb o0 w hg2); iexact HO0
  isplitl [Hc7]; · iexact Hc7
  iexists _; iexact HO

-- the whole of a tile's body stands in one goal: seven copies, the parameter reads and the loop, each stepping the same separating frame
set_option maxHeartbeats 600000 in
theorem tile_run (d : Dev nD) (L : grid1.Coords) (q : PosShare TreeShare) (O : CellTallies nD τ sig (HIx 1)) (W : Waits sig (HIx 1))
    (iv : Vec F S32768 .i32) (x u : Vec F S2x4096 .f32) (ww : Vec F S48 .f32) (bb : Vec F S8 .f32)
    (hiv : ∀ j, (iv j : BitVec 32).toNat < 4096) (o0 : Buf (Elt F) ((oBlk L).view.loc (VT d L)))
    (s0 : Vec F S1024 .i32) (s1 s2 s3 s4 : Vec F S4096 .f32) (s5 : Vec F S64 .f32) (s6 : Vec F S128x64 .f32) :
    (iprop(Transfers.MayWaits (VT d L) (default : HIx 1) O
        ∗ rPts d L main_v3_scv q iv ∗ rPts d L main_v0_scv q x ∗ rPts d L main_v2_1_scv q u
        ∗ rPts d L main_v4_scv q ww ∗ rPts d L main_arg4_scv q bb
        ∗ ((oBlk L).view.loc (VT d L) ↦[(oBlk L).view.set]{fullShare} o0)
        ∗ sPts d L cc1_scratch0 s0 ∗ sPts d L cc1_scratch1 s1 ∗ sPts d L cc1_scratch2 s2 ∗ sPts d L cc1_scratch3 s3 ∗ sPts d L cc1_scratch4 s4
        ∗ sPts d L cc1_scratch5 s5 ∗ sPts d L cc1_scratch6 s6
        ∗ cells0 d L
        ∗ owes (VT d L) O W) : sProp 𝕄)
      ⊢ wp frame (wpE (defs₀ (F := F)) 𝒱₀ (VT d L) none) Set.univ
          (cc1__sc_body L (Memref.whole main_v3_scv) (Memref.isWhole_whole _) (Memref.whole main_v0_scv) (Memref.isWhole_whole _) (Memref.whole main_v2_1_scv) (Memref.isWhole_whole _) (Memref.whole main_v4_scv) (Memref.isWhole_whole _) (Memref.whole main_arg4_scv) (Memref.isWhole_whole _) (Memref.whole main_v5_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scoped0 cc1_scoped1 cc1_scoped2 cc1_scoped3 cc1_scoped4 cc1_scoped5 cc1_scoped6 cc1_scoped7)
          fun _ => iprop(rPts d L main_v3_scv q iv ∗ rPts d L main_v0_scv q x ∗ rPts d L main_v2_1_scv q u
            ∗ rPts d L main_v4_scv q ww ∗ rPts d L main_arg4_scv q bb
            ∗ ((oBlk L).view.loc (VT d L) ↦[(oBlk L).view.set]{fullShare} outF iv x u ww bb)
            ∗ (∃ f, sPts d L cc1_scratch0 f) ∗ (∃ f, sPts d L cc1_scratch1 f) ∗ (∃ f, sPts d L cc1_scratch2 f) ∗ (∃ f, sPts d L cc1_scratch3 f)
            ∗ (∃ f, sPts d L cc1_scratch4 f) ∗ (∃ f, sPts d L cc1_scratch5 f) ∗ (∃ f, sPts d L cc1_scratch6 f)
            ∗ cells0 d L
            ∗ ∃ W', owes (VT d L) O W') := by
  iintro ⟨#Hmw, HI, HX, HU, HW, HB, HO0, H0, H1, H2, H3, H4, H5, H6, ⟨Hc0, Hc1, Hc2, Hc3, Hc4, Hc5, Hc6, Hc7⟩, HO⟩
  unfold cc1__sc_body
  simp only [k1_part4_eq_skeleton, k1_part5_eq_skeleton, k1_part6_eq_skeleton, k1_part7_eq_skeleton]
  unfold k1_part4_skel k1_part5_skel k1_part6_skel k1_part7_skel
  simp only [bind_assoc, pure_bind]
  sl_exec
  have hT := tileN_lt L
  have h4 : ∀ k, k < 16 → tile_run.sl.x ww bb (i16 k) = ww (i48 k) := fun k hk => by
    have h := params_lo (F := F) d L (Memref.whole cc1_scratch5 : Memref sig .scVector .vmem S64 .f32).view.junk bb ww 0 inb_S64_S16_0 k hk (by omega)
    rw [Nat.zero_add] at h
    exact h
  have h5 : ∀ k, k < 16 → tile_run.sl.x_1 ww bb (i16 k) = ww (i48 (16 + k)) := fun k hk => params_lo (F := F) d L _ bb ww 16 inb_S64_S16_16 k hk (by omega)
  have h6 : ∀ k, k < 16 → tile_run.sl.x_2 ww bb (i16 k) = ww (i48 (32 + k)) := fun k hk => params_lo (F := F) d L _ bb ww 32 inb_S64_S16_32 k hk (by omega)
  have h7 : ∀ k, k < 8 → tile_run.sl.x_3 ww bb s5 (i16 k) = bb (i8 k) := fun k hk => params_hi (F := F) d L _ bb _ inb_S64_S16_48 k hk
  have hi : ∀ k, k < 1024 → tile_run.sl.dma0 L iv (i1024 k) = iv (i32768 (1024 * tileN L + k)) := words_apply L iv _
  have ha : ∀ k, tile_run.sl.dma0_1 x (i4096 k) = x (i2 0 k) := row_x x 0 (by omega) _ _ _
  have hb : ∀ k, tile_run.sl.dma0_2 x (i4096 k) = x (i2 1 k) := row_x x 1 (by omega) _ _ _
  have hc : ∀ k, tile_run.sl.dma0_3 u (i4096 k) = u (i2 0 k) := row_u u 0 (by omega) _ _ _
  have he : ∀ k, tile_run.sl.dma0_4 u (i4096 k) = u (i2 1 k) := row_u u 1 (by omega) _ _ _
  have e0 : ∀ X, View.write (Elt F) (Memref.whole cc1_scratch0 : Memref sig .scVector .vmem S1024 .i32).view s0 X Finset.univ = X := View.write_whole_univ _ _
  have e1 : ∀ X, View.write (Elt F) (Memref.whole cc1_scratch1 : Memref sig .scVector .vmem S4096 .f32).view s1 X Finset.univ = X := View.write_whole_univ _ _
  have e2 : ∀ X, View.write (Elt F) (Memref.whole cc1_scratch2 : Memref sig .scVector .vmem S4096 .f32).view s2 X Finset.univ = X := View.write_whole_univ _ _
  have e3 : ∀ X, View.write (Elt F) (Memref.whole cc1_scratch3 : Memref sig .scVector .vmem S4096 .f32).view s3 X Finset.univ = X := View.write_whole_univ _ _
  have e4 : ∀ X, View.write (Elt F) (Memref.whole cc1_scratch4 : Memref sig .scVector .vmem S4096 .f32).view s4 X Finset.univ = X := View.write_whole_univ _ _
  rw [e0, e1, e2, e3, e4]
  generalize tile_run.sl.x ww bb = w4 at h4 ⊢
  generalize tile_run.sl.x_1 ww bb = w5 at h5 ⊢
  generalize tile_run.sl.x_2 ww bb = w6 at h6 ⊢
  generalize tile_run.sl.x_3 ww bb s5 = w7 at h7 ⊢
  generalize tile_run.sl.dma0 L iv = ix at hi ⊢
  generalize tile_run.sl.dma0_1 x = a at ha ⊢
  generalize tile_run.sl.dma0_2 x = b at hb ⊢
  generalize tile_run.sl.dma0_3 u = c at hc ⊢
  generalize tile_run.sl.dma0_4 u = e at he ⊢
  iapply (wp_wand_r Idealize.ShloMosaic.frame (wpE (defs₀ (F := F)) 𝒱₀ (VT d L) none) Set.univ)
  isplitl [H0 H1 H2 H3 H4 H6 HO0 Hc7 HO]
  · iapply (rest_wp d L O _ iv x u ww bb hiv o0 w4 w5 w6 w7 ix a b c e s6 h4 h5 h6 h7 hi ha hb hc he)
    isplitr; · iexact Hmw
    isplitl [H0]; · iexact H0
    isplitl [H1]; · iexact H1
    isplitl [H2]; · iexact H2
    isplitl [H3]; · iexact H3
    isplitl [H4]; · iexact H4
    isplitl [H6]; · iexact H6
    isplitl [HO0]; · iexact HO0
    isplitl [Hc7]; · iexact Hc7
    iexact HO
  iintro %_ ⟨H0, H1, H2, H3, H4, H6, HO0, Hc7, HO⟩
  isplitl [HI]; · iexact HI
  isplitl [HX]; · iexact HX
  isplitl [HU]; · iexact HU
  isplitl [HW]; · iexact HW
  isplitl [HB]; · iexact HB
  isplitl [HO0]; · iexact HO0
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [Hc0 Hc1 Hc2 Hc3 Hc4 Hc5 Hc6 Hc7]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexact Hc7
  iexact HO

end Cert.Proof.Verbatim

end
-- ==== Proof.Verbatim.Obl.lean ====
/-
  The SparseCore call: what the handshakes carry, the tile's obligation, and how a SparseCore's share splits over its tiles.

  The counterpart of Proof/Obl for the program with the version's own candidate for "no column".
-/
module

public import proofs.«01_k».proof.Proof.Verbatim.Tile
public import Idealize.ShloMosaic.Lib.ShareLeaves

@[expose] public section

noncomputable section

namespace Cert.Proof.Verbatim

open Cert.VerbatimIdeal Cert.VerbatimIdeal.Gen

open Idealize.ShloMosaic
open Idealize.ShloMosaic.SparseCore (S V T)
open Idealize.ShloMosaic.SparseCore.Cfg (HIx Pay ownSems0 ownBufs ownCells mem_ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The tables a tile reads, and what the result's buffer holds before the call. -/
structure Tabs (F : FTy → Type) where
  iv : Vec F S32768 .i32
  x : Vec F S2x4096 .f32
  u : Vec F S2x4096 .f32
  ww : Vec F S48 .f32
  bb : Vec F S8 .f32
  o0 : Vec F S4096x64 .f32

/-! ## The tiles' blocks of the result -/

def coordsV (c : Fin (grid1.bound 0)) (s : Fin (grid1.bound 1)) : grid1.Coords :=
  fun | 0 => c | 1 => s | ⟨_ + 2, h⟩ => absurd h (Nat.not_lt.2 (Nat.le_add_left _ _))

abbrev tile (p : Fin 2 × Fin 16) : grid1.Coords := coordsV p.1 p.2
abbrev oSet (p : Fin 2 × Fin 16) : Finset S4096x64.Idx := (oBlk (tile p)).view.set

theorem mem_oSet (p : Fin 2 × Fin 16) (z : S4096x64.Idx) : z ∈ oSet p ↔ (z 0).val / 128 = 2 * p.2.val + p.1.val := by
  have e : oSet p = (Rect.unit (s := S4096x64) (k1_off3 (tile p)) S128x64.size (k1_off3_inb (tile p))).set := by
    show ((View.whole (main_v5_scv : Ref sig .scVector)).slice _).set = _
    rw [View.set_slice]; exact Finset.map_refl
  rw [e, Rect.mem_set_unit]
  have e0 : k1_off3 (tile p) 0 = 256 * p.2.val + 128 * p.1.val := by rw [k1_off3_eq]; rfl
  have e1 : k1_off3 (tile p) 1 = 0 := by rw [k1_off3_eq]; rfl
  have h1 : (z 1).val < 64 := (z 1).isLt
  constructor
  · intro h
    have h0 := h 0
    rw [e0] at h0
    have h0' : 256 * p.2.val + 128 * p.1.val ≤ (z 0).val ∧ (z 0).val < 256 * p.2.val + 128 * p.1.val + 128 := h0
    omega
  · intro h a
    match a with
    | 0 => rw [e0]; show 256 * p.2.val + 128 * p.1.val ≤ (z 0).val ∧ (z 0).val < 256 * p.2.val + 128 * p.1.val + 128; omega
    | 1 => rw [e1]; show 0 ≤ (z 1).val ∧ (z 1).val < 0 + 64; omega

theorem oSets_disjoint : ∀ p ∈ (Finset.univ : Finset (Fin 2 × Fin 16)), ∀ p' ∈ (Finset.univ : Finset (Fin 2 × Fin 16)), p ≠ p' → Disjoint (oSet p) (oSet p') := by
  intro p _ p' _ h
  refine Finset.disjoint_left.mpr fun z hz hz' => h ?_
  rw [mem_oSet] at hz hz'
  have h1 := p.1.isLt; have h2 := p'.1.isLt
  exact Prod.ext (Fin.ext (by omega)) (Fin.ext (by omega))

theorem oSets_cover : (Finset.univ : Finset (Fin 2 × Fin 16)).biUnion oSet = Finset.univ := by
  refine Finset.eq_univ_of_forall fun z => Finset.mem_biUnion.mpr ?_
  have h0 : (z 0).val < 4096 := (z 0).isLt
  refine ⟨(⟨(z 0).val / 128 % 2, by omega⟩, ⟨(z 0).val / 256, by omega⟩), Finset.mem_univ _, ?_⟩
  rw [mem_oSet]
  show (z 0).val / 128 = 2 * ((z 0).val / 256) + (z 0).val / 128 % 2
  omega

/-! ## What the handshakes carry -/

abbrev oPts (d : Dev nD) (p : Fin 2 × Fin 16) (f : Vec F S4096x64 .f32) : sProp 𝕄 := tLoc d main_v5 ↦[oSet p]{fullShare} f

/-- The five tables at one read share. -/
abbrev rd (A : Tabs F) (d : Dev nD) (q : PosShare TreeShare) : sProp 𝕄 :=
  iprop((tLoc d main_v3 ↦{q} A.iv) ∗ (tLoc d main_v0 ↦{q} A.x) ∗ (tLoc d main_v2_1 ↦{q} A.u) ∗ (tLoc d main_v4 ↦{q} A.ww) ∗ (tLoc d main_arg4 ↦{q} A.bb))

abbrev cShare (c : Fin 2) : PosShare TreeShare := ShareLeaves.leaf 1 fullShare c
abbrev tShare (c : Fin 2) (i : Fin 16) : PosShare TreeShare := ShareLeaves.leaf 4 (cShare c) i

abbrev outOf (A : Tabs F) : Vec F S4096x64 .f32 := outF A.iv A.x A.u A.ww A.bb

/-- A SparseCore takes its share of the tables and its tiles' blocks; a tile its share of that and its own block. -/
def P (A : Tabs F) : (K (F := F)).Pay (nD := nD) (Val := Elt F) (Name := ℕ) (U := UU) where
  st := fun q d c => match q with | 0 => iprop(rd A d (cShare (Fin.cast nCore_zero c)) ∗ bigSep Finset.univ fun i : Fin 16 => oPts d (Fin.cast nCore_zero c, i) A.o0)
  dn := fun q d c => match q with | 0 => iprop(rd A d (cShare (Fin.cast nCore_zero c)) ∗ bigSep Finset.univ fun i : Fin 16 => oPts d (Fin.cast nCore_zero c, i) (outOf A))
  go := fun q d c i => match q with
    | 0 => iprop(rd A d (tShare (Fin.cast nCore_zero c) (Fin.cast nSub_zero i)) ∗ oPts d (Fin.cast nCore_zero c, Fin.cast nSub_zero i) A.o0)
  td := fun q d c i => match q with
    | 0 => iprop(rd A d (tShare (Fin.cast nCore_zero c) (Fin.cast nSub_zero i)) ∗ oPts d (Fin.cast nCore_zero c, Fin.cast nSub_zero i) (outOf A))
  x := fun _ _ => iprop(emp)

instance P_storable (A : Tabs F) : (P A).IsStorable where
  st q d c := match q with
    | 0 => (inferInstance : BI.Storable (upEmb : UEmb _ 𝕄) iprop(rd A d (cShare (Fin.cast nCore_zero c)) ∗ bigSep Finset.univ fun i : Fin 16 => oPts d (Fin.cast nCore_zero c, i) A.o0))
  dn q d c := match q with
    | 0 => (inferInstance : BI.Storable (upEmb : UEmb _ 𝕄) iprop(rd A d (cShare (Fin.cast nCore_zero c)) ∗ bigSep Finset.univ fun i : Fin 16 => oPts d (Fin.cast nCore_zero c, i) (outOf A)))
  go q d c i := match q with
    | 0 => (inferInstance : BI.Storable (upEmb : UEmb _ 𝕄)
      iprop(rd A d (tShare (Fin.cast nCore_zero c) (Fin.cast nSub_zero i)) ∗ oPts d (Fin.cast nCore_zero c, Fin.cast nSub_zero i) A.o0))
  td q d c i := match q with
    | 0 => (inferInstance : BI.Storable (upEmb : UEmb _ 𝕄)
      iprop(rd A d (tShare (Fin.cast nCore_zero c) (Fin.cast nSub_zero i)) ∗ oPts d (Fin.cast nCore_zero c, Fin.cast nSub_zero i) (outOf A)))

/-! ## A SparseCore's holdings are its tiles' -/

theorem rd_leaves (A : Tabs F) (d : Dev nD) (n : Nat) (q : PosShare TreeShare) :
    (rd A d q : sProp 𝕄) = bigSep Finset.univ fun i : Fin (2 ^ n) => rd A d (ShareLeaves.leaf n q i) := by
  unfold rd
  rw [bigSep_sep', bigSep_sep', bigSep_sep', bigSep_sep', ← ShareLeaves.pointsTo_leaves, ← ShareLeaves.pointsTo_leaves, ← ShareLeaves.pointsTo_leaves,
    ← ShareLeaves.pointsTo_leaves, ← ShareLeaves.pointsTo_leaves]

/-- What a SparseCore holds is what its tiles hold, the result's blocks at `f`. -/
theorem core_eq (A : Tabs F) (d : Dev nD) (c : Fin 2) (f : Vec F S4096x64 .f32) :
    (bigSep Finset.univ fun i : Fin 16 => iprop(rd A d (tShare c i) ∗ oPts d (c, i) f))
      = (iprop(rd A d (cShare c) ∗ bigSep Finset.univ fun i : Fin 16 => oPts d (c, i) f) : sProp 𝕄) := by
  rw [bigSep_sep', rd_leaves A d 4 (cShare c)]
  rfl

theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit (A : Tabs F) : (K (F := F)).VecSplit' (P A) 0 := by
  intro d c
  show iprop(rd A d (cShare (Fin.cast nCore_zero c)) ∗ bigSep Finset.univ fun i : Fin 16 => oPts d (Fin.cast nCore_zero c, i) A.o0) ⊢ |={Set.univ}=> iprop(
      (bigSep Finset.univ fun i : Fin ((K (F := F)).nSub 0) =>
        iprop(rd A d (tShare (Fin.cast nCore_zero c) (Fin.cast nSub_zero i)) ∗ oPts d (Fin.cast nCore_zero c, Fin.cast nSub_zero i) A.o0))
      ∗ ((bigSep Finset.univ fun i : Fin ((K (F := F)).nSub 0) =>
          iprop(rd A d (tShare (Fin.cast nCore_zero c) (Fin.cast nSub_zero i)) ∗ oPts d (Fin.cast nCore_zero c, Fin.cast nSub_zero i) (outOf A)))
          -∗ iprop(rd A d (cShare (Fin.cast nCore_zero c)) ∗ bigSep Finset.univ fun i : Fin 16 => oPts d (Fin.cast nCore_zero c, i) (outOf A))))
  rw [bigSep_subs (F := F) (fun i => iprop(rd A d (tShare (Fin.cast nCore_zero c) i) ∗ oPts d (Fin.cast nCore_zero c, i) A.o0)),
    bigSep_subs (F := F) (fun i => iprop(rd A d (tShare (Fin.cast nCore_zero c) i) ∗ oPts d (Fin.cast nCore_zero c, i) (outOf A))),
    core_eq, core_eq]
  iintro H; imodintro
  isplitl [H]; · iexact H
  iintro H; iexact H

/-- The two SparseCores' holdings are the tables and the result whole. -/
theorem cores_eq (A : Tabs F) (d : Dev nD) (f : Vec F S4096x64 .f32) :
    (bigSep Finset.univ fun c : Fin 2 => iprop(rd A d (cShare c) ∗ bigSep Finset.univ fun i : Fin 16 => oPts d (c, i) f))
      = (iprop(rd A d fullShare ∗ tLoc d main_v5 ↦{fullShare} f) : sProp 𝕄) := by
  rw [bigSep_sep', rd_leaves A d 1 fullShare, ← BI.bigSep_univ_prod (fun p : Fin 2 × Fin 16 => (oPts d p f : sProp 𝕄)),
    ← pointsTo_biUnion Finset.univ (ℓ := tLoc d main_v5) oSet oSets_disjoint, oSets_cover]
  rfl

theorem st_eq (A : Tabs F) (d : Dev nD) :
    (bigSep Finset.univ fun c : Fin ((K (F := F)).nCore 0) => (P A).st 0 d c) = (iprop(rd A d fullShare ∗ tLoc d main_v5 ↦{fullShare} A.o0) : sProp 𝕄) :=
  (bigSep_cores (F := F) fun c => iprop(rd A d (cShare c) ∗ bigSep Finset.univ fun i : Fin 16 => oPts d (c, i) A.o0)).trans (cores_eq A d A.o0)
theorem dn_eq (A : Tabs F) (d : Dev nD) :
    (bigSep Finset.univ fun c : Fin ((K (F := F)).nCore 0) => (P A).dn 0 d c) = (iprop(rd A d fullShare ∗ tLoc d main_v5 ↦{fullShare} outOf A) : sProp 𝕄) :=
  (bigSep_cores (F := F) fun c => iprop(rd A d (cShare c) ∗ bigSep Finset.univ fun i : Fin 16 => oPts d (c, i) (outOf A))).trans (cores_eq A d (outOf A))

/-! ## The tile's own cells and buffers -/

/-- The eight cells a tile's copies count on. -/
abbrev dcell (d : Dev nD) (L : grid1.Coords) (k : Fin 8) : GSem nD τ sig := (VT d L, .dma (csem (7 + k.val) (by have := k.isLt; omega)))

theorem dcell_mem (d : Dev nD) (L : grid1.Coords) (k : Fin 8) : dcell d L k ∈ ownCells (VT d L) :=
  mem_ownCells.mpr ⟨rfl, (show ∀ k : Fin 8, (SemLoc.dma (csem (7 + k.val) (by have := k.isLt; omega)) : SemLoc sig).isScoped .scVector = true by decide) k⟩

theorem ownSems0_V (d : Dev nD) (L : grid1.Coords) :
    (ownSems0 (VT d L) : sProp 𝕄)
      = iprop(cells0 d L ∗ bigSep ((ownCells (VT d L)) \ Finset.univ.image (dcell d L)) fun g => semVal g 0) := by
  unfold SparseCore.Cfg.ownSems0
  rw [SparseCore.bigSep_sdiff_split' (t := Finset.univ.image (dcell d L)) (Finset.image_subset_iff.mpr fun k _ => dcell_mem d L k),
    SparseCore.bigSep_image_of_injOn (fun a _ b _ h => by
      have := congrArg (fun g : GSem nD τ sig => g.2) h
      simp only [SemLoc.dma.injEq, Fin.mk.injEq] at this; exact Fin.ext (by omega))]
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

abbrev pV (L : grid1.Coords) : Proc τ := Proc.scVector (cV L) (jV L)

/-- The seven buffers of the tile's own. -/
abbrev scr : Fin 7 → Ref sig .scVector := ![cc1_scratch0, cc1_scratch1, cc1_scratch2, cc1_scratch3, cc1_scratch4, cc1_scratch5, cc1_scratch6]
abbrev scrRef (L : grid1.Coords) (k : Fin 7) : DevRef τ sig := (pV L).devRef (scr k)

theorem scr_injective : Function.Injective scr := by decide
theorem scr_owner (L : grid1.Coords) (k : Fin 7) : scrRef L k ∈ ownRefs (τ := τ) (pV L) :=
  SparseCore.Cfg.mem_ownRefs_of_owner (p := pV L) (b := scrRef L k)
    (match k with | 0 => rfl | 1 => rfl | 2 => rfl | 3 => rfl | 4 => rfl | 5 => rfl | 6 => rfl)

theorem ownBufs_V (d : Dev nD) (L : grid1.Coords) :
    (ownBufs (VT d L) : sProp 𝕄)
      = iprop(((∃ f, sPts d L cc1_scratch0 f) ∗ (∃ f, sPts d L cc1_scratch1 f) ∗ (∃ f, sPts d L cc1_scratch2 f) ∗ (∃ f, sPts d L cc1_scratch3 f)
          ∗ (∃ f, sPts d L cc1_scratch4 f) ∗ (∃ f, sPts d L cc1_scratch5 f) ∗ (∃ f, sPts d L cc1_scratch6 f))
        ∗ bigSep ((ownRefs (τ := τ) (pV L)) \ Finset.univ.image (scrRef L)) fun b => iprop(∃ f, ((d, b) : Loc nD τ sig) ↦{fullShare} f)) := by
  unfold SparseCore.Cfg.ownBufs
  rw [SparseCore.bigSep_sdiff_split' (t := Finset.univ.image (scrRef L)) (Finset.image_subset_iff.mpr fun k _ => scr_owner L k),
    SparseCore.bigSep_image_of_injOn (fun a _ b _ h => scr_injective (Proc.devRef_injective _ h))]
  rw [show (Finset.univ : Finset (Fin 7)) = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-! ## The task -/

/-- A tile's task, from what `go` hands it to what `td` takes back. -/
theorem tile_body (A : Tabs F) (hA : ∀ j, (A.iv j : BitVec 32).toNat < 4096) (d : Dev nD) (p : Fin 2 × Fin 16) (hF : (K (F := F)).Facts) (q : PosShare TreeShare)
    (O : CellTallies nD τ sig (HIx 1)) (W : Waits sig (HIx 1)) (hO : ∀ g, O g none = 0) :
    iprop(levAts (K (F := F)).L (K (F := F)).lev ∗ emp ∗ (rd A d q ∗ oPts d p A.o0) ∗ scopedBufs (VT d (tile p)) ∗ scopedSems0 (VT d (tile p)) ∗ owes (VT d (tile p)) O W)
      ⊢ wp frame (wpE (defs₀ (F := F)) 𝒱₀ (VT d (tile p)) none) Set.univ
          (cc1__sc_body (tile p) (Memref.whole main_v3_scv) (Memref.isWhole_whole _) (Memref.whole main_v0_scv) (Memref.isWhole_whole _) (Memref.whole main_v2_1_scv) (Memref.isWhole_whole _) (Memref.whole main_v4_scv) (Memref.isWhole_whole _) (Memref.whole main_arg4_scv) (Memref.isWhole_whole _) (Memref.whole main_v5_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scoped0 cc1_scoped1 cc1_scoped2 cc1_scoped3 cc1_scoped4 cc1_scoped5 cc1_scoped6 cc1_scoped7)
          fun _ => iprop((rd A d q ∗ oPts d p (outOf A))
            ∗ scopedBufs (VT d (tile p)) ∗ scopedSems0 (VT d (tile p))
            ∗ ∃ W', ⌜∀ z ∈ W', z ∈ W ∨ z.2 = none ∨ z.2 = some (0 : Fin 1)⌝ ∗ owes (VT d (tile p)) O W') := by
  rw [(K (F := F)).scopedBufs_V hF d (cV (tile p)) (jV (tile p)), SparseCore.Cfg.scopedSems0_V (Val := Elt F) d (cV (tile p)) (jV (tile p)), ownSems0_V, ownBufs_V]
  iintro ⟨#Hlv, -, ⟨⟨HI, HX, HU, HW, HB⟩, HO0⟩, ⟨⟨⟨%g0, H0⟩, ⟨%g1, H1⟩, ⟨%g2, H2⟩, ⟨%g3, H3⟩, ⟨%g4, H4⟩, ⟨%g5, H5⟩, ⟨%g6, H6⟩⟩, Hbufs⟩, ⟨HC, Hsems⟩, HO⟩
  ihave Hmw := (show levAts (K (F := F)).L (K (F := F)).lev ⊢ Transfers.MayWaits (VT d (tile p)) (default : HIx 1) O from
    (K (F := F)).mayWaits_none (thr := VT d (tile p)) hO) $$ Hlv
  iapply (wp_wand_r Idealize.ShloMosaic.frame (wpE (defs₀ (F := F)) 𝒱₀ (VT d (tile p)) none) Set.univ)
  isplitl [HI HX HU HW HB HO0 H0 H1 H2 H3 H4 H5 H6 HC HO]
  · iapply (tile_run d (tile p) q O W A.iv A.x A.u A.ww A.bb hA A.o0 g0 g1 g2 g3 g4 g5 g6)
    isplitr; · iexact Hmw
    isplitl [HI]; · iexact HI
    isplitl [HX]; · iexact HX
    isplitl [HU]; · iexact HU
    isplitl [HW]; · iexact HW
    isplitl [HB]; · iexact HB
    isplitl [HO0]; · iexact HO0
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HC]; · iexact HC
    iexact HO
  iintro %_ ⟨HI, HX, HU, HW, HB, HO0, H0, H1, H2, H3, H4, H5, H6, HC, ⟨%W', HO⟩⟩
  isplitl [HI HX HU HW HB HO0]
  · isplitl [HI HX HU HW HB]
    · isplitl [HI]; · iexact HI
      isplitl [HX]; · iexact HX
      isplitl [HU]; · iexact HU
      isplitl [HW]; · iexact HW
      iexact HB
    iexact HO0
  isplitl [H0 H1 H2 H3 H4 H5 H6 Hbufs]
  · isplitr [Hbufs]
    · isplitl [H0]; · iexact H0
      isplitl [H1]; · iexact H1
      isplitl [H2]; · iexact H2
      isplitl [H3]; · iexact H3
      isplitl [H4]; · iexact H4
      isplitl [H5]; · iexact H5
      iexact H6
    iexact Hbufs
  isplitl [HC Hsems]
  · isplitl [HC]; · iexact HC
    iexact Hsems
  iexists W'; isplitr
  · ipureintro; intro z _
    rcases z.2 with _ | q
    · exact .inr (.inl rfl)
    · exact .inr (.inr (congrArg some (Subsingleton.elim q 0)))
  · iexact HO

/-! ## The obligation -/

theorem defs₀_vector (c : Fin τ.nSC) (s : Fin τ.nSub) :
    defs₀ (F := F) (.scVector c s) 1 ()
      = SparseCore.onTile hcore1 hsub1 (fun c s => cc1__sc_body (coordsV c s) (Memref.whole main_v3_scv) (Memref.isWhole_whole _) (Memref.whole main_v0_scv) (Memref.isWhole_whole _) (Memref.whole main_v2_1_scv) (Memref.isWhole_whole _) (Memref.whole main_v4_scv) (Memref.isWhole_whole _) (Memref.whole main_arg4_scv) (Memref.isWhole_whole _) (Memref.whole main_v5_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) cc1_scoped0 cc1_scoped1 cc1_scoped2 cc1_scoped3 cc1_scoped4 cc1_scoped5 cc1_scoped6 cc1_scoped7) ⟨⟩ c s := rfl

theorem tileObl (A : Tabs F) (hA : ∀ j, (A.iv j : BitVec 32).toNat < 4096) (hF : (K (F := F)).Facts) : (K (F := F)).TileObl (D (F := F)) 𝒱 (P A) v₀ 0 := by
  intro d c i O W hO _ _
  simp only [show (P A).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body A hA d (Fin.cast nCore_zero c, Fin.cast nSub_zero i) hF _ O W hO

end Cert.Proof.Verbatim

end
-- ==== Proof.Verbatim.TcBody.lean ====
/-
  The TensorCore kernel's body at a grid point, run once at a symbolic point: what it leaves in its two results' staging
  buffers, as functions of the blocks it reads.

  The counterpart of Proof/TcBody for the program with the version's own candidate for "no column".
-/
module

public import proofs.«01_k».proof.Proof.Verbatim.Setup
public import proofs.«01_k».proof.Proof.Gen.VerbatimIdeal.Skeleton
public import proofs.«01_k».proof.Proof.Gen.VerbatimIdeal.Points
public import Idealize.ShloMosaic.Lib.Pipeline.Value
public import Idealize.ShloMosaic.Lib.Pipeline.FrameBody

@[expose] public section

noncomputable section

namespace Cert.Proof.Verbatim

open Cert.VerbatimIdeal Cert.VerbatimIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)

variable {F : FTy → Type} [FloatOps F] [Named F]

local notation "𝕄" => MT nD τ sig (HIx 1) (Elt F) ℕ UU ℕ

/-! ## The body's accesses -/

abbrev rBoth : Rect S2x4096 := Rect.unit (s := S2x4096) ![0, 0] S2x4096.size inb_S2x4096_S2x4096_0_0
abbrev rRow0 : Rect S2x4096 := Rect.unit (s := S2x4096) ![0, 0] S1x4096.size inb_S2x4096_S1x4096_0_0
abbrev rRow1 : Rect S2x4096 := Rect.unit (s := S2x4096) ![1, 0] S1x4096.size inb_S2x4096_S1x4096_1_0
abbrev rCol0 : Rect S512x2 := Rect.unit (s := S512x2) ![0, 0] S512x1.size inb_S512x2_S512x1_0_0
abbrev rCol1 : Rect S512x2 := Rect.unit (s := S512x2) ![0, 1] S512x1.size inb_S512x2_S512x1_0_1
abbrev rIdx : Rect S512x8 := Rect.unit (s := S512x8) ![0, 0] S512x8.size inb_S512x8_S512x8_0_0

/-! ## What it leaves -/

/-- The distances of a block of rows to all columns, the diagonal set apart. -/
def dist0 (i : grid0.Coords) (x0 : Vec F S512x2 .f32) (x1 : Vec F S2x4096 .f32) : FVec F S512x4096 .f32 :=
  k0_pay4 i (View.ld x1 rRow0) (View.ld x1 rRow1) (View.ld x0 rCol0) (View.ld x0 rCol1)
def near0 (i : grid0.Coords) (x0 : Vec F S512x2 .f32) (x1 : Vec F S2x4096 .f32) : FVec F S512x1 .f32 :=
  k0_pay5 i (View.ld x1 rRow0) (View.ld x1 rRow1) (View.ld x0 rCol0) (View.ld x0 rCol1)
def mask0 (i : grid0.Coords) (x0 : Vec F S512x2 .f32) (x1 : Vec F S2x4096 .f32) : IVec S512x4096 1 :=
  k0_pay6 i (View.ld x1 rRow0) (View.ld x1 rRow1) (View.ld x0 rCol0) (View.ld x0 rCol1)

/-- The eight nearest columns of each row of a block. -/
def nearBlk (i : grid0.Coords) (x0 : Vec F S512x2 .f32) (x1 : Vec F S2x4096 .f32) : IVec S512x8 32 :=
  k0_pay1 k0_pay3 (near0 i x0 x1) (k0_pay9 k0_pay3 (dist0 i x0 x1) (mask0 i x0 x1) k0_pay7)
    (k0_pay11 k0_pay3 (dist0 i x0 x1) (mask0 i x0 x1) k0_pay7) (k0_pay13 k0_pay3 (dist0 i x0 x1) (mask0 i x0 x1) k0_pay7)
    (k0_pay14 k0_pay3 (dist0 i x0 x1) (mask0 i x0 x1) k0_pay7) (k0_pay15 k0_pay3 (dist0 i x0 x1) (mask0 i x0 x1) k0_pay7)

/-- The displacement of every column since the earlier observation. -/
def velBlk (x1 x2 : Vec F S2x4096 .f32) : FVec F S2x4096 .f32 := subf x1 x2

theorem hz2 : (![0, 0] : Fin 2 → Nat) = fun _ => 0 := funext fun a => by fin_cases a <;> rfl

theorem coverIdx (p0 : Vec F S512x8 .i32) (y : S512x8.Idx) :
    ∃ pc ∈ ([⟨rIdx, p0⟩] : List (View.Piece (Elt F) S512x8 .i32)), y ∈ pc.1.set :=
  View.cover_of_tiled [⟨rIdx, p0⟩] S512x8.size (by rfl) y

theorem coverVel (p0 : Vec F S2x4096 .f32) (y : S2x4096.Idx) :
    ∃ pc ∈ ([⟨rBoth, p0⟩] : List (View.Piece (Elt F) S2x4096 .f32)), y ∈ pc.1.set :=
  View.cover_of_tiled [⟨rBoth, p0⟩] S2x4096.size (by rfl) y

theorem vel_eq (x1 x2 : Vec F S2x4096 .f32) : k0_pay2 (View.ld x1 rBoth) (View.ld x2 rBoth) = velBlk x1 x2 := by
  rw [View.ld_unit_zero hz2, View.ld_unit_zero hz2]
  unfold k0_pay2 velBlk
  simp only [shapeCast_self]

/-! ## The body's triples -/

/-- At the first point the body also writes the displacements. -/
theorem tc_first (c : Dev nD) (i : grid0.Coords) (hi : k0_cond1 i = 1#1) (M1 : Memref sig .tc .vmem S512x2 .f32) (h1 : M1.IsWhole)
    (M2 : Memref sig .tc .vmem S2x4096 .f32) (h2 : M2.IsWhole) (M3 : Memref sig .tc .vmem S2x4096 .f32) (h3 : M3.IsWhole)
    (M4 : Memref sig .tc .vmem S512x8 .i32) (h4 : M4.IsWhole) (M5 : Memref sig .tc .vmem S2x4096 .f32) (h5 : M5.IsWhole)
    (x0 : Vec F S512x2 .f32) (x1 x2 : Vec F S2x4096 .f32) (Q : PUnit → sProp 𝕄) :
    iprop(owns (c : Thread nD τ) M1 fullShare x0 ∗ owns (c : Thread nD τ) M2 fullShare x1 ∗ owns (c : Thread nD τ) M3 fullShare x2
        ∗ (∃ d, owns (c : Thread nD τ) M4 fullShare d) ∗ (∃ d, owns (c : Thread nD τ) M5 fullShare d)
        ∗ (iprop(owns (c : Thread nD τ) M1 fullShare x0 ∗ owns (c : Thread nD τ) M2 fullShare x1 ∗ owns (c : Thread nD τ) M3 fullShare x2
          ∗ owns (c : Thread nD τ) M4 fullShare (nearBlk i x0 x1 : Vec F S512x8 .i32) ∗ owns (c : Thread nD τ) M5 fullShare (velBlk x1 x2)) -∗ Q ⟨⟩))
      ⊢ wp frame (wpE (defs₀ (F := F)) 𝒱₀ (c : Thread nD τ) none) Set.univ (cc0__tc_topk_verbatim_body i M1 h1 M2 h2 M3 h3 M4 h4 M5 h5) Q := by
  simp only [cc0__tc_topk_verbatim_body_eq_skeleton]; unfold cc0__tc_topk_verbatim_body_skel
  simp only [k0_part1_eq_skeleton, k0_part2_eq_skeleton]; unfold k0_part1_skel k0_part2_skel
  simp only [hi, dif_pos, bind_assoc, pure_bind]
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (coverIdx _)).trans ?_
    exact View.canon_unit_zero hz2 _ _
  iexists _; isplitr
  swap; · iexact H5
  ipureintro
  refine (View.read_writes_eq_canon _ _ _ (coverVel _)).trans ?_
  exact (View.canon_unit_zero hz2 _ _).trans (vel_eq _ _)

/-- At every later point it leaves that buffer alone. -/
theorem tc_later (c : Dev nD) (i : grid0.Coords) (hi : ¬ k0_cond1 i = 1#1) (M1 : Memref sig .tc .vmem S512x2 .f32) (h1 : M1.IsWhole)
    (M2 : Memref sig .tc .vmem S2x4096 .f32) (h2 : M2.IsWhole) (M3 : Memref sig .tc .vmem S2x4096 .f32) (h3 : M3.IsWhole)
    (M4 : Memref sig .tc .vmem S512x8 .i32) (h4 : M4.IsWhole) (M5 : Memref sig .tc .vmem S2x4096 .f32) (h5 : M5.IsWhole)
    (x0 : Vec F S512x2 .f32) (x1 : Vec F S2x4096 .f32) (Q : PUnit → sProp 𝕄) :
    iprop(owns (c : Thread nD τ) M1 fullShare x0 ∗ owns (c : Thread nD τ) M2 fullShare x1
        ∗ (∃ d, owns (c : Thread nD τ) M4 fullShare d)
        ∗ (iprop(owns (c : Thread nD τ) M1 fullShare x0 ∗ owns (c : Thread nD τ) M2 fullShare x1
          ∗ owns (c : Thread nD τ) M4 fullShare (nearBlk i x0 x1 : Vec F S512x8 .i32)) -∗ Q ⟨⟩))
      ⊢ wp frame (wpE (defs₀ (F := F)) 𝒱₀ (c : Thread nD τ) none) Set.univ (cc0__tc_topk_verbatim_body i M1 h1 M2 h2 M3 h3 M4 h4 M5 h5) Q := by
  simp only [cc0__tc_topk_verbatim_body_eq_skeleton]; unfold cc0__tc_topk_verbatim_body_skel
  simp only [k0_part1_eq_skeleton, k0_part2_eq_skeleton]; unfold k0_part1_skel k0_part2_skel
  simp only [dif_neg hi, bind_assoc, pure_bind]
  unfold owns
  iintro ⟨⟨%f1, %hf1, H1⟩, ⟨%f2, %hf2, H2⟩, ⟨%d4, %f4, -, H4⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H4
  ipureintro
  refine (View.read_writes_eq_canon _ _ _ (coverIdx _)).trans ?_
  exact View.canon_unit_zero hz2 _ _

end Cert.Proof.Verbatim

end
-- ==== Proof.Verbatim.TcRegion.lean ====
/-
  The TensorCore kernel's pipeline: its proof data at the contents it is entered from, the body obligation at a symbolic
  point, and the region as one step of @main.

  The counterpart of Proof/TcRegion for the program with the version's own candidate for "no column".
-/
module

public import proofs.«01_k».proof.Proof.Verbatim.TcBody
public import proofs.«01_k».proof.Proof.Gen.VerbatimIdeal.Launch
public import Idealize.ShloMosaic.Lib.Pipeline.RegionsLoop

@[expose] public section

noncomputable section

namespace Cert.Proof.Verbatim

open Cert.VerbatimIdeal Cert.VerbatimIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)

variable {F : FTy → Type} [FloatOps F] [Named F]

local notation "𝕄" => MT nD τ sig (HIx 1) (Elt F) ℕ UU ℕ

/-! ## The grid's points -/

theorem coord_t (t : Fin cfg0.N) : (grid0.coords t 0).val = t.val := by
  have : ∀ t : Fin grid0.N, (grid0.coords t 0).val = t.val := by decide
  exact this t

theorem cond_t (t : Fin cfg0.N) : k0_cond1 (grid0.coords t) = 1#1 ↔ t.val = 0 := by
  have : ∀ t : Fin grid0.N, k0_cond1 (grid0.coords t) = 1#1 ↔ t.val = 0 := by decide
  exact this t

theorem t_lt (t : Fin cfg0.N) : t.val < 8 := by
  have h := t.isLt
  have e : cfg0.N = 8 := N_0
  omega

/-! ## The proof data, at the contents the region is entered from -/

/-- What the TensorCore's buffers hold on each device. -/
abbrev Ent (F : FTy → Type) : Type := (c : Dev nD) → (b : Ref sig .tc) → Buf (Elt F) ((c : Thread nD τ).loc b)

variable (W : Ent F)

/-- The block of rows a point reads. -/
abbrev rows (c : Dev nD) (t : Fin cfg0.N) : Vec F S512x2 .f32 := ((cfg0.win 0).blk t).view.read (Elt F) (W c main_arg2)

/-- The pairs the core's waits record: none at a stage of the SparseCore call. -/
abbrev calm : Set (SemLoc sig × HIx 1) := {p | p.2 = none}

/-- The proof data: every input's buffer as fetched; the nearest columns' block computed at the point; the
    displacements, written at the first point, kept. -/
def dat (c : Dev nD) : Dat τ (Elt F) (HIx 1) ℕ UU ℕ cfg0 c where
  A w := W c (Pipeline.arrRef spec0 w)
  after w t := match w with
    | ⟨0, _⟩ => rows W c t
    | ⟨1, _⟩ => W c main_v0
    | ⟨2, _⟩ => W c main_v1
    | ⟨3, _⟩ => nearBlk (grid0.coords t) (rows W c t) (W c main_v0)
    | ⟨4, _⟩ => velBlk (W c main_v0) (W c main_v1)
  Φ _ := Pipeline.scopedRest (Ix := HIx 1) (Name := ℕ) (U := UU) (Lvl := ℕ) (Val := Elt F) spec0 c
  q _ := fullShare
  owed _ := (K (F := F)).Otc c 0
  recorded _ := calm

theorem after_0 (c : Dev nD) (t : Fin cfg0.N) : (dat W c).after 0 t = rows W c t := by dsimp only [dat]
theorem after_1 (c : Dev nD) (t : Fin cfg0.N) : (dat W c).after 1 t = W c main_v0 := by dsimp only [dat]
theorem after_2 (c : Dev nD) (t : Fin cfg0.N) : (dat W c).after 2 t = W c main_v1 := by dsimp only [dat]
theorem after_3 (c : Dev nD) (t : Fin cfg0.N) : (dat W c).after 3 t = nearBlk (grid0.coords t) (rows W c t) (W c main_v0) := by dsimp only [dat]
theorem after_4 (c : Dev nD) (t : Fin cfg0.N) : (dat W c).after 4 t = velBlk (W c main_v0) (W c main_v1) := by dsimp only [dat]

/-- The one block of a whole-array window is the array. -/
theorem blk_1 (t : Fin cfg0.N) (f : Vec F S2x4096 .f32) : ((cfg0.win 1).blk t).view.read (Elt F) f = f := by
  funext x
  show f ((win0_1.rect t).emb x) = f x
  refine congrArg f (funext fun a => Fin.ext ?_)
  exact (Pipeline.Window.rect_emb_val_of_index_zero win0_1 t a (by match a with | 0 => rfl | 1 => rfl) x)

theorem blk_2 (t : Fin cfg0.N) (f : Vec F S2x4096 .f32) : ((cfg0.win 2).blk t).view.read (Elt F) f = f := by
  funext x
  show f ((win0_2.rect t).emb x) = f x
  refine congrArg f (funext fun a => Fin.ext ?_)
  exact (Pipeline.Window.rect_emb_val_of_index_zero win0_2 t a (by match a with | 0 => rfl | 1 => rfl) x)

theorem before_0 (c : Dev nD) (t : Fin cfg0.N) (d) : (dat W c).before 0 t d = rows W c t := by
  rw [(dat W c).before_fetched 0 t (fetch0_0 t)]; rfl

theorem before_1 (c : Dev nD) (t : Fin cfg0.N) (d) : (dat W c).before 1 t d = W c main_v0 := by
  rw [(dat W c).before_in_eq_fetched 1 rfl (fun _ => rfl) (fun _ _ _ => rfl) (fun t => (after_1 W c t).trans (blk_1 (F := F) t (W c main_v0)).symm) t d]
  exact blk_1 (F := F) t (W c main_v0)

theorem before_2 (c : Dev nD) (t : Fin cfg0.N) (d) : (dat W c).before 2 t d = W c main_v1 := by
  rw [(dat W c).before_in_eq_fetched 2 rfl (fun _ => rfl) (fun _ _ _ => rfl) (fun t => (after_2 W c t).trans (blk_2 (F := F) t (W c main_v1)).symm) t d]
  exact blk_2 (F := F) t (W c main_v1)

theorem idle_first (t : Fin cfg0.N) (h : t.val = 0) : cfg0.idle 4 (cfg0.grid.coords t) = false := by
  show (!(k0_cond1 (grid0.coords t) == 1#1)) = false
  rw [(cond_t t).mpr h]; rfl

theorem idle_later (t : Fin cfg0.N) (h : t.val ≠ 0) : cfg0.idle 4 (cfg0.grid.coords t) = true := by
  show (!(k0_cond1 (grid0.coords t) == 1#1)) = true
  rw [beq_eq_false_iff_ne.mpr (fun e => h ((cond_t t).mp e))]; rfl

/-- The displacements stay in their buffer from the first point on. -/
theorem before_4 (c : Dev nD) : ∀ (n : ℕ) (t : Fin cfg0.N) (ht : t.val = n + 1) (d), (dat W c).before 4 t d = velBlk (W c main_v0) (W c main_v1)
  | 0, t, ht, d => by
    have hlt := t_lt t
    rw [(dat W c).before_of_pos 4 t (by omega) ((cfg0.win 4).fetch_out rfl t)]
    rw [if_neg (fun h => by have := (flush0_4 _).mp h; dsimp only at this; omega)]
    unfold Dat.left
    rw [idle_first _ (by dsimp only; omega)]
    exact after_4 W c _
  | n + 1, t, ht, d => by
    have hlt := t_lt t
    rw [(dat W c).before_of_pos 4 t (by omega) ((cfg0.win 4).fetch_out rfl t)]
    rw [if_neg (fun h => by have := (flush0_4 _).mp h; dsimp only at this; omega)]
    unfold Dat.left
    rw [idle_later _ (by dsimp only; omega)]
    exact before_4 c n _ (by dsimp only; omega) d

/-! ## The body obligation -/

/-- What the body is called with at point `t`, the windows one by one. -/
def bodyPre (c : Dev nD) (t : Fin cfg0.N) : sProp 𝕄 :=
  iprop((dat W c).Φ t.castSucc ∗ (dat W c).owesAt none t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d))
    ∗ (∃ d, owns (c : Thread nD τ) (st0_3 t) fullShare ((dat W c).before 3 t d))
    ∗ (∃ d, owns (c : Thread nD τ) (st0_4 t) fullShare ((dat W c).before 4 t d)))

/-- What it returns of the displacements' window. -/
def left4 (c : Dev nD) (t : Fin cfg0.N) : sProp 𝕄 :=
  match cfg0.idle 4 (cfg0.grid.coords t) with
  | true =>
    match (cfg0.win 4).flush t with
    | false => iprop(∃ d, owns (c : Thread nD τ) (st0_4 t) fullShare ((dat W c).before 4 t d))
    | true => owns (c : Thread nD τ) (st0_4 t) fullShare ((dat W c).after 4 t)
  | false => owns (c : Thread nD τ) (st0_4 t) fullShare ((dat W c).after 4 t)

/-- What it returns. -/
def bodyPost (c : Dev nD) (t : Fin cfg0.N) : sProp 𝕄 :=
  iprop((dat W c).Φ t.succ ∗ (dat W c).owesAt none t.succ
    ∗ owns (c : Thread nD τ) (st0_0 t) fullShare ((dat W c).after 0 t)
    ∗ owns (c : Thread nD τ) (st0_1 t) fullShare ((dat W c).after 1 t)
    ∗ owns (c : Thread nD τ) (st0_2 t) fullShare ((dat W c).after 2 t)
    ∗ owns (c : Thread nD τ) (st0_3 t) fullShare ((dat W c).after 3 t)
    ∗ left4 W c t)

theorem sound_body (c : Dev nD) (t : Fin cfg0.N) :
    bodyPre W c t ⊢ wp frame (wpE (defs₀ (F := F)) 𝒱₀ (c : Thread nD τ) none) Set.univ (bodyAt0 t) (fun _ => bodyPost W c t) := by
  unfold bodyPre bodyPost bodyAt0
  simp only [before_0, before_1, before_2]
  rw [show (dat W c).Φ t.succ = (dat W c).Φ t.castSucc from rfl,
    show (dat W c).owesAt none t.succ = (dat W c).owesAt none t.castSucc from rfl, after_0, after_1, after_2, after_3]
  by_cases h : t.val = 0
  · have e4 : left4 W c t = owns (c : Thread nD τ) (st0_4 t) fullShare (velBlk (W c main_v0) (W c main_v1)) := by
      unfold left4; rw [idle_first t h]; dsimp only; rw [after_4]
    rw [e4]
    iintro ⟨HΦ, Ho, ⟨%d0, H0⟩, ⟨%d1, H1⟩, ⟨%d2, H2⟩, ⟨%d3, H3⟩, ⟨%d4, H4⟩⟩
    iapply (tc_first c (grid0.coords t) ((cond_t t).mpr h) _ _ _ _ _ _ _ _ _ _ (rows W c t) (W c main_v0) (W c main_v1) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · obtain ⟨n, hn⟩ := Nat.exists_eq_succ_of_ne_zero h
    have e4 : owns (c : Thread nD τ) (st0_4 t) fullShare (velBlk (W c main_v0) (W c main_v1)) ⊢ left4 W c t := by
      unfold left4; rw [idle_later t h]; dsimp only
      split
      · iintro H; iexists (fun _ => Classical.arbitrary _); rw [before_4 W c n t hn]; iexact H
      · rw [after_4]
    simp only [before_4 W c n t hn]
    iintro ⟨HΦ, Ho, ⟨%d0, H0⟩, ⟨%d1, H1⟩, ⟨%d2, H2⟩, ⟨%d3, H3⟩, ⟨%d4, H4⟩⟩
    iapply (tc_later c (grid0.coords t) (fun e => h ((cond_t t).mp e)) _ _ _ _ _ _ _ _ _ _ (rows W c t) (W c main_v0) _)
    isplitl [H0]; · iexact H0
    isplitl [H1]; · iexact H1
    isplitl [H3]; · iexists _; iexact H3
    iintro ⟨H0, H1, H3⟩
    isplitl [HΦ]; · iexact HΦ
    isplitl [Ho]; · iexact Ho
    isplitl [H0]; · iexact H0
    isplitl [H1]; · iexact H1
    isplitl [H2]; · iexact H2
    isplitl [H3]; · iexact H3
    iapply e4; iexact H4

/-- The body table's row at point `t`'s slots is the body as `bodyAt0` spells it. -/
theorem defs₀_row (t : Fin cfg0.N) :
    defs₀ (F := F) .tc cfg0.body (cfg0.bodyArgs t (cfg0.slots t)) = bodyAt0 t := rfl

theorem body_obligation (c : Dev nD) : BodyObligation (dat W c) (defs₀ (F := F)) 𝒱₀ none Set.univ := fun t => by
  rw [bigSep_W0, bigSep_W0, defs₀_row]
  exact triple_restated (sound_body W c t) rfl .rfl fun _ => .rfl

/-! ## What the region leaves in its arrays -/

/-- The point that computes a row. -/
def ptOf (z : S4096x8.Idx) : Fin cfg0.N := ⟨(z 0).val / 512, by
  have h : (z 0).val < 4096 := (z 0).isLt
  have e : cfg0.N = 8 := N_0
  omega⟩

/-- A row's place in its block. -/
def inBlk (z : S4096x8.Idx) : S512x8.Idx := fun | 0 => ⟨(z 0).val % 512, Nat.mod_lt _ (by decide)⟩ | 1 => z 1

/-- Every row's eight nearest columns. -/
def nearArr (c : Dev nD) : Vec F S4096x8 .i32 := fun z => nearBlk (grid0.coords (ptOf z)) (rows W c (ptOf z)) (W c main_v0) (inBlk z)

theorem index_3 (t : Fin cfg0.N) : win0_3.index t 0 = t.val ∧ win0_3.index t 1 = 0 := by
  have : ∀ t : Fin grid0.N, win0_3.index t 0 = t.val ∧ win0_3.index t 1 = 0 := by decide
  exact this t

theorem emb_3 (t : Fin cfg0.N) (y : S512x8.Idx) : ((win0_3.rect t).emb y 0).val = 512 * t.val + (y 0).val ∧ ((win0_3.rect t).emb y 1).val = (y 1).val := by
  refine ⟨?_, ?_⟩
  · refine (Pipeline.Window.rect_emb_val win0_3 t y 0).trans ?_
    rw [(index_3 t).1]
    show t.val * 512 + (y 0).val = _
    omega
  · refine (Pipeline.Window.rect_emb_val win0_3 t y 1).trans ?_
    rw [(index_3 t).2]
    show 0 * 8 + (y 1).val = _
    omega

theorem arr_3 (c : Dev nD) : (dat W c).arrAt 3 cfg0.N = nearArr W c := by
  refine (dat W c).arrAt_eq_of_cover 3 (nearArr W c) (fun t _ => ?_) (fun z => ⟨ptOf z, flush0_3 _, ?_⟩)
  · show (dat W c).after 3 t = _
    rw [after_3]
    funext y
    have hy : (y 0).val < 512 := (y 0).isLt
    obtain ⟨e0, e1⟩ := emb_3 t y
    show _ = nearArr W c ((win0_3.rect t).emb y)
    have ep : ptOf ((win0_3.rect t).emb y) = t := Fin.ext (by show ((win0_3.rect t).emb y 0).val / 512 = t.val; rw [e0]; omega)
    have eb : inBlk ((win0_3.rect t).emb y) = y := by
      funext a
      match a with
      | 0 => exact Fin.ext (by show ((win0_3.rect t).emb y 0).val % 512 = (y 0).val; rw [e0]; omega)
      | 1 => exact Fin.ext e1
    unfold nearArr
    rw [ep, eb]
  · show z ∈ ((View.whole main_v2_0).slice (win0_3.rect (ptOf z))).set
    rw [View.set_slice_whole, Rect.mem_set_unit]
    have h0 : (z 0).val < 4096 := (z 0).isLt
    have h1 : (z 1).val < 8 := (z 1).isLt
    intro a
    match a with
    | 0 =>
      show win0_3.index (ptOf z) 0 * 512 ≤ (z 0).val ∧ (z 0).val < win0_3.index (ptOf z) 0 * 512 + 512
      rw [(index_3 _).1]; show (z 0).val / 512 * 512 ≤ (z 0).val ∧ (z 0).val < (z 0).val / 512 * 512 + 512; omega
    | 1 =>
      show win0_3.index (ptOf z) 1 * 8 ≤ (z 1).val ∧ (z 1).val < win0_3.index (ptOf z) 1 * 8 + 8
      rw [(index_3 _).2]; omega

theorem emb_4 (t : Fin cfg0.N) (y : S2x4096.Idx) : (win0_4.rect t).emb y = y := by
  funext a
  exact Fin.ext (Pipeline.Window.rect_emb_val_of_index_zero win0_4 t a (by match a with | 0 => rfl | 1 => rfl) y)

/-- Reading the whole array by window 4's block changes nothing. -/
theorem read_4 (t : Fin cfg0.N) (G : Vec F S2x4096 .f32) : ((View.whole main_v2_1).slice (win0_4.rect t)).read (Elt F) G = G := by
  funext y
  show G ((win0_4.rect t).emb y) = G y
  rw [emb_4]

theorem arr_4 (c : Dev nD) : (dat W c).arrAt 4 cfg0.N = (velBlk (W c main_v0) (W c main_v1) : Vec F S2x4096 .f32) := by
  refine (dat W c).arrAt_eq_of_cover 4 (velBlk (W c main_v0) (W c main_v1) : Vec F S2x4096 .f32) (fun t _ => ?_) (fun z => ⟨t0_7, (flush0_4 _).mpr rfl, ?_⟩)
  · show (dat W c).after 4 t = _
    rw [after_4]
    exact (read_4 t (velBlk (W c main_v0) (W c main_v1))).symm
  · show z ∈ ((View.whole main_v2_1).slice (win0_4.rect t0_7)).set
    rw [View.set_slice_whole, Rect.mem_set_unit]
    have h0 : (z 0).val < 2 := (z 0).isLt
    have h1 : (z 1).val < 4096 := (z 1).isLt
    intro a
    match a with
    | 0 => exact ⟨Nat.zero_le _, by show (z 0).val < 0 + 2; omega⟩
    | 1 => exact ⟨Nat.zero_le _, by show (z 1).val < 0 + 4096; omega⟩

/-! ## The region -/

abbrev adm0 : (p : Fin 1) → (pcfgs (F := F) p).Adm := fun p => (cfgs p).toPCfg_adm

def pdats : (p : Fin 1) → (c : Dev nD) → Dat τ (Elt F) (HIx 1) ℕ UU ℕ (Pipeline.pin (pcfgs (F := F)) adm0 p) c
  | ⟨0, _⟩ => dat W

/-- The core's debts and waits between the host's steps: it owes the SparseCore call's start, and has waited at no
    stage of the call. -/
def calmOwes (c : Dev nD) : sProp 𝕄 := iprop(∃ Wt, ⌜∀ p ∈ Wt, p.2 = none⌝ ∗ owes (c : Thread nD τ) ((K (F := F)).Otc c 0) Wt)

theorem Otc_pos (c : Dev nD) (g : GSem nD τ sig) (i : HIx 1) (h : 0 < (K (F := F)).Otc c 0 g i) :
    i ∈ (K (F := F)).L g ∧ 0 < (K (F := F)).lev g i := by
  refine ⟨Finset.mem_univ _, ?_⟩
  have := SparseCore.Cfg.lev_of_Otc_pos h
  omega

variable (W' : Ent F)

-- the entry's and exit's lemmas are stated at the pinned configuration, whose types unify with these only by unfolding
set_option backward.isDefEq.respectTransparency.types false in
def reg (h0 : ∀ c, W' c main_v2_0 = nearArr W c) (h1 : ∀ c, W' c main_v2_1 = (velBlk (W c main_v0) (W c main_v1) : Vec F S2x4096 .f32))
    (hne : ∀ c (b : Ref sig .tc), b ≠ main_v2_0 → b ≠ main_v2_1 → W' c b = W c b) :
    Pipeline.RegionSeg (pcfgs (F := F)) adm0 (pdats W) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation W c).loose
  hwaits c := Pipeline.cellsWaits_of_cut (Pipeline.pin (pcfgs (F := F)) adm0) (pdats W) none 0 c 0 ((K (F := F)).Otc c 0) (fun _ => rfl)
    (fun _ _ => Finset.mem_univ _) (fun _ _ => le_rfl) (Otc_pos c)
  pre c := iprop(unscopedBufs c (W c) ∗ calmOwes c)
  post c := iprop(unscopedBufs c (W' c) ∗ calmOwes c)
  X _ := BI.emp
  Y _ := BI.emp
  Z c := Pipeline.unscopedRest (Ix := HIx 1) (Name := ℕ) (U := UU) (Lvl := ℕ) spec0 c (W c)
  hentry c := by
    rw [Pipeline.ownSems0_none]
    have hsplit := Pipeline.arrays_of_unscopedBufs (p := 0) (pcfgs (F := F)) adm0 (pdats W) launch0.win launch0.arr_whole c
      ((pdats W 0 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold calmOwes Pipeline.Dat.owesAt Pipeline.owesWithin
      icases HO with ⟨%Wt, %hW, HO⟩; iexists Wt; isplitr; · ipureintro; exact fun p hp => Or.inl (hW p hp)
      iexact HO
    isplitr; · iempintro
    iexact Hrest
  hin c := by
    rw [show (pdats W 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats W 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm0 (Ix := HIx 1) (Name := ℕ) (U := UU) (Lvl := ℕ) launch0.win launch0.arr_whole c
      (pdats W) ((pdats W 0 c).share_full fun _ => rfl) (W c) (W' c) ((pdats W 0 c).arrAt · cfg0.N)
      (fun w => by
        match w with
        | ⟨0, _⟩ => exact ((pdats W 0 c).arrAt_in 0 rfl _).trans (hne c main_arg2 (by decide) (by decide)).symm
        | ⟨1, _⟩ => exact ((pdats W 0 c).arrAt_in 1 rfl _).trans (hne c main_v0 (by decide) (by decide)).symm
        | ⟨2, _⟩ => exact ((pdats W 0 c).arrAt_in 2 rfl _).trans (hne c main_v1 (by decide) (by decide)).symm
        | ⟨3, _⟩ => exact (arr_3 W c).trans (h0 c).symm
        | ⟨4, _⟩ => exact (arr_4 W c).trans (h1 c).symm)
      (fun b hb => hne c b (fun h => hb (h ▸ Finset.mem_image.mpr ⟨3, Finset.mem_univ _, rfl⟩)) (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    unfold calmOwes Pipeline.Dat.owesAt Pipeline.owesWithin
    icases HO with ⟨%Wt, %hW, HO⟩; iexists Wt; isplitr
    · ipureintro; intro p hp
      rcases hW hp with h | ⟨w, s, rfl⟩
      · exact h
      · rfl
    iexact HO

end Cert.Proof.Verbatim

end
-- ==== Proof.Verbatim.Launch.lean ====
/-
  The launch: @main's run on the TensorCore — the two transposes, the nearest-neighbour kernel, the two reshapes, the
  SparseCore call —, and the whole program's run, with what its result holds.

  The counterpart of Proof/Launch for the program with the version's own candidate for "no column".
-/
module

public import proofs.«01_k».proof.Proof.Verbatim.Obl
public import proofs.«01_k».proof.Proof.Verbatim.TcRegion
public import Idealize.ShloMosaic.Lib.Pipeline.Frame

@[expose] public section

noncomputable section

namespace Cert.Proof.Verbatim

open Cert.VerbatimIdeal Cert.VerbatimIdeal.Gen

open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The host's steps -/

/-- A host array, as a buffer of the device. -/
abbrev r' (b : Ref sig .tc) : DevRef τ sig := Proc.devRef .tc b

abbrev opT0 : HloOp τ sig (Elt F) := StableHlo.unary main_arg2 main_v0 ((transpose S2x4096 [1, 0] · transposes_S4096x2_S2x4096_1_0) : (⟨S4096x2, .f32⟩ : BufTy).Contents (Elt F) → (⟨S2x4096, .f32⟩ : BufTy).Contents (Elt F))
abbrev opT1 : HloOp τ sig (Elt F) := StableHlo.unary main_arg1 main_v1 ((transpose S2x4096 [1, 0] · transposes_S4096x2_S2x4096_1_0) : (⟨S4096x2, .f32⟩ : BufTy).Contents (Elt F) → (⟨S2x4096, .f32⟩ : BufTy).Contents (Elt F))
abbrev opR0 : HloOp τ sig (Elt F) := StableHlo.reshape main_v2_0 main_v3 (rfl : (.i32 : EltTy) = .i32) shapeCasts_S4096x8_S32768
abbrev opR1 : HloOp τ sig (Elt F) := StableHlo.reshape main_arg3 main_v4 (rfl : (.f32 : EltTy) = .f32) shapeCasts_S6x8_S48

variable (m : (ℓ : Loc nD τ sig) → Buf (Elt F) ℓ)

/-- The arrays at launch, before the TensorCore kernel, after it, and before the SparseCore call. -/
def V0 (d : Dev nD) : Valuation τ sig (Elt F) := fun b => m (d, b)
def V1 (d : Dev nD) : Valuation τ sig (Elt F) := opT1.result (opT0.result (V0 m d))
def ent (d : Dev nD) (b : Ref sig .tc) : Buf (Elt F) ((d.tc : Thread nD τ).loc b) := V1 m d (r' b)
def V2 (d : Dev nD) : Valuation τ sig (Elt F) :=
  Function.update (Function.update (V1 m d) (r' main_v2_0) (nearArr (ent m) d)) (r' main_v2_1) (velBlk (ent m d main_v0) (ent m d main_v1) : Vec F S2x4096 .f32)
def V3 (d : Dev nD) : Valuation τ sig (Elt F) := opR1.result (opR0.result (V2 m d))

theorem V1_of (d : Dev nD) (b : Ref sig .tc) (h0 : b ≠ main_v0) (h1 : b ≠ main_v1) : V1 m d (r' b) = m (tLoc d b) := by
  unfold V1
  rw [opT1.result_of_not_mem _ (b := r' b) (fun h => h1 (Proc.devRef_injective _ (Finset.mem_singleton.mp h))),
    opT0.result_of_not_mem _ (b := r' b) (fun h => h0 (Proc.devRef_injective _ (Finset.mem_singleton.mp h)))]
  rfl

theorem V2_of (d : Dev nD) (b : Ref sig .tc) (h0 : b ≠ main_v2_0) (h1 : b ≠ main_v2_1) : V2 m d (r' b) = V1 m d (r' b) := by
  unfold V2
  rw [Function.update_of_ne (fun h => h1 (Proc.devRef_injective _ h)), Function.update_of_ne (fun h => h0 (Proc.devRef_injective _ h))]

theorem V3_of (d : Dev nD) (b : Ref sig .tc) (h0 : b ≠ main_v3) (h1 : b ≠ main_v4) : V3 m d (r' b) = V2 m d (r' b) := by
  unfold V3
  rw [opR1.result_of_not_mem _ (b := r' b) (fun h => h1 (Proc.devRef_injective _ (Finset.mem_singleton.mp h))),
    opR0.result_of_not_mem _ (b := r' b) (fun h => h0 (Proc.devRef_injective _ (Finset.mem_singleton.mp h)))]

/-- The observations, transposed, as the program's own step writes them. -/
abbrev tr (x : Vec F S4096x2 .f32) : Vec F S2x4096 .f32 := transpose S2x4096 [1, 0] x transposes_S4096x2_S2x4096_1_0

theorem V1_v0 (d : Dev nD) : V1 m d (r' main_v0) = tr (m (tLoc d main_arg2)) := by
  unfold V1
  rw [opT1.result_of_not_mem _ (b := r' main_v0) (fun h => absurd (Proc.devRef_injective _ (Finset.mem_singleton.mp h)) (by decide))]
  exact StableHlo.unary_result _ _ _ _ _ _
theorem V1_v1 (d : Dev nD) : V1 m d (r' main_v1) = tr (m (tLoc d main_arg1)) := by
  unfold V1
  refine (StableHlo.unary_result _ _ _ _ _ _).trans ?_
  rw [opT0.result_of_not_mem _ (b := r' main_arg1) (fun h => absurd (Proc.devRef_injective _ (Finset.mem_singleton.mp h)) (by decide))]
  rfl

/-- What the SparseCore call reads. -/
def tabs (d : Dev nD) : Tabs F where
  iv := V3 m d (r' main_v3)
  x := V3 m d (r' main_v0)
  u := V3 m d (r' main_v2_1)
  ww := V3 m d (r' main_v4)
  bb := V3 m d (r' main_arg4)
  o0 := V3 m d (r' main_v5)

theorem tabs_iv (d : Dev nD) : (tabs m d).iv = (shapeCast S32768 (nearArr (ent m) d) shapeCasts_S4096x8_S32768 : Vec F S32768 .i32) := by
  show V3 m d (r' main_v3) = _
  unfold V3
  rw [opR1.result_of_not_mem _ (b := r' main_v3) (fun h => absurd (Proc.devRef_injective _ (Finset.mem_singleton.mp h)) (by decide))]
  refine (StableHlo.reshape_result _ _ _ _ _ _ _).trans ?_
  unfold V2
  rw [Function.update_of_ne (by decide), Function.update_self]
  rfl
theorem tabs_x (d : Dev nD) : (tabs m d).x = tr (m (tLoc d main_arg2)) :=
  (V3_of m d main_v0 (by decide) (by decide)).trans ((V2_of m d main_v0 (by decide) (by decide)).trans (V1_v0 m d))
theorem tabs_u (d : Dev nD) : (tabs m d).u = velBlk (tr (m (tLoc d main_arg2))) (tr (m (tLoc d main_arg1))) := by
  refine (V3_of m d main_v2_1 (by decide) (by decide)).trans ?_
  unfold V2
  rw [Function.update_self]
  show velBlk (V1 m d (r' main_v0)) (V1 m d (r' main_v1)) = _
  rw [V1_v0, V1_v1]
theorem tabs_ww (d : Dev nD) : (tabs m d).ww = (shapeCast S48 (m (tLoc d main_arg3)) shapeCasts_S6x8_S48 : Vec F S48 .f32) := by
  show V3 m d (r' main_v4) = _
  unfold V3
  refine (StableHlo.reshape_result _ _ _ _ _ _ _).trans ?_
  rw [opR0.result_of_not_mem _ (b := r' main_arg3) (fun h => absurd (Proc.devRef_injective _ (Finset.mem_singleton.mp h)) (by decide)), V2_of m d main_arg3 (by decide) (by decide), V1_of m d main_arg3 (by decide) (by decide)]
  rfl
theorem tabs_bb (d : Dev nD) : (tabs m d).bb = m (tLoc d main_arg4) :=
  (V3_of m d main_arg4 (by decide) (by decide)).trans ((V2_of m d main_arg4 (by decide) (by decide)).trans (V1_of m d main_arg4 (by decide) (by decide)))

theorem V3_arg (d : Dev nD) (b : Ref sig .tc) (h : b ∈ ({main_arg0, main_arg1, main_arg2, main_arg3, main_arg4} : Finset (Ref sig .tc))) : V3 m d (r' b) = m (tLoc d b) := by
  have hb : ∀ b ∈ ({main_arg0, main_arg1, main_arg2, main_arg3, main_arg4} : Finset (Ref sig .tc)),
      b ≠ main_v0 ∧ b ≠ main_v1 ∧ b ≠ main_v2_0 ∧ b ≠ main_v2_1 ∧ b ≠ main_v3 ∧ b ≠ main_v4 := by decide
  obtain ⟨a0, a1, a2, a3, a4, a5⟩ := hb b h
  rw [V3_of m d b a4 a5, V2_of m d b a2 a3, V1_of m d b a0 a1]

/-! ## The certificate's ghost state at launch -/

/-- The handshakes' rounds, the pipeline's rounds, no counter. -/
def u₀ (F : FTy → Type) : UU := (initOf (K (F := F)).hsCells (K (F := F)).hsToks, (initOf (Pipeline.cells cfgs cellOf_inj) (Pipeline.launchToks cfgs cellOf_inj), 1))

/-- What a device's TensorCore is dealt of the pipeline's rounds. -/
abbrev g (d : Dev nD) : sProp 𝕄 := iprop(Pipeline.cellsGhost (Pipeline.pin (pcfgs (F := F)) adm0) EP 0 d ∗ Pipeline.toksInit (Pipeline.pin (pcfgs (F := F)) adm0) EP 0 d)

theorem bigSep_emp' {I : Type} (s : Finset I) : (bigSep s fun _ => iprop(emp)) = (iprop(emp) : sProp 𝕄) := bigSep_emp_const s

theorem deal : (iprop((bigSep Finset.univ fun c : Dev nD => bigSep Finset.univ fun p => Pipeline.cellsGhost cfgs EP p c)
      ∗ (bigSep Finset.univ fun c : Dev nD => bigSep Finset.univ fun p => Pipeline.toksInit cfgs EP p c)) : sProp 𝕄)
    = bigSep Finset.univ fun d : Dev nD => (g d : sProp 𝕄) := by
  rw [← bigSep_sep']
  refine bigSep_congr fun d _ => ?_
  rw [bigSep_univ_of_subsingleton (0 : Fin 1), bigSep_univ_of_subsingleton (0 : Fin 1)]

theorem hu₀ (A : Tabs F) : (ownU (u₀ F) : sProp 𝕄)
    ⊢ |={Set.univ}=> iprop(BI.own (EH (initOf (K (F := F)).hsCells (K (F := F)).hsToks)) ∗ (bigSep Finset.univ fun d : Dev nD => (g d : sProp 𝕄))
        ∗ bigSep Finset.univ fun thr : Thread nD τ => bigSep Finset.univ fun q : Fin 1 => (P A).x q thr) := by
  unfold u₀
  iintro Hu
  ihave H := (ownU_pair (initOf (K (F := F)).hsCells (K (F := F)).hsToks) (initOf (Pipeline.cells cfgs cellOf_inj) (Pipeline.launchToks cfgs cellOf_inj), (1 : Counters))) $$ Hu
  icases H with ⟨HH, HR⟩
  ihave H := (own_pair_emb embR (initOf (Pipeline.cells cfgs cellOf_inj) (Pipeline.launchToks cfgs cellOf_inj)) (1 : Counters)) $$ HR
  icases H with ⟨HP, -⟩
  imod (Pipeline.fund_ghost cfgs EP cellOf_inj) $$ HP with ⟨Hg, Ht⟩
  imodintro
  isplitl [HH]; · iexact HH
  isplitl [Hg Ht]
  · iapply (Entails.of_eq deal)
    isplitl [Hg]; · iexact Hg
    iexact Ht
  rw [show (bigSep Finset.univ fun thr : Thread nD τ => bigSep Finset.univ fun q : Fin 1 => (P A).x q thr) = bigSep Finset.univ fun _ => iprop(emp) from
    bigSep_congr fun _ _ => bigSep_univ_of_subsingleton (0 : Fin 1), bigSep_emp']
  iempintro

/-! ## @main on the TensorCore -/

/-- The host's arrays, one by one. -/
theorem unscopedBufs_eq (d : Dev nD) (W : (b : Ref sig .tc) → Buf (Elt F) ((d.tc : Thread nD τ).loc b)) :
    (unscopedBufs d W : sProp 𝕄) = iprop((tLoc d main_arg0 ↦{fullShare} W main_arg0) ∗ (tLoc d main_arg1 ↦{fullShare} W main_arg1) ∗ (tLoc d main_arg2 ↦{fullShare} W main_arg2)
      ∗ (tLoc d main_arg3 ↦{fullShare} W main_arg3) ∗ (tLoc d main_arg4 ↦{fullShare} W main_arg4) ∗ (tLoc d main_v0 ↦{fullShare} W main_v0) ∗ (tLoc d main_v1 ↦{fullShare} W main_v1)
      ∗ (tLoc d main_v2_0 ↦{fullShare} W main_v2_0) ∗ (tLoc d main_v2_1 ↦{fullShare} W main_v2_1) ∗ (tLoc d main_v3 ↦{fullShare} W main_v3) ∗ (tLoc d main_v4 ↦{fullShare} W main_v4)
      ∗ tLoc d main_v5 ↦{fullShare} W main_v5) := by
  unfold unscopedBufs
  rw [show (Finset.univ.filter fun b : Ref sig .tc => ¬ b.isScoped) = {main_arg0, main_arg1, main_arg2, main_arg3, main_arg4, main_v0, main_v1, main_v2_0, main_v2_1, main_v3, main_v4, main_v5} by decide]
  repeat rw [SparseCore.bigSep_insert' (by decide)]
  rw [bigSep_singleton]

/-- The arrays held at a valuation are the launch's unscoped buffers at it. -/
theorem held_eq (d : Dev nD) (W : Valuation τ sig (Elt F)) :
    (held (SparseCore.T d : Thread nD τ) (Pipeline.ucRefs τ sig) W : sProp 𝕄) = unscopedBufs d (fun b => W (r' b)) :=
  (Pipeline.unscopedBufs_held d W).symm

theorem sub_of {b : Ref sig .tc} (h : b.isScoped = false) : r' b ∈ Pipeline.ucRefs τ sig :=
  Finset.mem_filter.mpr ⟨Finset.mem_map.mpr ⟨b, Finset.mem_univ _, rfl⟩, by
    show ¬ (r' b).isScoped = true
    rw [show (r' b).isScoped = b.isScoped from rfl, h]; decide⟩

theorem bufs_T0 : (opT0 (F := F)).bufs ⊆ Pipeline.ucRefs τ sig := by
  intro b hb
  rcases Finset.mem_insert.mp hb with rfl | hb
  · exact sub_of rfl
  · rw [Finset.mem_singleton.mp hb]; exact sub_of rfl
theorem bufs_T1 : (opT1 (F := F)).bufs ⊆ Pipeline.ucRefs τ sig := by
  intro b hb
  rcases Finset.mem_insert.mp hb with rfl | hb
  · exact sub_of rfl
  · rw [Finset.mem_singleton.mp hb]; exact sub_of rfl
theorem bufs_R0 : (opR0 (F := F)).bufs ⊆ Pipeline.ucRefs τ sig := by
  intro b hb
  rcases Finset.mem_insert.mp hb with rfl | hb
  · exact sub_of rfl
  · rw [Finset.mem_singleton.mp hb]; exact sub_of rfl
theorem bufs_R1 : (opR1 (F := F)).bufs ⊆ Pipeline.ucRefs τ sig := by
  intro b hb
  rcases Finset.mem_insert.mp hb with rfl | hb
  · exact sub_of rfl
  · rw [Finset.mem_singleton.mp hb]; exact sub_of rfl

/-- What @main leaves the claim: the arguments at their launch contents, the result at what the tables give. -/
def FIN (d : Dev nD) : sProp 𝕄 :=
  iprop((tLoc d main_arg0 ↦{fullShare} m (tLoc d main_arg0)) ∗ (tLoc d main_arg1 ↦{fullShare} m (tLoc d main_arg1)) ∗ (tLoc d main_arg2 ↦{fullShare} m (tLoc d main_arg2))
    ∗ (tLoc d main_arg3 ↦{fullShare} m (tLoc d main_arg3)) ∗ (tLoc d main_arg4 ↦{fullShare} m (tLoc d main_arg4)) ∗ tLoc d main_v5 ↦{fullShare} outOf (tabs m d))

/-- The TensorCore kernel's region as a step of @main: from the arrays at `V1` to the arrays at `V2`. -/
def theReg : Pipeline.RegionSeg (pcfgs (F := F)) adm0 (pdats (ent m)) none defs₀ 𝒱₀ (K (F := F)).L (K (F := F)).lev 0 :=
  reg (ent m) (fun d b => V2 m d (r' b))
    (fun c => by
      show V2 m c (r' main_v2_0) = _
      unfold V2
      rw [Function.update_of_ne (by decide), Function.update_self])
    (fun c => by
      show V2 m c (r' main_v2_1) = _
      unfold V2
      rw [Function.update_self])
    (fun c b h0 h1 => V2_of m c b h0 h1)

variable (A : Tabs F)

/-- The region as a step under the whole program's body table. -/
theorem region_step (d : Dev nD) (Q : PUnit → sProp 𝕄) :
    iprop((iprop(boundary (d.tc : Thread nD τ) ∗ unscopedBufs d (fun b => V2 m d (r' b)) ∗ calmOwes d) -∗ Q ⟨⟩)
        ∗ boundary (d.tc : Thread nD τ) ∗ (unscopedBufs d (ent m d) ∗ calmOwes d) ∗ levAts (K (F := F)).L (K (F := F)).lev ∗ g d)
      ⊢ wp frame (wpE ((K (F := F)).defs (D (F := F))) 𝒱 (SparseCore.T d) none) Set.univ (Prog.lift (.customCall (SparseCore.inner (Pipeline.entry 0)) ())) Q := by
  rw [show (Prog.lift (.customCall (SparseCore.inner (Pipeline.entry 0)) ()) : Prog (TpuEff nD τ sig (Elt F) (SparseCore.Sig (ΛP (F := F)) 1) .tc) PUnit)
    = SparseCore.liftProg (.op (.customCall (Pipeline.entry 0) ()) fun x => .ret x) from rfl]
  refine BI.Entails.trans ?_ ((K (F := F)).wp_liftProg (D (F := F)) 𝒱 (SparseCore.T d) Set.univ none (.op (.customCall (Pipeline.entry 0) ()) fun x => .ret x) Q)
  refine BI.Entails.trans ?_ (Pipeline.RegionSeg.wp (pcfgs (F := F)) adm0 (pdats (ent m)) none cellOf_inj EP defs₀ 𝒱₀ (K (F := F)).L (K (F := F)).lev (theReg m) d none
    (fun u hu => nomatch hu) (fun x => .ret x) Q)
  show (_ : sProp 𝕄) ⊢ _
  iintro ⟨HQ, Hb, Hpre, Hlev, Hg, Ht⟩
  isplitl [HQ]
  · iintro H
    rw [wp_ret]; imodintro
    iapply HQ
    icases H with ⟨Hb, Hpost⟩
    isplitl [Hb]; · iexact Hb
    iapply (Entails.of_eq (show (theReg m).post d = iprop(unscopedBufs d (fun b => V2 m d (r' b)) ∗ calmOwes d) from rfl)); iexact Hpost
  isplitl [Hb]; · iexact Hb
  isplitl [Hpre]
  · iapply (Entails.of_eq (show iprop(unscopedBufs d (ent m d) ∗ calmOwes d) = (theReg m).pre d from rfl)); iexact Hpre
  isplitl [Hlev]; · iexact Hlev
  isplitl [Hg]; · iexact Hg
  iexact Ht

/-- The TensorCore's state before the call holds the core's debts at no wait of the call, and takes them back. -/
theorem tcSt_calm (d : Dev nD) : ((K (F := F)).tcSt EH d 0 : sProp 𝕄) ⊢ iprop(calmOwes d ∗ (calmOwes d -∗ (K (F := F)).tcSt EH d 0)) := by
  unfold SparseCore.Cfg.tcSt calmOwes
  iintro ⟨⟨%Wt, %hW, HO⟩, Hrest⟩
  isplitl [HO]
  · iexists Wt
    isplitr
    · ipureintro
      intro p hp
      match hp2 : p.2 with
      | none => rfl
      | some q =>
        have h : (K (F := F)).lev ((SparseCore.T d : Thread nD τ), p.1) p.2 ≤ 0 := hW p hp
        rw [hp2] at h
        have := (K (F := F)).lev_some_pos ((SparseCore.T d : Thread nD τ), p.1) q
        omega
    iexact HO
  iintro ⟨%Wt', %hW', HO⟩
  isplitl [HO]
  · iexists Wt'
    isplitr
    · ipureintro
      intro p hp
      rw [hW' p hp, SparseCore.Cfg.lev_none]
      exact Nat.zero_le _
    iexact HO
  iexact Hrest

variable (ρ : Dev nD → PrngReg)

/-- @main on device `d`'s TensorCore. -/
theorem hmain (κ : GSem nD τ sig → ℕ) (d : Dev nD) :
    iprop((K (F := F)).ctx EH (P (tabs m d)) κ ∗ (K (F := F)).tcSt EH d 0 ∗ (K (F := F)).tcRes m ρ d ∗ g d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d : Thread nD τ) (Pipeline.ucRefs τ sig) (V0 m d) from (held_eq d (V0 m d)).symm]
  simp only [main, wp_bind, wp_pure]
  iintro ⟨#Hctx, Hst, ⟨Hb, Hheld, Hts, -⟩, Hg⟩
  iapply (wp_hlo_within 𝒱 (SparseCore.T d) none Set.univ (op := opT0) (S := Pipeline.ucRefs τ sig) bufs_T0 (V := V0 m d)) $$ [Hb Hheld]
  · isplitl [Hb] <;> iassumption
  iintro ⟨Hb, Hheld⟩
  rw [wp_ret]; imodintro
  iapply (wp_hlo_within 𝒱 (SparseCore.T d) none Set.univ (op := opT1) (S := Pipeline.ucRefs τ sig) bufs_T1 (V := opT0.result (V0 m d))) $$ [Hb Hheld]
  · isplitl [Hb] <;> iassumption
  iintro ⟨Hb, Hheld⟩
  rw [wp_ret]; imodintro
  ihave Hub := (Entails.of_eq (show (held (SparseCore.T d : Thread nD τ) (Pipeline.ucRefs τ sig) (opT1.result (opT0.result (V0 m d))) : sProp 𝕄) = unscopedBufs d (ent m d)
    from held_eq d (V1 m d))) $$ Hheld
  ihave H := (tcSt_calm d) $$ Hst
  icases H with ⟨HO, Hback⟩
  ihave Hlev := ((K (F := F)).ctx_levAts κ) $$ Hctx
  iapply (region_step m d)
  isplitr [Hb Hub HO Hlev Hg]
  swap
  · isplitl [Hb]; · iexact Hb
    isplitl [Hub HO]; · isplitl [Hub] <;> iassumption
    isplitl [Hlev]; · iexact Hlev
    iexact Hg
  iintro ⟨Hb, Hub, HO⟩
  ihave Hst := Hback $$ HO
  ihave Hheld := (Entails.of_eq (held_eq d (V2 m d)).symm) $$ Hub
  iapply (wp_hlo_within 𝒱 (SparseCore.T d) none Set.univ (op := opR0) (S := Pipeline.ucRefs τ sig) bufs_R0 (V := V2 m d)) $$ [Hb Hheld]
  · isplitl [Hb] <;> iassumption
  iintro ⟨Hb, Hheld⟩
  rw [wp_ret]; imodintro
  iapply (wp_hlo_within 𝒱 (SparseCore.T d) none Set.univ (op := opR1) (S := Pipeline.ucRefs τ sig) bufs_R1 (V := opR0.result (V2 m d))) $$ [Hb Hheld]
  · isplitl [Hb] <;> iassumption
  iintro ⟨Hb, Hheld⟩
  rw [wp_ret]; imodintro
  ihave Hub := (Entails.of_eq (show (held (SparseCore.T d : Thread nD τ) (Pipeline.ucRefs τ sig) (opR1.result (opR0.result (V2 m d))) : sProp 𝕄) = _
    from (held_eq d (V3 m d)).trans (unscopedBufs_eq d _))) $$ Hheld
  icases Hub with ⟨H0, H1, H2, H3, H4, Hx, -, -, Hu, Hi, Hw, Ho⟩
  iapply ((K (F := F)).wp_run (D (F := F)) 𝒱 (EH := EH) (P := P (tabs m d)) κ d 0) $$ [Hst H0 H1 H2 H3 H4 Hx Hu Hi Hw Ho Hb Hts]
  isplitr; · iexact Hctx
  isplitl [Hst]; · iexact Hst
  isplitl [H4 Hx Hu Hi Hw Ho]
  · rw [st_eq]
    isplitr [Ho]
    · isplitl [Hi]; · iexact Hi
      isplitl [Hx]; · iexact Hx
      isplitl [Hu]; · iexact Hu
      isplitl [Hw]; · iexact Hw
      iexact H4
    iexact Ho
  iintro ⟨Hst, Hdn⟩
  ihave Hdn' := (Entails.of_eq (dn_eq (tabs m d) d)) $$ Hdn
  icases Hdn' with ⟨⟨-, -, -, -, H4⟩, Ho⟩
  imodintro
  isplitl [Hst]; · iexact Hst
  isplitr [Hb Hts]
  · unfold FIN
    rw [← V3_arg m d main_arg0 (by decide), ← V3_arg m d main_arg1 (by decide), ← V3_arg m d main_arg2 (by decide), ← V3_arg m d main_arg3 (by decide), ← V3_arg m d main_arg4 (by decide)]
    isplitl [H0]; · iexact H0
    isplitl [H1]; · iexact H1
    isplitl [H2]; · iexact H2
    isplitl [H3]; · iexact H3
    isplitl [H4]; · iexact H4
    iexact Ho
  isplitl [Hb] <;> iassumption

/-- What the claims read of the final state. -/
def fq (d : Dev nD) (s' : Phys nD τ sig (Elt F)) : Prop :=
  (s'.mem.mem (tLoc d main_arg0) = m (tLoc d main_arg0) ∧ s'.mem.mem (tLoc d main_arg1) = m (tLoc d main_arg1) ∧ s'.mem.mem (tLoc d main_arg2) = m (tLoc d main_arg2)
    ∧ s'.mem.mem (tLoc d main_arg3) = m (tLoc d main_arg3) ∧ s'.mem.mem (tLoc d main_arg4) = m (tLoc d main_arg4))
  ∧ s'.mem.mem (tLoc d main_v5) = outOf (tabs m d)

/-- A whole buffer held at the end is what the final memory holds there. -/
theorem agree (ℓ : Loc nD τ sig) (f : Buf (Elt F) ℓ) (s' : Phys nD τ sig (Elt F)) :
    (iprop((ℓ ↦{fullShare} f) ∗ SI s') : sProp 𝕄) ⊢ iprop(⌜s'.mem.mem ℓ = f⌝ ∗ SI s') := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  unfold FIN
  iintro ⟨⟨H0, H1, H2, H3, H4, Ho⟩, HSI⟩
  ihave H := (agree (tLoc d main_arg0) _ s') $$ [H0 HSI]; · isplitl [H0] <;> iassumption
  icases H with ⟨%h0, HSI⟩
  ihave H := (agree (tLoc d main_arg1) _ s') $$ [H1 HSI]; · isplitl [H1] <;> iassumption
  icases H with ⟨%h1, HSI⟩
  ihave H := (agree (tLoc d main_arg2) _ s') $$ [H2 HSI]; · isplitl [H2] <;> iassumption
  icases H with ⟨%h2, HSI⟩
  ihave H := (agree (tLoc d main_arg3) _ s') $$ [H3 HSI]; · isplitl [H3] <;> iassumption
  icases H with ⟨%h3, HSI⟩
  ihave H := (agree (tLoc d main_arg4) _ s') $$ [H4 HSI]; · isplitl [H4] <;> iassumption
  icases H with ⟨%h4, HSI⟩
  ihave H := (agree (tLoc d main_v5) _ s') $$ [Ho HSI]; · isplitl [Ho] <;> iassumption
  icases H with ⟨%h5, -⟩
  ipureintro
  exact ⟨⟨h0, h1, h2, h3, h4⟩, h5⟩

/-! ## The program's run -/

/-- There is one device. -/
theorem dev_eq (d : Dev nD) : d = 0 := Subsingleton.elim _ _

/-- A final state of the whole program: the arguments as launched, the result at what the tables give, no semaphore up. -/
def QC : PUnit × MemSt nD τ sig (Elt F) → Prop := fun r =>
  (∀ d : Dev nD, (r.2.mem (tLoc d main_arg0) = m (tLoc d main_arg0) ∧ r.2.mem (tLoc d main_arg1) = m (tLoc d main_arg1) ∧ r.2.mem (tLoc d main_arg2) = m (tLoc d main_arg2)
    ∧ r.2.mem (tLoc d main_arg3) = m (tLoc d main_arg3) ∧ r.2.mem (tLoc d main_arg4) = m (tLoc d main_arg4))
    ∧ r.2.mem (tLoc d main_v5) = outOf (tabs m d)) ∧ r.2.sem = fun _ => 0

theorem run_main [∀ e, Nonempty (Elt F e)] (hA : ∀ j, ((tabs m 0).iv j : BitVec 32).toNat < 4096) :
    θ_run (Cert.VerbatimIdeal.defs (F := F)) (Cert.VerbatimIdeal.threads (F := F)) ⟨m, fun _ => 0, ρ⟩ (QC m) :=
  SparseCore.Cfg.θ_run_sc_quiescent (K := K (F := F)) (D := D (F := F)) (𝒱 := 𝒱) (EH := EH) (P := P (tabs m 0)) (A := ∅) facts v₀
    (fun q hq => match q with | 0 => nomatch hq)
    (fun q _ => match q with | 0 => tileObl (tabs m 0) hA facts)
    (fun q _ => match q with | 0 => SparseCore.Cfg.VecSplit.of_plain (vecSplit (tabs m 0)))
    m ρ main (fun d => g d) (FIN m) (u₀ F) (sep_elim_left.trans (hu₀ (tabs m 0)))
    (fun κ d => by have e : d = 0 := dev_eq d; subst e; exact hmain m ρ κ 0) (fq m) (hfin m) (QC m) (fun _ h hz => ⟨h, hz⟩)

end Cert.Proof.Verbatim

end
-- ==== Proof.Verbatim.Nearest.lean ====
/-
  The eight columns a row of the TensorCore kernel's result names, as eight rounds of one step: the least distance, the lowest
  column that attains it, and that column struck out.

  The counterpart of Proof/Nearest for the program with the version's own candidate for "no column".
-/
module

public import proofs.«01_k».proof.Proof.Verbatim.TcBody
public import Idealize.ShloMosaic.PureOps.Reduce

@[expose] public section

noncomputable section

namespace Cert.Proof.Verbatim

open Cert.VerbatimIdeal Cert.VerbatimIdeal.Gen

open Idealize.ShloMosaic

variable {F : FTy → Type} [FloatOps F] [Named F]

/-! ## The rounds -/

/-- The index of row `r` and column `c` of a block of distances. -/
def e2 (r : Fin 512) (c : Fin 4096) : S512x4096.Idx := fun | 0 => r | 1 => c
def e1 (r : Fin 512) : S512.Idx := fun | 0 => r
def eu (r : Fin 512) : S512x1.Idx := fun | 0 => r | 1 => (0 : Fin 1)

/-- The least entry of every row. -/
def rowMin (d : FVec F S512x4096 .f32) : FVec F S512 .f32 :=
  multiReduction .minimumf [1] S512 d 0x7F800000#32 reduces_S512x4096_S512 (.inl rfl) rfl

/-- One number to a row, under every column. -/
def spread (v : FVec F S512x1 .f32) : FVec F S512x4096 .f32 := broadcastTo S512x4096 v broadcasts_S512x1_S512x4096
def upright (v : FVec F S512 .f32) : FVec F S512x1 .f32 := shapeCast S512x1 v shapeCasts_S512_S512x1

/-- The columns that may be picked: a column's number where its entry is least, the greatest number elsewhere. -/
def cands (d : FVec F S512x4096 .f32) : FVec F S512x4096 .f32 :=
  select (cmpf .ole d (spread (upright (rowMin d)))) (k0_pay3 (F := F)) (broadcast S512x4096 (Scalar.ofBits .f32 0x45800000#32))

/-- The column a round picks in every row. -/
def pick (d : FVec F S512x4096 .f32) : FVec F S512x1 .f32 := upright (rowMin (cands d))

/-- The distances with the picked columns struck out. -/
def strike (d : FVec F S512x4096 .f32) : FVec F S512x4096 .f32 :=
  select (cmpf .oeq (k0_pay3 (F := F)) (spread (pick d))) (k0_pay7 (F := F)) d

/-- The distances before round `k`. -/
def dk (d : FVec F S512x4096 .f32) : Nat → FVec F S512x4096 .f32
  | 0 => d
  | k + 1 => strike (dk d k)

section payloads

variable (i : grid0.Coords) (x0 : Vec F S512x2 .f32) (x1 : Vec F S2x4096 .f32)

theorem near0_eq : near0 i x0 x1 = pick (dk (dist0 i x0 x1) 0) := rfl
theorem pay8_eq : k0_pay8 (dist0 i x0 x1) (mask0 i x0 x1) (k0_pay7 (F := F)) = dk (dist0 i x0 x1) 1 := rfl
theorem pay9_eq : k0_pay9 (k0_pay3 (F := F)) (dist0 i x0 x1) (mask0 i x0 x1) k0_pay7 = pick (dk (dist0 i x0 x1) 1) := rfl
theorem pay10_eq : k0_pay10 (k0_pay3 (F := F)) (dist0 i x0 x1) (mask0 i x0 x1) k0_pay7 = dk (dist0 i x0 x1) 2 := rfl
theorem pay11_eq : k0_pay11 (k0_pay3 (F := F)) (dist0 i x0 x1) (mask0 i x0 x1) k0_pay7 = pick (dk (dist0 i x0 x1) 2) := rfl
theorem pay12_eq : k0_pay12 (k0_pay3 (F := F)) (dist0 i x0 x1) (mask0 i x0 x1) k0_pay7 = dk (dist0 i x0 x1) 3 := rfl
theorem pay13_eq : k0_pay13 (k0_pay3 (F := F)) (dist0 i x0 x1) (mask0 i x0 x1) k0_pay7 = pick (dk (dist0 i x0 x1) 3) := rfl
theorem pay14_eq : k0_pay14 (k0_pay3 (F := F)) (dist0 i x0 x1) (mask0 i x0 x1) k0_pay7 = dk (dist0 i x0 x1) 4 := rfl
theorem pay15_eq : k0_pay15 (k0_pay3 (F := F)) (dist0 i x0 x1) (mask0 i x0 x1) k0_pay7 = pick (dk (dist0 i x0 x1) 4) := rfl

/-- The last three rounds and the eight picks side by side. -/
theorem pay1_eq (d : FVec F S512x4096 .f32) (p0 p1 p2 p3 : FVec F S512x1 .f32) :
    k0_pay1 (k0_pay3 (F := F)) p0 p1 p2 p3 d (pick d)
      = fptosi 32 (concatenate S512x8 1 [⟨S512x1, p0⟩, ⟨S512x1, p1⟩, ⟨S512x1, p2⟩, ⟨S512x1, p3⟩, ⟨S512x1, pick d⟩, ⟨S512x1, pick (strike d)⟩,
          ⟨S512x1, pick (strike (strike d))⟩, ⟨S512x1, pick (strike (strike (strike d)))⟩]
          concatenates_S512x1_S512x1_S512x1_S512x1_S512x1_S512x1_S512x1_S512x1_S512x8_d1) := rfl

/-- A family of columns, each with its shape. -/
def cols8 (f : Fin 8 → FVec F S512x1 .f32) : List ((s : Shape) × (s.Idx → F .f32)) := List.ofFn fun n => ⟨S512x1, f n⟩

theorem fits8 (f : Fin 8 → FVec F S512x1 .f32) : Shape.Concatenates ((cols8 f).map (·.1)) S512x8 1 :=
  concatenates_S512x1_S512x1_S512x1_S512x1_S512x1_S512x1_S512x1_S512x1_S512x8_d1

/-- Eight columns side by side, as one family. -/
theorem cat8 (f : Fin 8 → FVec F S512x1 .f32) (p0 p1 p2 p3 p4 p5 p6 p7 : FVec F S512x1 .f32) (h0 : p0 = f 0) (h1 : p1 = f 1) (h2 : p2 = f 2)
    (h3 : p3 = f 3) (h4 : p4 = f 4) (h5 : p5 = f 5) (h6 : p6 = f 6) (h7 : p7 = f 7) :
    concatenate S512x8 1 [⟨S512x1, p0⟩, ⟨S512x1, p1⟩, ⟨S512x1, p2⟩, ⟨S512x1, p3⟩, ⟨S512x1, p4⟩, ⟨S512x1, p5⟩, ⟨S512x1, p6⟩, ⟨S512x1, p7⟩]
        concatenates_S512x1_S512x1_S512x1_S512x1_S512x1_S512x1_S512x1_S512x1_S512x8_d1
      = concatenate S512x8 1 (cols8 f) (fits8 f) := by
  subst h0 h1 h2 h3 h4 h5 h6 h7
  rfl

/-- The eight picks side by side, as one family. -/
theorem nearBlk_eq : nearBlk i x0 x1
    = fptosi 32 (concatenate S512x8 1 (cols8 fun n => pick (dk (dist0 i x0 x1) n.val)) (fits8 _)) := by
  unfold nearBlk
  rw [near0_eq, pay9_eq, pay11_eq, pay13_eq, pay14_eq, pay15_eq, pay1_eq]
  generalize dist0 i x0 x1 = d
  exact congrArg (fptosi 32) (cat8 (fun n => pick (dk d n.val)) _ _ _ _ _ _ _ _ rfl rfl rfl rfl rfl rfl rfl rfl)

theorem cols8_apply (f : Fin 8 → FVec F S512x1 .f32) (y : S512x8.Idx) :
    concatenate S512x8 1 (cols8 f) (fits8 f) y = f (y 1) (eu (y 0)) :=
  concatenate_ofFn_unit_apply (t := S512x8) (s₁ := S512x1) 1 f (fits8 f) rfl rfl y (y 1) rfl (eu (y 0)) fun b hb => by
    match b with
    | 0 => rfl
    | 1 => exact absurd rfl hb

/-- At an index: the pick of the column's round. -/
theorem nearBlk_apply (y : S512x8.Idx) :
    nearBlk i x0 x1 y = FloatOps.fptosi 32 (pick (dk (dist0 i x0 x1) (y 1).val) (eu (y 0))) := by
  rw [nearBlk_eq]
  exact congrArg (FloatOps.fptosi 32) (cols8_apply (fun n => pick (dk (dist0 i x0 x1) n.val)) y)

end payloads

/-! ## Pointwise -/

theorem spread_apply (v : FVec F S512x1 .f32) (r : Fin 512) (c : Fin 4096) : spread v (e2 r c) = v (eu r) :=
  broadcastTo_apply (s := S512x1) (t := S512x4096) v _ (e2 r c) (eu r) fun a => by
    match a with | 0 => rfl | 1 => rfl

theorem upright_apply (v : FVec F S512 .f32) (r : Fin 512) : upright v (eu r) = v (e1 r) :=
  shapeCast_apply v _ (eu r) (e1 r) (by
    rw [Shape.rowMajor_val_one, Shape.rowMajor_val_two]
    exact (Nat.mul_one r.val).symm)

theorem col_apply (r : Fin 512) (c : Fin 4096) : k0_pay3 (F := F) (e2 r c) = FloatOps.sitofp .f32 (BitVec.ofNat 32 c.val) := by
  unfold k0_pay3
  show FloatOps.sitofp .f32 _ = _
  rw [iota_single_apply]
  rfl

variable [Std.Commutative (FloatOps.minimumf (F := F) (φ := .f32))] [Std.Associative (FloatOps.minimumf (F := F) (φ := .f32))]

theorem rowMin_apply (d : FVec F S512x4096 .f32) (r : Fin 512) :
    rowMin d (e1 r) = (Finset.univ : Finset (Fin 4096)).fold FloatOps.minimumf (FloatOps.ofBits .f32 0x7F800000#32) (fun c => d (e2 r c)) := by
  unfold rowMin
  refine (multiReduction_minimumf_eq_fold (F := F) (φ := .f32) d _ reduces_S512x4096_S512 _ _ (e1 r)).trans ?_
  refine (Shape.Reduces.fold_filter_drop_single reduces_S512x4096_S512 _ _ d (e1 r)).trans ?_
  refine congrArg (Finset.fold _ _ · _) (funext fun c => congrArg d (funext fun b => Fin.ext ?_))
  rw [Shape.Reduces.lift_val]
  fin_cases b <;> rfl

theorem pick_apply (d : FVec F S512x4096 .f32) (r : Fin 512) :
    pick d (eu r) = (Finset.univ : Finset (Fin 4096)).fold FloatOps.minimumf (FloatOps.ofBits .f32 0x7F800000#32) (fun c => cands d (e2 r c)) := by
  unfold pick
  rw [upright_apply, rowMin_apply]

omit [Std.Commutative (FloatOps.minimumf (F := F) (φ := .f32))] [Std.Associative (FloatOps.minimumf (F := F) (φ := .f32))] in
theorem cands_apply (d : FVec F S512x4096 .f32) (r : Fin 512) (c : Fin 4096) :
    cands d (e2 r c) = Scalar.select (FloatOps.cmpf .ole (d (e2 r c)) (rowMin d (e1 r))) (FloatOps.sitofp .f32 (BitVec.ofNat 32 c.val))
      (FloatOps.ofBits .f32 0x45800000#32) := by
  unfold cands
  show Scalar.select (FloatOps.cmpf .ole (d (e2 r c)) (spread (upright (rowMin d)) (e2 r c))) (k0_pay3 (F := F) (e2 r c)) _ = _
  rw [spread_apply, upright_apply, col_apply]
  rfl

omit [Std.Commutative (FloatOps.minimumf (F := F) (φ := .f32))] [Std.Associative (FloatOps.minimumf (F := F) (φ := .f32))] in
theorem strike_apply (d : FVec F S512x4096 .f32) (r : Fin 512) (c : Fin 4096) :
    strike d (e2 r c) = Scalar.select (FloatOps.cmpf .oeq (FloatOps.sitofp .f32 (BitVec.ofNat 32 c.val)) (pick d (eu r)))
      (Named.named κ "taken" 0x71C9F2CA#32) (d (e2 r c)) := by
  unfold strike
  show Scalar.select (FloatOps.cmpf .oeq (k0_pay3 (F := F) (e2 r c)) (spread (pick d) (e2 r c))) _ _ = _
  rw [spread_apply, col_apply]
  rfl

end Cert.Proof.Verbatim

end
-- ==== Proof.Verbatim.PickIdeal.lean ====
/-
  The picks on extended reals: each round takes the lowest column whose distance is least, and strikes it out.

  The counterpart of Proof/PickIdeal for the program with the version's own candidate for "no column".
-/
module

public import proofs.«01_k».proof.Proof.Verbatim.Nearest
public import proofs.«01_k».proof.Proof.Order
public import proofs.«01_k».proof.Proof.Finite
public import Idealize.ShloMosaic.PureOps.Ideal.Laws

@[expose] public section

noncomputable section

namespace Cert.Proof.Verbatim

open Cert.VerbatimIdeal Cert.VerbatimIdeal.Gen

open Idealize.ShloMosaic

/-! ## The constants -/

/-- A column's number on the extended reals. -/
theorem colNum (n : Nat) (h : n < 4096) : (FloatOps.sitofp .f32 (BitVec.ofNat 32 n) : Ideal .f32) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  rfl

/-- The candidate that stands for no column is no less than any column's number. -/
theorem sentinel_ge : ((4095 : ℝ) : EReal) ≤ (FloatOps.ofBits .f32 0x45800000#32 : Ideal .f32) := by
  rw [Ideal.ofBits_def]
  simp [Ideal.ofBits, Ideal.ieee, -EReal.coe_mul]
  norm_num

theorem taken_top : (Named.named κ "taken" 0x71C9F2CA#32 : Ideal .f32) = ⊤ :=
  IdealRules.named_const.ideal_named_scalar κ "taken" _ ⊤ rfl

/-- A column's number, back as a word. -/
theorem colWord (n : Nat) (h : n < 4096) : FloatOps.fptosi (F := Ideal) (φ := .f32) 32 (((n : ℝ) : EReal)) = BitVec.ofNat 32 n := by
  show Ideal.fptosi 32 (((n : ℝ) : EReal)) = _
  rw [Ideal.fptosi, Ideal.toIntClamped_coe, if_pos (Nat.cast_nonneg n), Int.floor_natCast]
  have h1 : min (((2 ^ (32 - 1) : Nat) : Int) - 1) (n : Int) = n := min_eq_right (by norm_num; omega)
  rw [h1, max_eq_right (by norm_num)]
  exact BitVec.ofInt_natCast 32 n

/-! ## A round -/

theorem ole_iff (x y : Ideal .f32) : FloatOps.cmpf .ole x y = 1 ↔ x ≤ y := by
  show BitVec.ofBool (decide (x ≤ y)) = 1#1 ↔ _
  by_cases h : x ≤ y <;> simp [h]

theorem oeq_iff (x y : Ideal .f32) : FloatOps.cmpf .oeq x y = 1 ↔ x = y := by
  show BitVec.ofBool (decide (x = y)) = 1#1 ↔ _
  by_cases h : x = y <;> simp [h]

/-- The distances of a row. -/
def rowOf (d : FVec Ideal S512x4096 .f32) (r : Fin 512) : Fin 4096 → EReal := fun c => d (e2 r c)

theorem rowMin_le (d : FVec Ideal S512x4096 .f32) (r : Fin 512) (c : Fin 4096) : rowMin d (e1 r) ≤ d (e2 r c) := by
  rw [rowMin_apply]
  exact (Finset.fold_min_le (d (e2 r c))).mpr (Or.inr ⟨c, Finset.mem_univ c, le_refl _⟩)

theorem exists_lowest (g : Fin 4096 → EReal) : ∃ c, Lowest g c := by
  obtain ⟨m, -, hm⟩ := Finset.exists_min_image (Finset.univ : Finset (Fin 4096)) g ⟨0, Finset.mem_univ _⟩
  obtain ⟨c, hc, hmin⟩ := Finset.exists_min_image (Finset.univ.filter fun c => g c ≤ g m) (fun c => c) ⟨m, by simp⟩
  rw [Finset.mem_filter] at hc
  refine ⟨c, fun p => hc.2.trans (hm p (Finset.mem_univ p)), fun p hp => hmin p ?_⟩
  rw [Finset.mem_filter]
  exact ⟨Finset.mem_univ p, hp.trans hc.2⟩

theorem rowMin_eq (d : FVec Ideal S512x4096 .f32) (r : Fin 512) (c : Fin 4096) (h : Lowest (rowOf d r) c) : rowMin d (e1 r) = d (e2 r c) := by
  refine le_antisymm (rowMin_le d r c) ?_
  rw [rowMin_apply]
  refine (Finset.le_fold_min (d (e2 r c))).mpr ⟨?_, fun p _ => h.1 p⟩
  rw [top_word]
  exact le_top

/-- A candidate is its column's number where the distance is least. -/
theorem cands_ideal (d : FVec Ideal S512x4096 .f32) (r : Fin 512) (c : Fin 4096) (h : Lowest (rowOf d r) c) (p : Fin 4096) :
    cands d (e2 r p) = if rowOf d r p ≤ rowOf d r c then ((p.val : ℝ) : EReal) else (FloatOps.ofBits .f32 0x45800000#32 : Ideal .f32) := by
  rw [cands_apply, rowMin_eq d r c h, colNum p.val p.isLt]
  unfold Scalar.select
  rw [if_congr (ole_iff _ _) rfl rfl]
  rfl

/-- A round picks the lowest of the columns whose distance is least. -/
theorem pick_lowest (d : FVec Ideal S512x4096 .f32) (r : Fin 512) (c : Fin 4096) (h : Lowest (rowOf d r) c) :
    pick d (eu r) = ((c.val : ℝ) : EReal) := by
  rw [pick_apply]
  refine le_antisymm ((Finset.fold_min_le _).mpr (Or.inr ⟨c, Finset.mem_univ c, ?_⟩)) ((Finset.le_fold_min _).mpr ⟨?_, fun p _ => ?_⟩)
  · rw [cands_ideal d r c h, if_pos (le_refl _)]
  · rw [top_word]; exact le_top
  · rw [cands_ideal d r c h]
    split
    · rename_i hp
      have := h.2 p hp
      exact EReal.coe_le_coe_iff.mpr (Nat.cast_le.mpr this)
    · refine le_trans (EReal.coe_le_coe_iff.mpr ?_) sentinel_ge
      have h1 : c.val ≤ 4095 := by omega
      exact_mod_cast h1

/-- The column that a round picks. -/
def pickCol (d : FVec Ideal S512x4096 .f32) (r : Fin 512) : Fin 4096 := Classical.choose (exists_lowest (rowOf d r))
theorem pickCol_lowest (d : FVec Ideal S512x4096 .f32) (r : Fin 512) : Lowest (rowOf d r) (pickCol d r) :=
  Classical.choose_spec (exists_lowest (rowOf d r))
theorem pick_ideal (d : FVec Ideal S512x4096 .f32) (r : Fin 512) : pick d (eu r) = (((pickCol d r).val : ℝ) : EReal) :=
  pick_lowest d r _ (pickCol_lowest d r)

/-- Striking out the picked column sets its distance to +∞. -/
theorem strike_ideal (d : FVec Ideal S512x4096 .f32) (r : Fin 512) (c : Fin 4096) :
    rowOf (strike d) r c = if c = pickCol d r then ⊤ else rowOf d r c := by
  unfold rowOf
  rw [strike_apply, pick_ideal, colNum c.val c.isLt, taken_top]
  unfold Scalar.select
  rw [if_congr (oeq_iff _ _) rfl rfl]
  have e : (((c.val : ℝ) : EReal) = (((pickCol d r).val : ℝ) : EReal)) ↔ c = pickCol d r := by
    rw [EReal.coe_eq_coe_iff, Nat.cast_inj, Fin.ext_iff]
  by_cases hc : c = pickCol d r
  · rw [if_pos (e.mpr hc), if_pos hc]
  · rw [if_neg fun h => hc (e.mp h), if_neg hc]

/-! ## The eight columns -/

/-- The words of the result: the columns that the rounds pick. -/
theorem nearBlk_ideal (i : grid0.Coords) (x0 : Vec Ideal S512x2 .f32) (x1 : Vec Ideal S2x4096 .f32) (y : S512x8.Idx) :
    nearBlk i x0 x1 y = BitVec.ofNat 32 (pickCol (dk (dist0 i x0 x1) (y 1).val) (y 0)).val := by
  refine (nearBlk_apply i x0 x1 y).trans ?_
  refine (congrArg (FloatOps.fptosi 32) (pick_ideal _ (y 0))).trans ?_
  exact colWord _ (Fin.isLt _)

theorem nearBlk_ideal_lt (i : grid0.Coords) (x0 : Vec Ideal S512x2 .f32) (x1 : Vec Ideal S2x4096 .f32) (y : S512x8.Idx) :
    (nearBlk i x0 x1 y).toNat < 4096 := by
  rw [nearBlk_ideal, BitVec.toNat_ofNat]
  have := (pickCol (dk (dist0 i x0 x1) (y 1).val) (y 0)).isLt
  omega

/-- They are the first places of the row's stable sort. -/
theorem pickCol_sorted (d : FVec Ideal S512x4096 .f32) (r : Fin 512) (hd : ∀ c, rowOf d r c < ⊤) (k : Fin 4096) :
    pickCol (dk d k.val) r = sortedFrom (fun a b => decide (rowOf d r a < rowOf d r b)) k :=
  (sortedFrom_rounds (rowOf d r) (fun k => rowOf (dk d k) r) (fun k => pickCol (dk d k) r) hd (fun _ => rfl)
    (fun k => pickCol_lowest (dk d k) r) (fun k c => strike_ideal (dk d k) r c) k).symm

end Cert.Proof.Verbatim

end
-- ==== Proof.Verbatim.Frames.lean ====
/-
  The frame of the version's own text, on extended reals.
-/
module

public import proofs.«01_k».proof.Defs
public import proofs.«01_k».proof.Proof.Verbatim.Launch
public import proofs.«01_k».proof.Proof.Verbatim.PickIdeal

@[expose] public section

noncomputable section

namespace Cert.Proof.Verbatim

open Cert.VerbatimIdeal Cert.VerbatimIdeal.Gen

open Idealize.ShloMosaic Idealize.SL.Sem

/-! ## Every index is a column -/

theorem index_lt {F : FTy → Type} [FloatOps F] [Named F] (m : (ℓ : Loc nD τ sig) → Buf (Elt F) ℓ)
    (h : ∀ (i : grid0.Coords) (x0 : Vec F S512x2 .f32) (x1 : Vec F S2x4096 .f32) (y : S512x8.Idx), (nearBlk i x0 x1 y).toNat < 4096) :
    ∀ j, ((tabs m 0).iv j : BitVec 32).toNat < 4096 := by
  intro j
  rw [tabs_iv]
  exact h _ _ _ _

theorem index_lt_ideal (m : (ℓ : Loc nD τ sig) → Buf (Elt Ideal) ℓ) : ∀ j, ((tabs m 0).iv j : BitVec 32).toNat < 4096 :=
  index_lt m nearBlk_ideal_lt

/-! ## The frames -/

theorem frame_ideal : Cert.quiescent_VerbatimIdeal := fun m ρ _ =>
  (θ_run (Cert.VerbatimIdeal.defs (F := Ideal)) _ _).mono (fun _ h => ⟨fun c => (h.1 c).1, h.2⟩) (run_main (F := Ideal) m ρ (index_lt_ideal m))

end Cert.Proof.Verbatim

end
-- ==== Proof.Verbatim.Algebraic.lean ====
/-
  The kernel's result is the reference's: the columns it picks are the reference's nearest, and each entry is the same sum
  in another order.

  The counterpart of Proof/Algebraic for the program with the version's own candidate for "no column".
-/
module

public import proofs.«01_k».proof.Defs
public import proofs.«01_k».proof.Proof.Gen.ReferenceIdeal.Run
public import proofs.«01_k».proof.Proof.Verbatim.Frames
public import proofs.«01_k».proof.Proof.Finite
public import Idealize.ShloMosaic.Lib.Pipeline.ValueKit.Tiles

@[expose] public section

noncomputable section

namespace Cert.Proof.Verbatim

open Cert.VerbatimIdeal Cert.VerbatimIdeal.Gen

open Idealize.ShloMosaic Idealize.SL.Sem

/-! ## The distances of a block -/

def t2 (k : Fin 2) (c : Fin 4096) : S2x4096.Idx := fun | 0 => k | 1 => c
def s2 (r : Fin 512) (k : Fin 2) : S512x2.Idx := fun | 0 => r | 1 => k
def l2 (c : Fin 4096) : S1x4096.Idx := fun | 0 => (0 : Fin 1) | 1 => c

theorem tr_apply (x : Vec Ideal S4096x2 .f32) (k : Fin 2) (c : Fin 4096) : tr x (t2 k c) = x (Ref.a2 c k) :=
  transpose_apply _ _ _ (t2 k c) (Ref.a2 c k) fun b => match b with | 0 => rfl | 1 => rfl

theorem line_apply (x1 : Vec Ideal S2x4096 .f32) (k : Fin 2) (v : Vec Ideal S1x4096 .f32)
    (hv : ∀ c, v (l2 c) = x1 (t2 k c)) (r : Fin 512) (c : Fin 4096) :
    broadcastTo S512x4096 (shapeCast S1x4096 v shapeCasts_S1x4096_S1x4096) broadcasts_S1x4096_S512x4096 (e2 r c) = x1 (t2 k c) := by
  rw [shapeCast_self]
  exact (broadcastTo_apply (s := S1x4096) (t := S512x4096) v _ (e2 r c) (l2 c) fun a => match a with | 0 => rfl | 1 => rfl).trans (hv c)

theorem stack_apply (x0 : Vec Ideal S512x2 .f32) (k : Fin 2) (v : Vec Ideal S512x1 .f32) (hv : ∀ r, v (eu r) = x0 (s2 r k)) (r : Fin 512) (c : Fin 4096) :
    broadcastTo S512x4096 v broadcasts_S512x1_S512x4096 (e2 r c) = x0 (s2 r k) :=
  (spread_apply (F := Ideal) v r c).trans (hv r)

theorem dist0_apply (i : grid0.Coords) (x0 : Vec Ideal S512x2 .f32) (x1 : Vec Ideal S2x4096 .f32) (r : Fin 512) (c : Fin 4096) :
    dist0 i x0 x1 (e2 r c)
      = Scalar.select (IntOp.cmpi .eq (BitVec.ofNat 32 c.val) (BitVec.ofNat 32 r.val + BitVec.ofNat 32 (i 0).val * 512#32))
          (FloatOps.ofBits .f32 0x7149F2CA#32 : Ideal .f32)
          (Ideal.sqrt ((x1 (t2 0 c) - x0 (s2 r 0)) * (x1 (t2 0 c) - x0 (s2 r 0)) + (x1 (t2 1 c) - x0 (s2 r 1)) * (x1 (t2 1 c) - x0 (s2 r 1))
            + (FloatOps.ofBits .f32 0x3F800000#32 : Ideal .f32))) := by
  have h0 : broadcastTo S512x4096 (shapeCast S1x4096 (View.ld x1 rRow0) shapeCasts_S1x4096_S1x4096) broadcasts_S1x4096_S512x4096 (e2 r c) = x1 (t2 0 c) :=
    line_apply x1 0 _ (fun c => View.ld_unit_apply_of x1 _ _ _ (l2 c) (t2 0 c) fun a => match a with | 0 => rfl | 1 => (Nat.zero_add _).symm) r c
  have h1 : broadcastTo S512x4096 (shapeCast S1x4096 (View.ld x1 rRow1) shapeCasts_S1x4096_S1x4096) broadcasts_S1x4096_S512x4096 (e2 r c) = x1 (t2 1 c) :=
    line_apply x1 1 _ (fun c => View.ld_unit_apply_of x1 _ _ _ (l2 c) (t2 1 c) fun a => match a with | 0 => rfl | 1 => (Nat.zero_add _).symm) r c
  have h2 : broadcastTo S512x4096 (View.ld x0 rCol0) broadcasts_S512x1_S512x4096 (e2 r c) = x0 (s2 r 0) :=
    stack_apply x0 0 _ (fun r => View.ld_unit_apply_of x0 _ _ _ (eu r) (s2 r 0) fun a => match a with | 0 => (Nat.zero_add _).symm | 1 => rfl) r c
  have h3 : broadcastTo S512x4096 (View.ld x0 rCol1) broadcasts_S512x1_S512x4096 (e2 r c) = x0 (s2 r 1) :=
    stack_apply x0 1 _ (fun r => View.ld_unit_apply_of x0 _ _ _ (eu r) (s2 r 1) fun a => match a with | 0 => (Nat.zero_add _).symm | 1 => rfl) r c
  have i1 : iota .tc S512x4096 32 [1] iota_S512x4096_d1_w32 (e2 r c) = BitVec.ofNat 32 c.val := iota_single_apply _ _ _ _ _ _
  have i0 : iota .tc S512x4096 32 [0] iota_S512x4096_d0_w32 (e2 r c) = BitVec.ofNat 32 r.val := iota_single_apply _ _ _ _ _ _
  rw [← h0, ← h1, ← h2, ← h3, ← i0, ← i1]
  rfl

/-- A block's row at a column: the reference's distance of the row's own point. -/
theorem rowOf_far (i : grid0.Coords) (x : Vec Ideal S4096x2 .f32) (x0 : Vec Ideal S512x2 .f32) (r : Fin 512) (R : Fin 4096)
    (hR : R.val = 512 * (i 0).val + r.val) (h0 : ∀ k, x0 (s2 r k) = x (Ref.a2 R k)) : rowOf (dist0 i x0 (tr x)) r = Ref.far x R := by
  funext c
  show dist0 i x0 (tr x) (e2 r c) = _
  rw [dist0_apply, h0, h0, tr_apply, tr_apply]
  unfold Scalar.select Ref.far
  refine if_congr ?_ rfl rfl
  have hw : BitVec.ofNat 32 r.val + BitVec.ofNat 32 (i 0).val * 512#32 = BitVec.ofNat 32 R.val := by
    apply BitVec.eq_of_toNat_eq
    have hi : (i 0).val < 8 := (i 0).isLt
    have hr := r.isLt
    simp only [BitVec.toNat_add, BitVec.toNat_mul, BitVec.toNat_ofNat]
    omega
  rw [hw]
  have h := Ref.eqWord c R
  rw [BitVec.add_zero] at h
  exact h.trans eq_comm

/-- A row of a point's block is its row of the array. -/
theorem rows_apply (W : (d : Dev nD) → (b : Ref sig .tc) → Buf (Elt Ideal) ((d.tc : Thread nD τ).loc b)) (d : Dev nD) (t : Fin cfg0.N) (r : Fin 512) (k : Fin 2) (R : Fin 4096)
    (hR : R.val = 512 * t.val + r.val) : rows W d t (s2 r k) = (W d main_arg2 : Vec Ideal S4096x2 .f32) (Ref.a2 R k) := by
  have hx : win0_0.index t 0 = t.val ∧ win0_0.index t 1 = 0 := by
    have : ∀ t : Fin grid0.N, win0_0.index t 0 = t.val ∧ win0_0.index t 1 = 0 := by decide
    exact this t
  have he : (win0_0.rect t).emb (s2 r k) = Ref.a2 R k := by
    funext a
    match a with
    | 0 =>
      refine Fin.ext ((Pipeline.Window.rect_emb_val win0_0 t (s2 r k) 0).trans ?_)
      rw [hx.1]
      show t.val * 512 + r.val = R.val
      omega
    | 1 =>
      refine Fin.ext ((Pipeline.Window.rect_emb_val win0_0 t (s2 r k) 1).trans ?_)
      rw [hx.2]
      show 0 * 2 + k.val = k.val
      omega
  show (W d main_arg2 : Vec Ideal S4096x2 .f32) ((win0_0.rect t).emb (s2 r k)) = _
  rw [he]

/-! ## The picks -/

variable (m : (ℓ : Loc nD τ sig) → Buf (Elt Ideal) ℓ) (d : Dev nD)

def n2 (r : Fin 4096) (k : Fin 8) : S4096x8.Idx := fun | 0 => r | 1 => k

theorem nearArr_apply (hx : AllReal (m (tLoc d main_arg2)))
    (r : Fin 4096) (k : Fin 8) : nearArr (ent m) d (n2 r k) = BitVec.ofNat 32 (Ref.near (m (tLoc d main_arg2)) r k).val := by
  unfold nearArr
  refine (nearBlk_ideal _ _ _ _).trans (congrArg (fun n : Fin 4096 => BitVec.ofNat 32 n.val) ?_)
  have hr : r.val < 4096 := r.isLt
  have hv : ent m d main_v0 = tr (m (tLoc d main_arg2)) := V1_v0 m d
  have hW : (ent m d main_arg2 : Vec Ideal S4096x2 .f32) = m (tLoc d main_arg2) := V1_of m d main_arg2 (by decide) (by decide)
  have ht : (ptOf (n2 r k)).val = r.val / 512 := rfl
  have hrow := rowOf_far (grid0.coords (ptOf (n2 r k))) (m (tLoc d main_arg2)) (rows (ent m) d (ptOf (n2 r k))) (inBlk (n2 r k) 0) r
    (by rw [coord_t, ht]; show r.val = 512 * (r.val / 512) + r.val % 512; omega)
    (fun q => (rows_apply (ent m) d (ptOf (n2 r k)) (inBlk (n2 r k) 0) q r (by rw [ht]; show r.val = 512 * (r.val / 512) + r.val % 512; omega)).trans
      (congrFun hW _))
  rw [hv]
  refine (pickCol_sorted _ (inBlk (n2 r k) 0) (fun c => ?_) (k.castLE (by decide))).trans ?_
  · rw [hrow]; exact far_lt _ hx r c
  · rw [hrow]; rfl

theorem iv_apply (hx : AllReal (m (tLoc d main_arg2)))
    (r : Fin 4096) (k : Fin 8) : ((tabs m d).iv (i32768 (8 * r.val + k.val)) : BitVec 32).toNat = (Ref.near (m (tLoc d main_arg2)) r k).val := by
  have h : (tabs m d).iv (i32768 (8 * r.val + k.val)) = nearArr (ent m) d (n2 r k) := by
    rw [tabs_iv]
    refine shapeCast_apply _ _ (i32768 (8 * r.val + k.val)) (n2 r k) ?_
    rw [Shape.rowMajor_val_two, Shape.rowMajor_val_one]
    show r.val * 8 + k.val = (8 * r.val + k.val) % 32768
    omega
  rw [h, nearArr_apply m d hx, BitVec.toNat_ofNat, Nat.mod_eq_of_lt (by have := (Ref.near (m (tLoc d main_arg2)) r k).isLt; omega)]

/-! ## An entry -/

theorem i2_eq (k : Fin 2) (c : Fin 4096) : i2 k.val c.val = t2 k c := by
  funext a
  match a with
  | 0 => exact Fin.ext (Nat.mod_eq_of_lt k.isLt)
  | 1 => exact Fin.ext (Nat.mod_eq_of_lt c.isLt)

theorem ww_apply (w : Vec Ideal S6x8 .f32) (n : Nat) (c : Fin 6) (e : Fin 8) (hn : n = 8 * c.val + e.val) :
    (shapeCast S48 w shapeCasts_S6x8_S48 : Vec Ideal S48 .f32) (i48 n) = w (Ref.w2 c e) := by
  refine shapeCast_apply _ _ (i48 n) (Ref.w2 c e) ?_
  rw [Shape.rowMajor_val_two, Shape.rowMajor_val_one]
  show c.val * 8 + e.val = n % 48
  omega

/-- What the tables give at a row and a column, when the index table holds the row's nearest. -/
theorem outAt_eq (iv : Vec Ideal S32768 .i32) (x1 x2 : FVec Ideal S4096x2 .f32) (w : FVec Ideal S6x8 .f32) (b : FVec Ideal S8 .f32)
    (hiv : ∀ (r : Fin 4096) (k : Fin 8), (iv (i32768 (8 * r.val + k.val)) : BitVec 32).toNat = (Ref.near x2 r k).val) (r : Fin 4096) (q : Fin 64) :
    outAt (F := Ideal) iv (tr x2) (velBlk (F := Ideal) (tr x2) (tr x1)) (shapeCast S48 w shapeCasts_S6x8_S48 : Vec Ideal S48 .f32) b r.val q.val = Ref.result x1 x2 w b (Ref.z2 r q) := by
  have hq := q.isLt
  obtain ⟨k, hk⟩ : ∃ k : Fin 8, q.val / 8 = k.val := ⟨⟨q.val / 8, by omega⟩, rfl⟩
  obtain ⟨e, he⟩ : ∃ e : Fin 8, q.val % 8 = e.val := ⟨⟨q.val % 8, by omega⟩, rfl⟩
  rw [Ref.result_apply x1 x2 w b r q k e (by omega)]
  unfold outAt
  rw [hk, he, hiv r k]
  generalize Ref.near x2 r k = j
  have t0 : ∀ (x : FVec Ideal S4096x2 .f32) (c : Fin 4096), tr (F := Ideal) x (i2 0 c.val) = x (Ref.a2 c 0) := fun x c =>
    (congrArg (tr (F := Ideal) x) (show i2 0 c.val = t2 0 c from i2_eq 0 c)).trans (tr_apply x 0 c)
  have t1 : ∀ (x : FVec Ideal S4096x2 .f32) (c : Fin 4096), tr (F := Ideal) x (i2 1 c.val) = x (Ref.a2 c 1) := fun x c =>
    (congrArg (tr (F := Ideal) x) (show i2 1 c.val = t2 1 c from i2_eq 1 c)).trans (tr_apply x 1 c)
  have u0 : ∀ c : Fin 4096, velBlk (F := Ideal) (tr x2) (tr x1) (i2 0 c.val) = x2 (Ref.a2 c 0) - x1 (Ref.a2 c 0) := fun c =>
    congrArg₂ (fun a b : Ideal .f32 => a - b) (t0 x2 c) (t0 x1 c)
  have u1 : ∀ c : Fin 4096, velBlk (F := Ideal) (tr x2) (tr x1) (i2 1 c.val) = x2 (Ref.a2 c 1) - x1 (Ref.a2 c 1) := fun c =>
    congrArg₂ (fun a b : Ideal .f32 => a - b) (t1 x2 c) (t1 x1 c)
  have b0 : b (i8 e.val) = b (Ref.b1 e) :=
    congrArg b (funext fun a => match a with | 0 => Fin.ext (Nat.mod_eq_of_lt e.isLt))
  dsimp only
  rw [t0, t0, t1, t1, u0, u0, u1, u1, b0,
    ww_apply w e.val 0 e (Nat.zero_add _).symm, ww_apply w (8 + e.val) 1 e rfl, ww_apply w (24 + e.val) 3 e rfl, ww_apply w (32 + e.val) 4 e rfl,
    ww_apply w (16 + e.val) 2 e rfl, ww_apply w (40 + e.val) 5 e rfl]
  unfold entry
  exact congrArg (fun a : EReal => max a (FloatOps.ofBits .f32 0x00000000#32 : Ideal .f32)) (regroup _ _ _ _ _ _ _)

theorem out_eq (hx : AllReal (m (tLoc d main_arg2))) :
    outOf (tabs m d) = Ref.result (m (tLoc d main_arg1)) (m (tLoc d main_arg2)) (m (tLoc d main_arg3)) (m (tLoc d main_arg4)) := by
  funext z
  obtain ⟨r, q, rfl⟩ : ∃ (r : Fin 4096) (q : Fin 64), z = Ref.z2 r q := ⟨z 0, z 1, by funext a; match a with | 0 => rfl | 1 => rfl⟩
  show outAt (tabs m d).iv (tabs m d).x (tabs m d).u (tabs m d).ww (tabs m d).bb r.val q.val = _
  have h := outAt_eq (tabs m d).iv (m (tLoc d main_arg1)) (m (tLoc d main_arg2)) (m (tLoc d main_arg3)) (m (tLoc d main_arg4)) (iv_apply m d hx) r q
  rw [tabs_x, tabs_u, tabs_ww, tabs_bb]
  exact h

/-! ## The claims -/

theorem frame_ideal_pre : Cert.quiescent_VerbatimIdeal_pre_finite := fun m ρ _ => frame_ideal m ρ trivial

theorem algebraic : Cert.algebraic_VerbatimIdeal_ReferenceIdeal_pre_finite := by
  intro m g m' g' hpre hargs
  refine ⟨fun d => outOf (tabs m d), ?_, ?_⟩
  · exact (θ_run (Cert.VerbatimIdeal.defs (F := Ideal)) _ _).mono (fun _ h c => ⟨(h.1 c).2, (h.1 c).1⟩) (run_main (F := Ideal) m g (index_lt_ideal m))
  · refine (θ_run (Cert.ReferenceIdeal.defs (F := Ideal)) _ _).mono (fun _ h c => ?_) (Cert.ReferenceIdeal.Value.run m' g')
    obtain ⟨e, k⟩ := h c
    refine ⟨e.trans ?_, k⟩
    obtain ⟨e0, e1, e2, e3, e4⟩ := hargs c
    refine (Ref.res_eq m' c).trans ?_
    rw [e1, e2, e3, e4]
    exact (out_eq m c (finite_apply _ _ _ _ _ (hpre c))).symm

end Cert.Proof.Verbatim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.VerbatimIdeal
public import proofs.«01_k».proof.Proof.Gen.VerbatimIdeal.Skeleton
public import proofs.«01_k».proof.Proof.Gen.VerbatimIdeal.Launch
public import proofs.«01_k».proof.Proof.Gen.VerbatimIdeal.Points
public import proofs.«01_k».proof.Proof.Frames
public import proofs.«01_k».proof.Proof.RefRun
public import proofs.«01_k».proof.Proof.Algebraic
public import proofs.«01_k».proof.Proof.Verbatim.Algebraic

@[expose] public section

noncomputable section

namespace Cert.Proof

theorem claim : Cert.Claim := ⟨Cert.Kernel.Gen.facts, Cert.KernelIdeal.Gen.facts, Cert.ReferenceIdeal.Gen.facts,
  Cert.VerbatimIdeal.Gen.facts, pre_facts,
  frame_kernel, frame_ideal, frame_ideal_pre, Ref.frame, Ref.frame_pre,
  Verbatim.frame_ideal, Verbatim.frame_ideal_pre, preserves, algebraic, Verbatim.algebraic⟩

end Cert.Proof

end
